-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_query_inputs [hPre_finite_query_inputs : Cert.Pre_finite_query_inputs.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_query_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 = (fun _ => 1#1)
    ∧ (Cert.Pre_finite_query_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 = (fun _ => 1#1)
    ∧ (Cert.Pre_finite_query_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 = (fun _ => 1#1)
    ∧ (Cert.Pre_finite_query_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_query_inputs [hPre_finite_query_inputs : Cert.Pre_finite_query_inputs.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_query_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).1 = (fun _ => 1#1)
    ∧ (Cert.Pre_finite_query_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.1 = (fun _ => 1#1)
    ∧ (Cert.Pre_finite_query_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.1 = (fun _ => 1#1)
    ∧ (Cert.Pre_finite_query_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_key_inputs [hPre_finite_key_inputs : Cert.Pre_finite_key_inputs.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_key_inputs.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite_key_inputs.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_key_inputs [hPre_finite_key_inputs : Cert.Pre_finite_key_inputs.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_key_inputs.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite_key_inputs.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_query_inputs [hKernel9Ideal : Cert.Kernel9Ideal.Facts] [hPre_finite_query_inputs : Cert.Pre_finite_query_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_query_inputs m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_query_inputs [hReference9Ideal : Cert.Reference9Ideal.Facts] [hPre_finite_query_inputs : Cert.Pre_finite_query_inputs.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_query_inputs m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_key_inputs [hKernel10Ideal : Cert.Kernel10Ideal.Facts] [hPre_finite_key_inputs : Cert.Pre_finite_key_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_key_inputs m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_key_inputs [hReference10Ideal : Cert.Reference10Ideal.Facts] [hPre_finite_key_inputs : Cert.Pre_finite_key_inputs.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_key_inputs m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v58) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_query_inputs [hKernel9Ideal : Cert.Kernel9Ideal.Facts] [hReference9Ideal : Cert.Reference9Ideal.Facts] [hPre_finite_query_inputs : Cert.Pre_finite_query_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_query_inputs m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v32)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v32) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite_key_inputs [hKernel10Ideal : Cert.Kernel10Ideal.Facts] [hReference10Ideal : Cert.Reference10Ideal.Facts] [hPre_finite_key_inputs : Cert.Pre_finite_key_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_key_inputs m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v30_0)) (v1 : (c : Dev Cert.Kernel10Ideal.nD) → Buf (Elt Ideal) ((c.tc : Thread Cert.Kernel10Ideal.nD Cert.Kernel10Ideal.τ).loc Cert.Kernel10Ideal.main_v30_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v30_0) = v0 c
          ∧ r.2.mem ((c.tc : Thread Cert.Kernel10Ideal.nD Cert.Kernel10Ideal.τ).loc Cert.Kernel10Ideal.main_v30_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_queries_and_keys : Cert.Pre_finite_queries_and_keys.Facts) (hPre_finite_query_inputs : Cert.Pre_finite_query_inputs.Facts) (hPre_finite_key_inputs : Cert.Pre_finite_key_inputs.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_query_inputs (hKernel9Ideal := hKernel9Ideal) (hPre_finite_query_inputs := hPre_finite_query_inputs)
    ∧ quiescent_Reference9Ideal (hReference9Ideal := hReference9Ideal)
    ∧ quiescent_Reference9Ideal_pre_finite_query_inputs (hReference9Ideal := hReference9Ideal) (hPre_finite_query_inputs := hPre_finite_query_inputs)
    ∧ quiescent_Kernel10 (hKernel10 := hKernel10)
    ∧ quiescent_Kernel10Ideal (hKernel10Ideal := hKernel10Ideal)
    ∧ quiescent_Kernel10Ideal_pre_finite_key_inputs (hKernel10Ideal := hKernel10Ideal) (hPre_finite_key_inputs := hPre_finite_key_inputs)
    ∧ quiescent_Reference10Ideal (hReference10Ideal := hReference10Ideal)
    ∧ quiescent_Reference10Ideal_pre_finite_key_inputs (hReference10Ideal := hReference10Ideal) (hPre_finite_key_inputs := hPre_finite_key_inputs)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_query_inputs (hKernel9Ideal := hKernel9Ideal) (hReference9Ideal := hReference9Ideal) (hPre_finite_query_inputs := hPre_finite_query_inputs)
    ∧ preserves_Kernel10_Kernel10Ideal
    ∧ algebraic_Kernel10Ideal_Reference10Ideal_pre_finite_key_inputs (hKernel10Ideal := hKernel10Ideal) (hReference10Ideal := hReference10Ideal) (hPre_finite_key_inputs := hPre_finite_key_inputs)
    ∧ preserves_Kernel11_Kernel11Ideal
    ∧ algebraic_Kernel11Ideal_Reference11Ideal (hKernel11Ideal := hKernel11Ideal) (hReference11Ideal := hReference11Ideal)
-- ==== Pre_finite_key_inputs.lean ====
abbrev S9216x2048 : Shape := ⟨2, ![9216, 2048]⟩
abbrev S1x2048x5952 : Shape := ⟨3, ![1, 2048, 5952]⟩
abbrev S256 : Shape := ⟨1, ![256]⟩
abbrev S256x2048 : Shape := ⟨2, ![256, 2048]⟩
abbrev S2048x2x16 : Shape := ⟨3, ![2048, 2, 16]⟩
abbrev S2048x5952 : Shape := ⟨2, ![2048, 5952]⟩
abbrev S2048x64 : Shape := ⟨2, ![2048, 64]⟩
abbrev S8192x2048 : Shape := ⟨2, ![8192, 2048]⟩
abbrev S_ : Shape := ⟨0, ![]⟩

class Facts : Prop where
  shapeCasts_S1x2048x5952_S2048x5952 : S1x2048x5952.ShapeCasts S2048x5952
  slices_S2048x5952_S2048x64_0_1792 : S2048x5952.Slices ![0, 1792] S2048x64
  slices_S9216x2048_S8192x2048_0_0 : S9216x2048.Slices ![0, 0] S8192x2048
  bitsLt_bf16_f32 : FTy.bits .bf16 < FTy.bits .f32
  bcast_S_S8192x2048 : S_.BroadcastsInDim S8192x2048 (![] : Fin 0 → Fin S8192x2048.rank)
  bcast_S_S2048x64 : S_.BroadcastsInDim S2048x64 (![] : Fin 0 → Fin S2048x64.rank)

variable [Facts]

def fn {F : FTy → Type} [FloatOps F] (main_arg0 : FVec F S9216x2048 .bf16) (main_arg1 : FVec F S1x2048x5952 .f32) (main_arg2 : FVec F S256 .f32) (main_arg3 : FVec F S256x2048 .f32) (main_arg4 : FVec F S2048x2x16 .f32) (main_arg5 : FVec F S2048x2x16 .f32) : IVec S8192x2048 1 × IVec S2048x64 1 :=
  let main_v0 : FVec F S2048x5952 .f32 := shapeCast S2048x5952 main_arg1 shapeCasts_S1x2048x5952_S2048x5952
  let main_v1 : FVec F S2048x64 .f32 := (extractStridedSlice S2048x64 ![0, 1792] · slices_S2048x5952_S2048x64_0_1792) main_v0
  let main_v2 : FVec F S8192x2048 .bf16 := (extractStridedSlice S8192x2048 ![0, 0] · slices_S9216x2048_S8192x2048_0_0) main_arg0
  let main_v3 : FVec F S8192x2048 .f32 := (extf .f32 · bitsLt_bf16_f32) main_v2
  let main_v4 : FVec F S8192x2048 .f32 := Host.absf main_v3
  let main_cst : FVec F S_ .f32 := constant S_ .f32 0x7F800000#32
  let main_v5 : FVec F S8192x2048 .f32 := broadcastInDim S8192x2048 ![] bcast_S_S8192x2048 main_cst
  let main_v6 : IVec S8192x2048 1 := cmpf .olt main_v4 main_v5
  let main_v7 : FVec F S2048x64 .f32 := Host.absf main_v1
  let main_cst_0 : FVec F S_ .f32 := constant S_ .f32 0x7F800000#32
  let main_v8 : FVec F S2048x64 .f32 := broadcastInDim S2048x64 ![] bcast_S_S2048x64 main_cst_0
  let main_v9 : IVec S2048x64 1 := cmpf .olt main_v7 main_v8
  (main_v6, main_v9)
-- ==== Pre_finite_queries_and_keys.lean ====
abbrev S8192x1536 : Shape := ⟨2, ![8192, 1536]⟩
abbrev S9216x2048 : Shape := ⟨2, ![9216, 2048]⟩
abbrev S9216x64 : Shape := ⟨2, ![9216, 64]⟩
abbrev S9216x8x256 : Shape := ⟨3, ![9216, 8, 256]⟩
abbrev S9216x8x128 : Shape := ⟨3, ![9216, 8, 128]⟩
abbrev S_ : Shape := ⟨0, ![]⟩

class Facts : Prop where
  shapeCasts_S9216x2048_S9216x8x256 : S9216x2048.ShapeCasts S9216x8x256
  slices_S9216x8x256_S9216x8x128_0_0_0 : S9216x8x256.Slices ![0, 0, 0] S9216x8x128
  bitsLt_bf16_f32 : FTy.bits .bf16 < FTy.bits .f32
  bcast_S_S8192x1536 : S_.BroadcastsInDim S8192x1536 (![] : Fin 0 → Fin S8192x1536.rank)
  bcast_S_S9216x8x128 : S_.BroadcastsInDim S9216x8x128 (![] : Fin 0 → Fin S9216x8x128.rank)
  bcast_S_S9216x64 : S_.BroadcastsInDim S9216x64 (![] : Fin 0 → Fin S9216x64.rank)

variable [Facts]

def fn {F : FTy → Type} [FloatOps F] (main_arg0 : FVec F S8192x1536 .bf16) (main_arg1 : FVec F S9216x2048 .bf16) (main_arg2 : FVec F S9216x64 .bf16) : IVec S8192x1536 1 × IVec S9216x8x128 1 × IVec S9216x64 1 :=
  let main_v0 : FVec F S9216x8x256 .bf16 := shapeCast S9216x8x256 main_arg1 shapeCasts_S9216x2048_S9216x8x256
  let main_v1 : FVec F S9216x8x128 .bf16 := (extractStridedSlice S9216x8x128 ![0, 0, 0] · slices_S9216x8x256_S9216x8x128_0_0_0) main_v0
  let main_v2 : FVec F S8192x1536 .f32 := (extf .f32 · bitsLt_bf16_f32) main_arg0
  let main_v3 : FVec F S8192x1536 .f32 := Host.absf main_v2
  let main_cst : FVec F S_ .f32 := constant S_ .f32 0x7F800000#32
  let main_v4 : FVec F S8192x1536 .f32 := broadcastInDim S8192x1536 ![] bcast_S_S8192x1536 main_cst
  let main_v5 : IVec S8192x1536 1 := cmpf .olt main_v3 main_v4
  let main_v6 : FVec F S9216x8x128 .f32 := (extf .f32 · bitsLt_bf16_f32) main_v1
  let main_v7 : FVec F S9216x8x128 .f32 := Host.absf main_v6
  let main_cst_0 : FVec F S_ .f32 := constant S_ .f32 0x7F800000#32
  let main_v8 : FVec F S9216x8x128 .f32 := broadcastInDim S9216x8x128 ![] bcast_S_S9216x8x128 main_cst_0
  let main_v9 : IVec S9216x8x128 1 := cmpf .olt main_v7 main_v8
  let main_v10 : FVec F S9216x64 .f32 := (extf .f32 · bitsLt_bf16_f32) main_arg2
  let main_v11 : FVec F S9216x64 .f32 := Host.absf main_v10
  let main_cst_1 : FVec F S_ .f32 := constant S_ .f32 0x7F800000#32
  let main_v12 : FVec F S9216x64 .f32 := broadcastInDim S9216x64 ![] bcast_S_S9216x64 main_cst_1
  let main_v13 : IVec S9216x64 1 := cmpf .olt main_v11 main_v12
  (main_v5, main_v9, main_v13)
-- ==== Pre_finite_query_inputs.lean ====
abbrev S9216x2048 : Shape := ⟨2, ![9216, 2048]⟩
abbrev S1x2048x5952 : Shape := ⟨3, ![1, 2048, 5952]⟩
abbrev S512 : Shape := ⟨1, ![512]⟩
abbrev S512x1536 : Shape := ⟨2, ![512, 1536]⟩
abbrev S2048x2x16 : Shape := ⟨3, ![2048, 2, 16]⟩
abbrev S2048x5952 : Shape := ⟨2, ![2048, 5952]⟩
abbrev S2048x512 : Shape := ⟨2, ![2048, 512]⟩
abbrev S512x8x192 : Shape := ⟨3, ![512, 8, 192]⟩
abbrev S512x8x64 : Shape := ⟨3, ![512, 8, 64]⟩
abbrev S8192x2048 : Shape := ⟨2, ![8192, 2048]⟩
abbrev S_ : Shape := ⟨0, ![]⟩

class Facts : Prop where
  shapeCasts_S1x2048x5952_S2048x5952 : S1x2048x5952.ShapeCasts S2048x5952
  slices_S2048x5952_S2048x512_0_1024 : S2048x5952.Slices ![0, 1024] S2048x512
  shapeCasts_S512x1536_S512x8x192 : S512x1536.ShapeCasts S512x8x192
  slices_S512x8x192_S512x8x64_0_0_128 : S512x8x192.Slices ![0, 0, 128] S512x8x64
  slices_S9216x2048_S8192x2048_0_0 : S9216x2048.Slices ![0, 0] S8192x2048
  bitsLt_bf16_f32 : FTy.bits .bf16 < FTy.bits .f32
  bcast_S_S8192x2048 : S_.BroadcastsInDim S8192x2048 (![] : Fin 0 → Fin S8192x2048.rank)
  bcast_S_S2048x512 : S_.BroadcastsInDim S2048x512 (![] : Fin 0 → Fin S2048x512.rank)
  bcast_S_S512 : S_.BroadcastsInDim S512 (![] : Fin 0 → Fin S512.rank)
  bcast_S_S512x8x64 : S_.BroadcastsInDim S512x8x64 (![] : Fin 0 → Fin S512x8x64.rank)

variable [Facts]

def fn {F : FTy → Type} [FloatOps F] (main_arg0 : FVec F S9216x2048 .bf16) (main_arg1 : FVec F S1x2048x5952 .f32) (main_arg2 : FVec F S512 .f32) (main_arg3 : FVec F S512x1536 .f32) (main_arg4 : FVec F S2048x2x16 .f32) (main_arg5 : FVec F S2048x2x16 .f32) : IVec S8192x2048 1 × IVec S2048x512 1 × IVec S512 1 × IVec S512x8x64 1 :=
  let main_v0 : FVec F S2048x5952 .f32 := shapeCast S2048x5952 main_arg1 shapeCasts_S1x2048x5952_S2048x5952
  let main_v1 : FVec F S2048x512 .f32 := (extractStridedSlice S2048x512 ![0, 1024] · slices_S2048x5952_S2048x512_0_1024) main_v0
  let main_v2 : FVec F S512x8x192 .f32 := shapeCast S512x8x192 main_arg3 shapeCasts_S512x1536_S512x8x192
  let main_v3 : FVec F S512x8x64 .f32 := (extractStridedSlice S512x8x64 ![0, 0, 128] · slices_S512x8x192_S512x8x64_0_0_128) main_v2
  let main_v4 : FVec F S8192x2048 .bf16 := (extractStridedSlice S8192x2048 ![0, 0] · slices_S9216x2048_S8192x2048_0_0) main_arg0
  let main_v5 : FVec F S8192x2048 .f32 := (extf .f32 · bitsLt_bf16_f32) main_v4
  let main_v6 : FVec F S8192x2048 .f32 := Host.absf main_v5
  let main_cst : FVec F S_ .f32 := constant S_ .f32 0x7F800000#32
  let main_v7 : FVec F S8192x2048 .f32 := broadcastInDim S8192x2048 ![] bcast_S_S8192x2048 main_cst
  let main_v8 : IVec S8192x2048 1 := cmpf .olt main_v6 main_v7
  let main_v9 : FVec F S2048x512 .f32 := Host.absf main_v1
  let main_cst_0 : FVec F S_ .f32 := constant S_ .f32 0x7F800000#32
  let main_v10 : FVec F S2048x512 .f32 := broadcastInDim S2048x512 ![] bcast_S_S2048x512 main_cst_0
  let main_v11 : IVec S2048x512 1 := cmpf .olt main_v9 main_v10
  let main_v12 : FVec F S512 .f32 := Host.absf main_arg2
  let main_cst_1 : FVec F S_ .f32 := constant S_ .f32 0x7F800000#32
  let main_v13 : FVec F S512 .f32 := broadcastInDim S512 ![] bcast_S_S512 main_cst_1
  let main_v14 : IVec S512 1 := cmpf .olt main_v12 main_v13
  let main_v15 : FVec F S512x8x64 .f32 := Host.absf main_v3
  let main_cst_2 : FVec F S_ .f32 := constant S_ .f32 0x7F800000#32
  let main_v16 : FVec F S512x8x64 .f32 := broadcastInDim S512x8x64 ![] bcast_S_S512x8x64 main_cst_2
  let main_v17 : IVec S512x8x64 1 := cmpf .olt main_v15 main_v16
  (main_v8, main_v11, main_v14, main_v17)
-- ==== Kernel.lean ====
abbrev S8192x1536 : Shape := ⟨2, ![8192, 1536]⟩
abbrev S9216x2048 : Shape := ⟨2, ![9216, 2048]⟩
abbrev S9216x64 : Shape := ⟨2, ![9216, 64]⟩
abbrev S8192x1024 : Shape := ⟨2, ![8192, 1024]⟩
abbrev S2048x256 : Shape := ⟨2, ![2048, 256]⟩
abbrev S2048x128 : Shape := ⟨2, ![2048, 128]⟩
abbrev S2048x512 : Shape := ⟨2, ![2048, 512]⟩
abbrev S256x512 : Shape := ⟨2, ![256, 512]⟩
abbrev S2048x64 : Shape := ⟨2, ![2048, 64]⟩
abbrev S256x64 : Shape := ⟨2, ![256, 64]⟩
abbrev S2x2304x192 : Shape := ⟨3, ![2, 2304, 192]⟩
abbrev S2x2304x256 : Shape := ⟨3, ![2, 2304, 256]⟩
abbrev S1x2048x128 : Shape := ⟨3, ![1, 2048, 128]⟩
abbrev S256x128 : Shape := ⟨2, ![256, 128]⟩
abbrev S1x256x128 : Shape := ⟨3, ![1, 256, 128]⟩
abbrev S1x2048x64 : Shape := ⟨3, ![1, 2048, 64]⟩
abbrev S1x256x64 : Shape := ⟨3, ![1, 256, 64]⟩
abbrev S2304x128 : Shape := ⟨2, ![2304, 128]⟩
abbrev S1x2304x128 : Shape := ⟨3, ![1, 2304, 128]⟩
abbrev S256x192 : Shape := ⟨2, ![256, 192]⟩
abbrev S1x2304x192 : Shape := ⟨3, ![1, 2304, 192]⟩
abbrev S2304x192 : Shape := ⟨2, ![2304, 192]⟩
abbrev S256x2304 : Shape := ⟨2, ![256, 2304]⟩
abbrev S256 : Shape := ⟨1, ![256]⟩
abbrev S256x1 : Shape := ⟨2, ![256, 1]⟩
abbrev S1x2304x256 : Shape := ⟨3, ![1, 2304, 256]⟩
abbrev S2304x256 : Shape := ⟨2, ![2304, 256]⟩
abbrev S256x256 : Shape := ⟨2, ![256, 256]⟩

abbrev nBuf : Space → Nat
  | .hbm => 4
  | .vmem => 16
  | .smem => 0
  | _ => 0

abbrev bufTy : (tb : Table) → Fin (tcTables nBuf tb) → BufTy
  | .hbm, ⟨0, _⟩ => ⟨S8192x1536, .bf16⟩
  | .hbm, ⟨1, _⟩ => ⟨S9216x2048, .bf16⟩
  | .hbm, ⟨2, _⟩ => ⟨S9216x64, .bf16⟩
  | .hbm, ⟨3, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S2048x64, .bf16⟩
  | .local _ .vmem, ⟨9, _⟩ => ⟨S2048x64, .bf16⟩
  | .local _ .vmem, ⟨10, _⟩ => ⟨S256x64, .bf16⟩
  | .local _ .vmem, ⟨11, _⟩ => ⟨S256x64, .bf16⟩
  | .local _ .vmem, ⟨12, _⟩ => ⟨S2048x256, .bf16⟩
  | .local _ .vmem, ⟨13, _⟩ => ⟨S2048x256, .bf16⟩
  | .local _ .vmem, ⟨14, _⟩ => ⟨S2x2304x192, .bf16⟩
  | .local _ .vmem, ⟨15, _⟩ => ⟨S2x2304x256, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x1536 : Shape := ⟨2, ![8192, 1536]⟩
abbrev S9216x2048 : Shape := ⟨2, ![9216, 2048]⟩
abbrev S9216x64 : Shape := ⟨2, ![9216, 64]⟩
abbrev S8192x1024 : Shape := ⟨2, ![8192, 1024]⟩
abbrev S4x2048x8x128 : Shape := ⟨4, ![4, 2048, 8, 128]⟩
abbrev S8192x512 : Shape := ⟨2, ![8192, 512]⟩
abbrev S4x2048x8x64 : Shape := ⟨4, ![4, 2048, 8, 64]⟩
abbrev S4x2048x8x192 : Shape := ⟨4, ![4, 2048, 8, 192]⟩
abbrev S8192x2048 : Shape := ⟨2, ![8192, 2048]⟩
abbrev S8192x64 : Shape := ⟨2, ![8192, 64]⟩
abbrev S4x2048x8x256 : Shape := ⟨4, ![4, 2048, 8, 256]⟩
abbrev S4x2048x1x64 : Shape := ⟨4, ![4, 2048, 1, 64]⟩
abbrev S1024x2048 : Shape := ⟨2, ![1024, 2048]⟩
abbrev S1024x64 : Shape := ⟨2, ![1024, 64]⟩
abbrev S4x256x8x256 : Shape := ⟨4, ![4, 256, 8, 256]⟩
abbrev S4x256x1x64 : Shape := ⟨4, ![4, 256, 1, 64]⟩
abbrev S4x256x8x64 : Shape := ⟨4, ![4, 256, 8, 64]⟩
abbrev S4x256x8x128 : Shape := ⟨4, ![4, 256, 8, 128]⟩
abbrev S4x256x8x192 : Shape := ⟨4, ![4, 256, 8, 192]⟩
abbrev S4x2304x8x192 : Shape := ⟨4, ![4, 2304, 8, 192]⟩
abbrev S4x2304x8x128 : Shape := ⟨4, ![4, 2304, 8, 128]⟩
abbrev S4x8x2048x2304 : Shape := ⟨4, ![4, 8, 2048, 2304]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S9216x2048, .bf16⟩
  | .hbm, ⟨2, _⟩ => ⟨S9216x64, .bf16⟩
  | .hbm, ⟨3, _⟩ => ⟨S8192x1536, .f32⟩
  | .hbm, ⟨4, _⟩ => ⟨S9216x2048, .f32⟩
  | .hbm, ⟨5, _⟩ => ⟨S9216x64, .f32⟩
  | .hbm, ⟨6, _⟩ => ⟨S8192x1024, .f32⟩
  | .hbm, ⟨7, _⟩ => ⟨S4x2048x8x128, .f32⟩
  | .hbm, ⟨8, _⟩ => ⟨S8192x512, .f32⟩
  | .hbm, ⟨9, _⟩ => ⟨S4x2048x8x64, .f32⟩
  | .hbm, ⟨10, _⟩ => ⟨S4x2048x8x192, .f32⟩
  | .hbm, ⟨11, _⟩ => ⟨S8192x2048, .f32⟩
  | .hbm, ⟨12, _⟩ => ⟨S8192x64, .f32⟩
  | .hbm, ⟨13, _⟩ => ⟨S4x2048x8x256, .f32⟩
  | .hbm, ⟨14, _⟩ => ⟨S4x2048x1x64, .f32⟩
  | .hbm, ⟨15, _⟩ => ⟨S4x2048x8x64, .f32⟩
  | .hbm, ⟨16, _⟩ => ⟨S4x2048x8x128, .f32⟩
  | .hbm, ⟨17, _⟩ => ⟨S4x2048x8x192, .f32⟩
  | .hbm, ⟨18, _⟩ => ⟨S4x2048x8x128, .f32⟩
  | .hbm, ⟨19, _⟩ => ⟨S1024x2048, .f32⟩
  | .hbm, ⟨20, _⟩ => ⟨S1024x64, .f32⟩
  | .hbm, ⟨21, _⟩ => ⟨S4x256x8x256, .f32⟩
  | .hbm, ⟨22, _⟩ => ⟨S4x256x1x64, .f32⟩
  | .hbm, ⟨23, _⟩ => ⟨S4x256x8x64, .f32⟩
  | .hbm, ⟨24, _⟩ => ⟨S4x256x8x128, .f32⟩
  | .hbm, ⟨25, _⟩ => ⟨S4x256x8x192, .f32⟩
  | .hbm, ⟨26, _⟩ => ⟨S4x256x8x128, .f32⟩
  | .hbm, ⟨27, _⟩ => ⟨S4x2304x8x192, .f32⟩
  | .hbm, ⟨28, _⟩ => ⟨S4x2304x8x128, .f32⟩
  | .hbm, ⟨29, _⟩ => ⟨S4x8x2048x2304, .f32⟩
  | .hbm, ⟨30, _⟩ => ⟨S_, .f32⟩
  | .hbm, ⟨31, _⟩ => ⟨S4x8x2048, .f32⟩
  | .hbm, ⟨32, _⟩ => ⟨S_, .f32⟩
  | .hbm, ⟨33, _⟩ => ⟨S4x8x2048, .f32⟩
  | .hbm, ⟨34, _⟩ => ⟨S4x8x2048, .f32⟩
  | .hbm, ⟨35, _⟩ => ⟨S4x8x2048x1, .f32⟩
  | .hbm, ⟨36, _⟩ => ⟨S4x8x2048x2304, .f32⟩
  | .hbm, ⟨37, _⟩ => ⟨S4x8x2048x2304, .f32⟩
  | .hbm, ⟨38, _⟩ => ⟨S4x8x2048x2304, .f32⟩
  | .hbm, ⟨39, _⟩ => ⟨S_, .f32⟩
  | .hbm, ⟨40, _⟩ => ⟨S4x8x2048, .f32⟩
  | .hbm, ⟨41, _⟩ => ⟨S4x8x2048x1, .f32⟩
  | .hbm, ⟨42, _⟩ => ⟨S4x8x2048x2304, .f32⟩
  | .hbm, ⟨43, _⟩ => ⟨S4x8x2048x2304, .f32⟩
  | .hbm, ⟨44, _⟩ => ⟨S4x8x128x2048, .f32⟩
  | .hbm, ⟨45, _⟩ => ⟨S4x2048x8x128, .f32⟩
  | .hbm, ⟨46, _⟩ => ⟨S8192x1024, .f32⟩
  | .hbm, ⟨47, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Kernel2.lean ====
abbrev S8192x2048 : Shape := ⟨2, ![8192, 2048]⟩
abbrev S2048x11264 : Shape := ⟨2, ![2048, 11264]⟩
abbrev S8192x5632 : Shape := ⟨2, ![8192, 5632]⟩
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S8x6x1x2048 : Shape := ⟨4, ![8, 6, 1, 2048]⟩
abbrev S2048 : Shape := ⟨1, ![2048]⟩
abbrev S1x2048 : Shape := ⟨2, ![1, 2048]⟩
abbrev S256x2816 : Shape := ⟨2, ![256, 2816]⟩
abbrev S2816x2048 : Shape := ⟨2, ![2816, 2048]⟩
abbrev S256x2048 : Shape := ⟨2, ![256, 2048]⟩
abbrev S1x1x1x2048 : Shape := ⟨4, ![1, 1, 1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S256x2816, .bf16⟩
  | .local _ .vmem, ⟨1, _⟩ => ⟨S256x2816, .bf16⟩
  | .local _ .vmem, ⟨2, _⟩ => ⟨S2816x2048, .f32⟩
  | .local _ .vmem, ⟨3, _⟩ => ⟨S256x2048, .f32⟩
  | .local _ .vmem, ⟨4, _⟩ => ⟨S256x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S2816x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩
abbrev S8x6x1x2048 : Shape := ⟨4, ![8, 6, 1, 2048]⟩
abbrev S2048 : Shape := ⟨1, ![2048]⟩
abbrev S4x1x1x2048 : Shape := ⟨4, ![4, 1, 1, 2048]⟩
abbrev S4x1x2048 : Shape := ⟨3, ![4, 1, 2048]⟩
abbrev S8192x2816 : Shape := ⟨2, ![8192, 2816]⟩
abbrev S2816x2048 : Shape := ⟨2, ![2816, 2048]⟩
abbrev S4x2048x2048 : Shape := ⟨3, ![4, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S4x1x1x2048, .f32⟩
  | .hbm, ⟨6, _⟩ => ⟨S4x1x2048, .f32⟩
  | .hbm, ⟨7, _⟩ => ⟨S8192x2816, .bf16⟩
  | .hbm, ⟨8, _⟩ => ⟨S8192x2816, .f32⟩
  | .hbm, ⟨9, _⟩ => ⟨S2816x2048, .f32⟩
  | .hbm, ⟨10, _⟩ => ⟨S8192x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S9216x2048 : Shape := ⟨2, ![9216, 2048]⟩
abbrev S1x2048x5952 : Shape := ⟨3, ![1, 2048, 5952]⟩
abbrev S2048x5952 : Shape := ⟨2, ![2048, 5952]⟩
abbrev S5952x2048 : Shape := ⟨2, ![5952, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S2048x5952, .f32⟩
  | .hbm, ⟨3, _⟩ => ⟨S5952x2048, .f32⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c1856_i32 : BitVec 32 := 1856#32
  let arg0 : BitVec 32 := BitVec.ofNat 32 (i 0).val
  let c1024_i32 : BitVec 32 := 1024#32
  let v0 : BitVec 32 := Scalar.muli arg0 c1024_i32
  let v1 : BitVec 32 := Scalar.addi c1856_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1856_i32 : BitVec 32 := 1856#32
  let v1 : BitVec 32 := Scalar.addi c1856_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S9216x2048 : Shape := ⟨2, ![9216, 2048]⟩
abbrev S1x2048x5952 : Shape := ⟨3, ![1, 2048, 5952]⟩
abbrev S8192x2048 : Shape := ⟨2, ![8192, 2048]⟩
abbrev S2048x5952 : Shape := ⟨2, ![2048, 5952]⟩
abbrev S2048x4096 : Shape := ⟨2, ![2048, 4096]⟩
abbrev S8192x4096 : Shape := ⟨2, ![8192, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S8192x2048, .bf16⟩
  | .hbm, ⟨3, _⟩ => ⟨S8192x2048, .f32⟩
  | .hbm, ⟨4, _⟩ => ⟨S2048x5952, .f32⟩
  | .hbm, ⟨5, _⟩ => ⟨S2048x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S1024x4096 : Shape := ⟨2, ![1024, 4096]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩
abbrev S256x1024 : Shape := ⟨2, ![256, 1024]⟩

abbrev nBuf : Space → Nat
  | .hbm => 6
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x4096, .bf16⟩
  | .hbm, ⟨3, _⟩ => ⟨S1024x4096, .f32⟩
  | .hbm, ⟨4, _⟩ => ⟨S1024x2048, .f32⟩
  | .hbm, ⟨5, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x1024 : Shape := ⟨2, ![8192, 1024]⟩
abbrev S8192x4096 : Shape := ⟨2, ![8192, 4096]⟩
abbrev S1024x4096 : Shape := ⟨2, ![1024, 4096]⟩
abbrev S1024x2048 : Shape := ⟨2, ![1024, 2048]⟩
abbrev S8192x2048 : Shape := ⟨2, ![8192, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x4096, .bf16⟩
  | .hbm, ⟨3, _⟩ => ⟨S1024x4096, .f32⟩
  | .hbm, ⟨4, _⟩ => ⟨S1024x2048, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x2048, .f32⟩
  | .hbm, ⟨19, _⟩ => ⟨S8192x4096, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S8x6x1x2048 : Shape := ⟨4, ![8, 6, 1, 2048]⟩
abbrev S2048 : Shape := ⟨1, ![2048]⟩
abbrev S1x2048 : Shape := ⟨2, ![1, 2048]⟩
abbrev S512x2048 : Shape := ⟨2, ![512, 2048]⟩
abbrev S1x1x1x2048 : Shape := ⟨4, ![1, 1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let c0_i32_6 : BitVec 32 := 0#32
  let c0_i32_7 : BitVec 32 := 0#32
  ![v16.toNat, c4_i32_4.toNat, c0_i32_5.toNat, c0_i32_6.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x2048 : Shape := ⟨2, ![8192, 2048]⟩
abbrev S2048x2048 : Shape := ⟨2, ![2048, 2048]⟩
abbrev S8x6x1x2048 : Shape := ⟨4, ![8, 6, 1, 2048]⟩
abbrev S2048 : Shape := ⟨1, ![2048]⟩
abbrev S4x1x1x2048 : Shape := ⟨4, ![4, 1, 1, 2048]⟩
abbrev S4x1x2048 : Shape := ⟨3, ![4, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S4x1x1x2048, .f32⟩
  | .hbm, ⟨6, _⟩ => ⟨S4x1x2048, .f32⟩
  | .hbm, ⟨7, _⟩ => ⟨S4x1x1x2048, .f32⟩
  | .hbm, ⟨8, _⟩ => ⟨S4x1x2048, .f32⟩
  | .hbm, ⟨9, _⟩ => ⟨S4x1x1x2048, .f32⟩
  | .hbm, ⟨10, _⟩ => ⟨S4x1x2048, .f32⟩
  | .hbm, ⟨11, _⟩ => ⟨S4x2048x2048, .f32⟩
  | .hbm, ⟨12, _⟩ => ⟨S8192x2048, .f32⟩
  | .hbm, ⟨13, _⟩ => ⟨S8192x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel7.lean ====
abbrev S8192x2048 : Shape := ⟨2, ![8192, 2048]⟩
abbrev S1024x2048 : Shape := ⟨2, ![1024, 2048]⟩
abbrev S2048 : Shape := ⟨1, ![2048]⟩
abbrev S8x6x1x2048 : Shape := ⟨4, ![8, 6, 1, 2048]⟩
abbrev S1x2048x5952 : Shape := ⟨3, ![1, 2048, 5952]⟩
abbrev S2048x5952 : Shape := ⟨2, ![2048, 5952]⟩
abbrev S5952x2048 : Shape := ⟨2, ![5952, 2048]⟩
abbrev S1x2048 : Shape := ⟨2, ![1, 2048]⟩
abbrev S9216x2048 : Shape := ⟨2, ![9216, 2048]⟩
abbrev S9216x1024 : Shape := ⟨2, ![9216, 1024]⟩
abbrev S512x2048 : Shape := ⟨2, ![512, 2048]⟩
abbrev S1x1x1x2048 : Shape := ⟨4, ![1, 1, 1, 2048]⟩
abbrev S512x1024 : Shape := ⟨2, ![512, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S2048, .f32⟩
  | .hbm, ⟨3, _⟩ => ⟨S8x6x1x2048, .f32⟩
  | .hbm, ⟨4, _⟩ => ⟨S1x2048x5952, .f32⟩
  | .hbm, ⟨5, _⟩ => ⟨S2048x5952, .f32⟩
  | .hbm, ⟨6, _⟩ => ⟨S5952x2048, .f32⟩
  | .hbm, ⟨7, _⟩ => ⟨S1x2048, .f32⟩
  | .hbm, ⟨8, _⟩ => ⟨S9216x2048, .bf16⟩
  | .hbm, ⟨9, _⟩ => ⟨S9216x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1024x2048, .f32⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c1_i32_5 : BitVec 32 := 1#32
  let c0_i32_6 : BitVec 32 := 0#32
  let c0_i32_7 : BitVec 32 := 0#32
  let c0_i32_8 : BitVec 32 := 0#32
  ![v18.toNat, c1_i32_5.toNat, c0_i32_6.toNat, c0_i32_7.toNat]

def cc0_transform_4 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  let c0_i32_7 : BitVec 32 := 0#32
  let c0_i32_8 : BitVec 32 := 0#32
  ![v18.toNat, c0_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x2048 : Shape := ⟨2, ![8192, 2048]⟩
abbrev S1024x2048 : Shape := ⟨2, ![1024, 2048]⟩
abbrev S2048 : Shape := ⟨1, ![2048]⟩
abbrev S8x6x1x2048 : Shape := ⟨4, ![8, 6, 1, 2048]⟩
abbrev S1x2048x5952 : Shape := ⟨3, ![1, 2048, 5952]⟩
abbrev S8x1x1x2048 : Shape := ⟨4, ![8, 1, 1, 2048]⟩
abbrev S8x1x2048 : Shape := ⟨3, ![8, 1, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x256x2048 : Shape := ⟨3, ![4, 256, 2048]⟩
abbrev S4x256 : Shape := ⟨2, ![4, 256]⟩
abbrev S4x256x1 : Shape := ⟨3, ![4, 256, 1]⟩
abbrev S1x2048 : Shape := ⟨2, ![1, 2048]⟩
abbrev S9216x2048 : Shape := ⟨2, ![9216, 2048]⟩
abbrev S2048x5952 : Shape := ⟨2, ![2048, 5952]⟩
abbrev S2048x1024 : Shape := ⟨2, ![2048, 1024]⟩
abbrev S9216x1024 : Shape := ⟨2, ![9216, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S2048, .f32⟩
  | .hbm, ⟨3, _⟩ => ⟨S8x6x1x2048, .f32⟩
  | .hbm, ⟨4, _⟩ => ⟨S1x2048x5952, .f32⟩
  | .hbm, ⟨5, _⟩ => ⟨S8x1x1x2048, .f32⟩
  | .hbm, ⟨6, _⟩ => ⟨S8x1x2048, .f32⟩
  | .hbm, ⟨7, _⟩ => ⟨S8x1x1x2048, .f32⟩
  | .hbm, ⟨8, _⟩ => ⟨S8x1x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x2048x2048, .f32⟩
  | .hbm, ⟨31, _⟩ => ⟨S4x2048x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x256x2048, .f32⟩
  | .hbm, ⟨36, _⟩ => ⟨S4x256x2048, .f32⟩
  | .hbm, ⟨37, _⟩ => ⟨S_, .f32⟩
  | .hbm, ⟨38, _⟩ => ⟨S4x256, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S4x256x1, .f32⟩
  | .hbm, ⟨47, _⟩ => ⟨S4x256x2048, .f32⟩
  | .hbm, ⟨48, _⟩ => ⟨S4x256x2048, .f32⟩
  | .hbm, ⟨49, _⟩ => ⟨S1x1x2048, .f32⟩
  | .hbm, ⟨50, _⟩ => ⟨S4x256x2048, .f32⟩
  | .hbm, ⟨51, _⟩ => ⟨S4x256x2048, .f32⟩
  | .hbm, ⟨52, _⟩ => ⟨S1x1x2048, .f32⟩
  | .hbm, ⟨53, _⟩ => ⟨S1x2048, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S1x1x2048, .f32⟩
  | .hbm, ⟨58, _⟩ => ⟨S4x256x2048, .f32⟩
  | .hbm, ⟨59, _⟩ => ⟨S4x256x2048, .f32⟩
  | .hbm, ⟨60, _⟩ => ⟨S1x1x2048, .f32⟩
  | .hbm, ⟨61, _⟩ => ⟨S1x2048, .f32⟩
  | .hbm, ⟨62, _⟩ => ⟨S1x1x2048, .f32⟩
  | .hbm, ⟨63, _⟩ => ⟨S4x256x2048, .f32⟩
  | .hbm, ⟨64, _⟩ => ⟨S4x256x2048, .f32⟩
  | .hbm, ⟨65, _⟩ => ⟨S8192x2048, .f32⟩
  | .hbm, ⟨66, _⟩ => ⟨S1024x2048, .f32⟩
  | .hbm, ⟨67, _⟩ => ⟨S9216x2048, .f32⟩
  | .hbm, ⟨68, _⟩ => ⟨S9216x2048, .bf16⟩
  | .hbm, ⟨69, _⟩ => ⟨S2048x5952, .f32⟩
  | .hbm, ⟨70, _⟩ => ⟨S2048x1024, .f32⟩
  | .hbm, ⟨71, _⟩ => ⟨S9216x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S8x6x1x2048 : Shape := ⟨4, ![8, 6, 1, 2048]⟩
abbrev S2048 : Shape := ⟨1, ![2048]⟩
abbrev S1x2048 : Shape := ⟨2, ![1, 2048]⟩
abbrev S256x2816 : Shape := ⟨2, ![256, 2816]⟩
abbrev S2816x2048 : Shape := ⟨2, ![2816, 2048]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S256x2816, .bf16⟩
  | .local _ .vmem, ⟨1, _⟩ => ⟨S256x2816, .bf16⟩
  | .local _ .vmem, ⟨2, _⟩ => ⟨S2816x2048, .f32⟩
  | .local _ .vmem, ⟨3, _⟩ => ⟨S256x2048, .f32⟩
  | .local _ .vmem, ⟨4, _⟩ => ⟨S256x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S2816x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩
abbrev S8x6x1x2048 : Shape := ⟨4, ![8, 6, 1, 2048]⟩
abbrev S2048 : Shape := ⟨1, ![2048]⟩
abbrev S4x1x1x2048 : Shape := ⟨4, ![4, 1, 1, 2048]⟩
abbrev S4x1x2048 : Shape := ⟨3, ![4, 1, 2048]⟩
abbrev S8192x2816 : Shape := ⟨2, ![8192, 2816]⟩
abbrev S2816x2048 : Shape := ⟨2, ![2816, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x6x1x2048, .f32⟩
  | .hbm, ⟨4, _⟩ => ⟨S2048, .f32⟩
  | .hbm, ⟨5, _⟩ => ⟨S4x1x1x2048, .f32⟩
  | .hbm, ⟨6, _⟩ => ⟨S4x1x2048, .f32⟩
  | .hbm, ⟨7, _⟩ => ⟨S8192x2816, .bf16⟩
  | .hbm, ⟨8, _⟩ => ⟨S8192x2816, .f32⟩
  | .hbm, ⟨9, _⟩ => ⟨S2816x2048, .f32⟩
  | .hbm, ⟨10, _⟩ => ⟨S8192x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel9.lean ====
abbrev S9216x2048 : Shape := ⟨2, ![9216, 2048]⟩
abbrev S1x2048x5952 : Shape := ⟨3, ![1, 2048, 5952]⟩
abbrev S512 : Shape := ⟨1, ![512]⟩
abbrev S512x1536 : Shape := ⟨2, ![512, 1536]⟩
abbrev S2048x2x16 : Shape := ⟨3, ![2048, 2, 16]⟩
abbrev S2048x5952 : Shape := ⟨2, ![2048, 5952]⟩
abbrev S5952x2048 : Shape := ⟨2, ![5952, 2048]⟩
abbrev S512x8x192 : Shape := ⟨3, ![512, 8, 192]⟩
abbrev S512x8x64 : Shape := ⟨3, ![512, 8, 64]⟩
abbrev S512x512 : Shape := ⟨2, ![512, 512]⟩
abbrev S512x8x128 : Shape := ⟨3, ![512, 8, 128]⟩
abbrev S512x1024 : Shape := ⟨2, ![512, 1024]⟩
abbrev S512x8x2x2x16 : Shape := ⟨5, ![512, 8, 2, 2, 16]⟩
abbrev S512x8x2x1x16 : Shape := ⟨5, ![512, 8, 2, 1, 16]⟩
abbrev S512x8x2x16 : Shape := ⟨4, ![512, 8, 2, 16]⟩
abbrev S512x2048 : Shape := ⟨2, ![512, 2048]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x512 : Shape := ⟨2, ![1, 512]⟩
abbrev S8192x1536 : Shape := ⟨2, ![8192, 1536]⟩
abbrev S1024x2048 : Shape := ⟨2, ![1024, 2048]⟩
abbrev S1024x128 : Shape := ⟨2, ![1024, 128]⟩
abbrev S1024x1536 : Shape := ⟨2, ![1024, 1536]⟩
abbrev S1024x512 : Shape := ⟨2, ![1024, 512]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 39
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S512, .f32⟩
  | .hbm, ⟨3, _⟩ => ⟨S512x1536, .f32⟩
  | .hbm, ⟨4, _⟩ => ⟨S2048x2x16, .f32⟩
  | .hbm, ⟨5, _⟩ => ⟨S2048x2x16, .f32⟩
  | .hbm, ⟨6, _⟩ => ⟨S2048x5952, .f32⟩
  | .hbm, ⟨7, _⟩ => ⟨S5952x2048, .f32⟩
  | .hbm, ⟨8, _⟩ => ⟨S512x8x192, .f32⟩
  | .hbm, ⟨9, _⟩ => ⟨S512x8x64, .f32⟩
  | .hbm, ⟨10, _⟩ => ⟨S512x512, .f32⟩
  | .hbm, ⟨11, _⟩ => ⟨S512x8x128, .f32⟩
  | .hbm, ⟨12, _⟩ => ⟨S512x1024, .f32⟩
  | .hbm, ⟨13, _⟩ => ⟨S512x8x2x2x16, .f32⟩
  | .hbm, ⟨14, _⟩ => ⟨S512x8x2x1x16, .f32⟩
  | .hbm, ⟨15, _⟩ => ⟨S512x8x2x16, .f32⟩
  | .hbm, ⟨16, _⟩ => ⟨S512x8x2x16, .f32⟩
  | .hbm, ⟨17, _⟩ => ⟨S512x8x2x1x16, .f32⟩
  | .hbm, ⟨18, _⟩ => ⟨S512x8x2x16, .f32⟩
  | .hbm, ⟨19, _⟩ => ⟨S512x8x2x1x16, .f32⟩
  | .hbm, ⟨20, _⟩ => ⟨S512x8x2x1x16, .f32⟩
  | .hbm, ⟨21, _⟩ => ⟨S512x8x2x2x16, .f32⟩
  | .hbm, ⟨22, _⟩ => ⟨S512x512, .f32⟩
  | .hbm, ⟨23, _⟩ => ⟨S512x2048, .f32⟩
  | .hbm, ⟨24, _⟩ => ⟨S512x2048, .bf16⟩
  | .hbm, ⟨25, _⟩ => ⟨S2048x2x1x16, .f32⟩
  | .hbm, ⟨26, _⟩ => ⟨S2048x2x2x16, .f32⟩
  | .hbm, ⟨27, _⟩ => ⟨S2048x64, .f32⟩
  | .hbm, ⟨28, _⟩ => ⟨S2048x2x1x16, .f32⟩
  | .hbm, ⟨29, _⟩ => ⟨S2048x2x2x16, .f32⟩
  | .hbm, ⟨30, _⟩ => ⟨S2048x64, .f32⟩
  | .hbm, ⟨31, _⟩ => ⟨S1x2048x1x64, .f32⟩
  | .hbm, ⟨32, _⟩ => ⟨S1x2048x2x64, .f32⟩
  | .hbm, ⟨33, _⟩ => ⟨S2048x128, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S1x512, .f32⟩
  | .hbm, ⟨38, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S1x512, .f32⟩
  | .local _ .vmem, ⟨4, _⟩ => ⟨S512x2048, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1536, .bf16⟩
  | .local _ .vmem, ⟨10, _⟩ => ⟨S1024x1536, .bf16⟩
  | .local _ .vmem, ⟨11, _⟩ => ⟨S512x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c1024_i32 : BitVec 32 := 1024#32
  let arg0 : BitVec 32 := BitVec.ofNat 32 (i 0).val
  let c512_i32 : BitVec 32 := 512#32
  let v0 : BitVec 32 := Scalar.muli arg0 c512_i32
  let v1 : BitVec 32 := Scalar.addi c1024_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.addi c1024_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference9Ideal.lean ====
abbrev S9216x2048 : Shape := ⟨2, ![9216, 2048]⟩
abbrev S1x2048x5952 : Shape := ⟨3, ![1, 2048, 5952]⟩
abbrev S512 : Shape := ⟨1, ![512]⟩
abbrev S512x1536 : Shape := ⟨2, ![512, 1536]⟩
abbrev S2048x2x16 : Shape := ⟨3, ![2048, 2, 16]⟩
abbrev S8192x2048 : Shape := ⟨2, ![8192, 2048]⟩
abbrev S2048x5952 : Shape := ⟨2, ![2048, 5952]⟩
abbrev S2048x512 : Shape := ⟨2, ![2048, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x1536 : Shape := ⟨2, ![8192, 1536]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x8x2x2x16 : Shape := ⟨6, ![4, 2048, 8, 2, 2, 16]⟩
abbrev S4x2048x8x2x1x16 : Shape := ⟨6, ![4, 2048, 8, 2, 1, 16]⟩
abbrev S4x2048x8x2x16 : Shape := ⟨5, ![4, 2048, 8, 2, 16]⟩
abbrev S1x2048x1x2x16 : Shape := ⟨5, ![1, 2048, 1, 2, 16]⟩
abbrev S8192x1024 : Shape := ⟨2, ![8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S512, .f32⟩
  | .hbm, ⟨3, _⟩ => ⟨S512x1536, .f32⟩
  | .hbm, ⟨4, _⟩ => ⟨S2048x2x16, .f32⟩
  | .hbm, ⟨5, _⟩ => ⟨S2048x2x16, .f32⟩
  | .hbm, ⟨6, _⟩ => ⟨S8192x2048, .bf16⟩
  | .hbm, ⟨7, _⟩ => ⟨S8192x2048, .f32⟩
  | .hbm, ⟨8, _⟩ => ⟨S2048x5952, .f32⟩
  | .hbm, ⟨9, _⟩ => ⟨S2048x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x1536, .f32⟩
  | .hbm, ⟨28, _⟩ => ⟨S4x2048x8x192, .f32⟩
  | .hbm, ⟨29, _⟩ => ⟨S4x2048x8x128, .f32⟩
  | .hbm, ⟨30, _⟩ => ⟨S4x2048x8x64, .f32⟩
  | .hbm, ⟨31, _⟩ => ⟨S4x2048x8x2x2x16, .f32⟩
  | .hbm, ⟨32, _⟩ => ⟨S4x2048x8x2x1x16, .f32⟩
  | .hbm, ⟨33, _⟩ => ⟨S4x2048x8x2x16, .f32⟩
  | .hbm, ⟨34, _⟩ => ⟨S4x2048x8x2x1x16, .f32⟩
  | .hbm, ⟨35, _⟩ => ⟨S4x2048x8x2x16, .f32⟩
  | .hbm, ⟨36, _⟩ => ⟨S1x2048x1x2x16, .f32⟩
  | .hbm, ⟨37, _⟩ => ⟨S1x2048x1x2x16, .f32⟩
  | .hbm, ⟨38, _⟩ => ⟨S4x2048x8x2x16, .f32⟩
  | .hbm, ⟨39, _⟩ => ⟨S4x2048x8x2x16, .f32⟩
  | .hbm, ⟨40, _⟩ => ⟨S4x2048x8x2x16, .f32⟩
  | .hbm, ⟨41, _⟩ => ⟨S4x2048x8x2x16, .f32⟩
  | .hbm, ⟨42, _⟩ => ⟨S4x2048x8x2x16, .f32⟩
  | .hbm, ⟨43, _⟩ => ⟨S4x2048x8x2x16, .f32⟩
  | .hbm, ⟨44, _⟩ => ⟨S4x2048x8x2x16, .f32⟩
  | .hbm, ⟨45, _⟩ => ⟨S4x2048x8x2x16, .f32⟩
  | .hbm, ⟨46, _⟩ => ⟨S4x2048x8x2x16, .f32⟩
  | .hbm, ⟨47, _⟩ => ⟨S4x2048x8x2x16, .f32⟩
  | .hbm, ⟨48, _⟩ => ⟨S4x2048x8x2x1x16, .f32⟩
  | .hbm, ⟨49, _⟩ => ⟨S4x2048x8x2x1x16, .f32⟩
  | .hbm, ⟨50, _⟩ => ⟨S4x2048x8x2x2x16, .f32⟩
  | .hbm, ⟨51, _⟩ => ⟨S4x2048x8x64, .f32⟩
  | .hbm, ⟨52, _⟩ => ⟨S8192x1024, .f32⟩
  | .hbm, ⟨53, _⟩ => ⟨S8192x512, .f32⟩
  | .hbm, ⟨54, _⟩ => ⟨S8192x1536, .f32⟩
  | .hbm, ⟨55, _⟩ => ⟨S_, .f32⟩
  | .hbm, ⟨56, _⟩ => ⟨S8192x1536, .f32⟩
  | .hbm, ⟨57, _⟩ => ⟨S8192x1536, .f32⟩
  | .hbm, ⟨58, _⟩ => ⟨S8192x1536, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel10.lean ====
abbrev S9216x2048 : Shape := ⟨2, ![9216, 2048]⟩
abbrev S1x2048x5952 : Shape := ⟨3, ![1, 2048, 5952]⟩
abbrev S256 : Shape := ⟨1, ![256]⟩
abbrev S256x2048 : Shape := ⟨2, ![256, 2048]⟩
abbrev S2048x2x16 : Shape := ⟨3, ![2048, 2, 16]⟩
abbrev S2048x5952 : Shape := ⟨2, ![2048, 5952]⟩
abbrev S5952x2048 : Shape := ⟨2, ![5952, 2048]⟩
abbrev S320x2048 : Shape := ⟨2, ![320, 2048]⟩
abbrev S64x2048 : Shape := ⟨2, ![64, 2048]⟩
abbrev S2048x64 : Shape := ⟨2, ![2048, 64]⟩
abbrev S2048x1x2x2x16 : Shape := ⟨5, ![2048, 1, 2, 2, 16]⟩
abbrev S2048x1x2x1x16 : Shape := ⟨5, ![2048, 1, 2, 1, 16]⟩
abbrev S2048x1x2x16 : Shape := ⟨4, ![2048, 1, 2, 16]⟩
abbrev S384x2048 : Shape := ⟨2, ![384, 2048]⟩
abbrev S2048x2x1x16 : Shape := ⟨4, ![2048, 2, 1, 16]⟩
abbrev S2048x2x2x16 : Shape := ⟨4, ![2048, 2, 2, 16]⟩
abbrev S_ : Shape := ⟨0, ![]⟩
abbrev S1024x64 : Shape := ⟨2, ![1024, 64]⟩
abbrev S1024x128 : Shape := ⟨2, ![1024, 128]⟩
abbrev S2048x128 : Shape := ⟨2, ![2048, 128]⟩
abbrev S3072x128 : Shape := ⟨2, ![3072, 128]⟩
abbrev S1x256 : Shape := ⟨2, ![1, 256]⟩
abbrev S9216x64 : Shape := ⟨2, ![9216, 64]⟩
abbrev S1024x2048 : Shape := ⟨2, ![1024, 2048]⟩
abbrev S1024x384 : Shape := ⟨2, ![1024, 384]⟩
abbrev S1024x256 : Shape := ⟨2, ![1024, 256]⟩
abbrev S1024 : Shape := ⟨1, ![1024]⟩
abbrev S1024x1 : Shape := ⟨2, ![1024, 1]⟩

abbrev nBuf : Space → Nat
  | .hbm => 40
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S256, .f32⟩
  | .hbm, ⟨3, _⟩ => ⟨S256x2048, .f32⟩
  | .hbm, ⟨4, _⟩ => ⟨S2048x2x16, .f32⟩
  | .hbm, ⟨5, _⟩ => ⟨S2048x2x16, .f32⟩
  | .hbm, ⟨6, _⟩ => ⟨S2048x5952, .f32⟩
  | .hbm, ⟨7, _⟩ => ⟨S5952x2048, .f32⟩
  | .hbm, ⟨8, _⟩ => ⟨S320x2048, .f32⟩
  | .hbm, ⟨9, _⟩ => ⟨S64x2048, .f32⟩
  | .hbm, ⟨10, _⟩ => ⟨S2048x64, .f32⟩
  | .hbm, ⟨11, _⟩ => ⟨S2048x1x2x2x16, .f32⟩
  | .hbm, ⟨12, _⟩ => ⟨S2048x1x2x1x16, .f32⟩
  | .hbm, ⟨13, _⟩ => ⟨S2048x1x2x16, .f32⟩
  | .hbm, ⟨14, _⟩ => ⟨S2048x1x2x16, .f32⟩
  | .hbm, ⟨15, _⟩ => ⟨S2048x1x2x1x16, .f32⟩
  | .hbm, ⟨16, _⟩ => ⟨S2048x1x2x16, .f32⟩
  | .hbm, ⟨17, _⟩ => ⟨S2048x1x2x1x16, .f32⟩
  | .hbm, ⟨18, _⟩ => ⟨S2048x1x2x1x16, .f32⟩
  | .hbm, ⟨19, _⟩ => ⟨S2048x1x2x2x16, .f32⟩
  | .hbm, ⟨20, _⟩ => ⟨S2048x64, .f32⟩
  | .hbm, ⟨21, _⟩ => ⟨S64x2048, .f32⟩
  | .hbm, ⟨22, _⟩ => ⟨S384x2048, .f32⟩
  | .hbm, ⟨23, _⟩ => ⟨S256x2048, .bf16⟩
  | .hbm, ⟨24, _⟩ => ⟨S2048x2x1x16, .f32⟩
  | .hbm, ⟨25, _⟩ => ⟨S2048x2x2x16, .f32⟩
  | .hbm, ⟨26, _⟩ => ⟨S2048x64, .f32⟩
  | .hbm, ⟨27, _⟩ => ⟨S2048x2x1x16, .f32⟩
  | .hbm, ⟨28, _⟩ => ⟨S2048x2x2x16, .f32⟩
  | .hbm, ⟨29, _⟩ => ⟨S2048x64, .f32⟩
  | .hbm, ⟨30, _⟩ => ⟨S_, .f32⟩
  | .hbm, ⟨31, _⟩ => ⟨S1024x64, .f32⟩
  | .hbm, ⟨32, _⟩ => ⟨S_, .f32⟩
  | .hbm, ⟨33, _⟩ => ⟨S1024x64, .f32⟩
  | .hbm, ⟨34, _⟩ => ⟨S1024x128, .f32⟩
  | .hbm, ⟨35, _⟩ => ⟨S2048x128, .f32⟩
  | .hbm, ⟨36, _⟩ => ⟨S3072x128, .f32⟩
  | .hbm, ⟨37, _⟩ => ⟨S1x256, .f32⟩
  | .hbm, ⟨38, _⟩ => ⟨S9216x2048, .bf16⟩
  | .hbm, ⟨39, _⟩ => ⟨S9216x64, .bf16⟩
  | .local _ .vmem, ⟨0, _⟩ => ⟨S1024x2048, .bf16⟩
  | .local _ .vmem, ⟨1, _⟩ => ⟨S1024x2048, .bf16⟩
  | .local _ .vmem, ⟨2, _⟩ => ⟨S384x2048, .f32⟩
  | .local _ .vmem, ⟨3, _⟩ => ⟨S1x256, .f32⟩
  | .local _ .vmem, ⟨4, _⟩ => ⟨S256x2048, .bf16⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | .local _ .vmem, ⟨8, _⟩ => ⟨S1024x2048, .bf16⟩
  | .local _ .vmem, ⟨9, _⟩ => ⟨S1024x64, .bf16⟩
  | .local _ .vmem, ⟨10, _⟩ => ⟨S1024x64, .bf16⟩
  | .local _ .vmem, ⟨11, _⟩ => ⟨S384x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 9], ![false, false]⟩

def k0_mult1 (i : grid0.Coords) : BitVec 32 :=
  let c0_i32 : BitVec 32 := 0#32
  let arg0 : BitVec 32 := BitVec.ofNat 32 (i 0).val
  let c384_i32 : BitVec 32 := 384#32
  let v0 : BitVec 32 := Scalar.muli arg0 c384_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c384_i32 : BitVec 32 := 384#32
  let v0 : BitVec 32 := Scalar.muli arg0 c384_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg1 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.select v0 v10 c2_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference10Ideal.lean ====
abbrev S9216x2048 : Shape := ⟨2, ![9216, 2048]⟩
abbrev S1x2048x5952 : Shape := ⟨3, ![1, 2048, 5952]⟩
abbrev S256 : Shape := ⟨1, ![256]⟩
abbrev S256x2048 : Shape := ⟨2, ![256, 2048]⟩
abbrev S2048x2x16 : Shape := ⟨3, ![2048, 2, 16]⟩
abbrev S2048x5952 : Shape := ⟨2, ![2048, 5952]⟩
abbrev S2048x320 : Shape := ⟨2, ![2048, 320]⟩
abbrev S9216x320 : Shape := ⟨2, ![9216, 320]⟩
abbrev S9216x256 : Shape := ⟨2, ![9216, 256]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S1x256 : Shape := ⟨2, ![1, 256]⟩
abbrev S8192x64 : Shape := ⟨2, ![8192, 64]⟩
abbrev S4x2048x1x64 : Shape := ⟨4, ![4, 2048, 1, 64]⟩
abbrev S4x2048x1x2x2x16 : Shape := ⟨6, ![4, 2048, 1, 2, 2, 16]⟩
abbrev S4x2048x1x2x1x16 : Shape := ⟨6, ![4, 2048, 1, 2, 1, 16]⟩
abbrev S4x2048x1x2x16 : Shape := ⟨5, ![4, 2048, 1, 2, 16]⟩
abbrev S1x2048x1x2x16 : Shape := ⟨5, ![1, 2048, 1, 2, 16]⟩
abbrev S1024x64 : Shape := ⟨2, ![1024, 64]⟩

abbrev nBuf : Space → Nat
  | .hbm => 57
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x5952, .f32⟩
  | .hbm, ⟨2, _⟩ => ⟨S256, .f32⟩
  | .hbm, ⟨3, _⟩ => ⟨S256x2048, .f32⟩
  | .hbm, ⟨4, _⟩ => ⟨S2048x2x16, .f32⟩
  | .hbm, ⟨5, _⟩ => ⟨S2048x2x16, .f32⟩
  | .hbm, ⟨6, _⟩ => ⟨S9216x2048, .f32⟩
  | .hbm, ⟨7, _⟩ => ⟨S2048x5952, .f32⟩
  | .hbm, ⟨8, _⟩ => ⟨S2048x320, .f32⟩
  | .hbm, ⟨9, _⟩ => ⟨S9216x320, .f32⟩
  | .hbm, ⟨10, _⟩ => ⟨S9216x256, .f32⟩
  | .hbm, ⟨11, _⟩ => ⟨S9216x64, .f32⟩
  | .hbm, ⟨12, _⟩ => ⟨S9216x256, .f32⟩
  | .hbm, ⟨13, _⟩ => ⟨S_, .f32⟩
  | .hbm, ⟨14, _⟩ => ⟨S9216, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x1, .f32⟩
  | .hbm, ⟨23, _⟩ => ⟨S9216x256, .f32⟩
  | .hbm, ⟨24, _⟩ => ⟨S9216x256, .f32⟩
  | .hbm, ⟨25, _⟩ => ⟨S1x256, .f32⟩
  | .hbm, ⟨26, _⟩ => ⟨S9216x256, .f32⟩
  | .hbm, ⟨27, _⟩ => ⟨S9216x256, .f32⟩
  | .hbm, ⟨28, _⟩ => ⟨S9216x2048, .f32⟩
  | .hbm, ⟨29, _⟩ => ⟨S8192x64, .f32⟩
  | .hbm, ⟨30, _⟩ => ⟨S4x2048x1x64, .f32⟩
  | .hbm, ⟨31, _⟩ => ⟨S4x2048x1x2x2x16, .f32⟩
  | .hbm, ⟨32, _⟩ => ⟨S4x2048x1x2x1x16, .f32⟩
  | .hbm, ⟨33, _⟩ => ⟨S4x2048x1x2x16, .f32⟩
  | .hbm, ⟨34, _⟩ => ⟨S4x2048x1x2x1x16, .f32⟩
  | .hbm, ⟨35, _⟩ => ⟨S4x2048x1x2x16, .f32⟩
  | .hbm, ⟨36, _⟩ => ⟨S1x2048x1x2x16, .f32⟩
  | .hbm, ⟨37, _⟩ => ⟨S1x2048x1x2x16, .f32⟩
  | .hbm, ⟨38, _⟩ => ⟨S4x2048x1x2x16, .f32⟩
  | .hbm, ⟨39, _⟩ => ⟨S4x2048x1x2x16, .f32⟩
  | .hbm, ⟨40, _⟩ => ⟨S4x2048x1x2x16, .f32⟩
  | .hbm, ⟨41, _⟩ => ⟨S4x2048x1x2x16, .f32⟩
  | .hbm, ⟨42, _⟩ => ⟨S4x2048x1x2x16, .f32⟩
  | .hbm, ⟨43, _⟩ => ⟨S4x2048x1x2x16, .f32⟩
  | .hbm, ⟨44, _⟩ => ⟨S4x2048x1x2x16, .f32⟩
  | .hbm, ⟨45, _⟩ => ⟨S4x2048x1x2x16, .f32⟩
  | .hbm, ⟨46, _⟩ => ⟨S4x2048x1x2x16, .f32⟩
  | .hbm, ⟨47, _⟩ => ⟨S4x2048x1x2x16, .f32⟩
  | .hbm, ⟨48, _⟩ => ⟨S4x2048x1x2x1x16, .f32⟩
  | .hbm, ⟨49, _⟩ => ⟨S4x2048x1x2x1x16, .f32⟩
  | .hbm, ⟨50, _⟩ => ⟨S4x2048x1x2x2x16, .f32⟩
  | .hbm, ⟨51, _⟩ => ⟨S4x2048x1x64, .f32⟩
  | .hbm, ⟨52, _⟩ => ⟨S8192x64, .f32⟩
  | .hbm, ⟨53, _⟩ => ⟨S9216x2048, .bf16⟩
  | .hbm, ⟨54, _⟩ => ⟨S1024x64, .f32⟩
  | .hbm, ⟨55, _⟩ => ⟨S9216x64, .f32⟩
  | .hbm, ⟨56, _⟩ => ⟨S9216x64, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel11.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Softmax.lean ====
/-  The arithmetic of one softmax row over the extended reals.

    A row of scores `s` is turned into weights `exp (s k - max s)`.  One program forms the weighted sum of the values and
    the sum of the weights, and divides the first by the second; the other divides every weight by the sum of the weights
    and then forms the weighted sum.  For finite scores the two agree, whatever the values are: the sum of the weights is
    then a positive real number, and division by a positive real distributes over sums of extended reals. -/
module

public import Idealize.ShloMosaic.PureOps.Ideal.Laws

@[expose] public section

noncomputable section

namespace Cert.Softmax

open Idealize.ShloMosaic
open scoped BigOperators

/-- Being the image of a real number. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by push_cast; rfl⟩

theorem Fin'.mul {x y : EReal} (hx : Fin' x) (hy : Fin' y) : Fin' (x * y) := by
  obtain ⟨a, rfl⟩ := hx; obtain ⟨b, rfl⟩ := hy; exact ⟨a * b, by push_cast; rfl⟩

theorem Fin'.sum {ι : Type} (t : Finset ι) {f : ι → EReal} (h : ∀ i, Fin' (f i)) : Fin' (∑ i ∈ t, f i) := by
  classical
  induction t using Finset.induction_on with
  | empty => exact ⟨0, by simp⟩
  | insert a t ha ih => rw [Finset.sum_insert ha]; exact (h a).add ih

/-- An extended real whose magnitude is below `⊤` is a real number. -/
theorem fin'_of_abs_lt_top {x : EReal} (h : max x (-x) < ⊤) : Fin' x := by
  induction x with
  | bot => simp at h
  | top => simp at h
  | coe r => exact ⟨r, rfl⟩

/-- The largest score of a row, starting from minus infinity. -/
def top {n : ℕ} (s : Fin n → EReal) : EReal := (Finset.univ : Finset (Fin n)).fold max (Ideal.ofBits .f32 0xFF800000#32) s

/-- The weight of position `k` before normalisation. -/
def wt {n : ℕ} (s : Fin n → EReal) (k : Fin n) : EReal := Ideal.exp (s k - top s)

theorem negInf : Ideal.ofBits .f32 0xFF800000#32 = ⊥ := by
  simp [Ideal.ofBits, Ideal.ieee]

theorem fold_fin' {ι : Type} (t : Finset ι) (f : ι → EReal) (h : ∀ i, Fin' (f i)) :
    t.fold max ⊥ f = ⊥ ∨ Fin' (t.fold max ⊥ f) := by
  classical
  induction t using Finset.induction_on with
  | empty => left; simp
  | insert a t ha ih =>
    right
    rw [Finset.fold_insert ha]
    rcases ih with e | e
    · rw [e, max_bot_right]; exact h a
    · rcases max_choice (f a) (t.fold max ⊥ f) with e' | e' <;> rw [e']
      · exact h a
      · exact e

/-- The largest of finitely many (and at least one) real scores is a real number. -/
theorem top_fin' {n : ℕ} (hn : 0 < n) (s : Fin n → EReal) (h : ∀ k, Fin' (s k)) : Fin' (top s) := by
  unfold top
  rw [negInf]
  rcases fold_fin' Finset.univ s h with e | e
  · exfalso
    have h0 : s ⟨0, hn⟩ ≤ (Finset.univ : Finset (Fin n)).fold max ⊥ s :=
      (Finset.le_fold_max (s ⟨0, hn⟩)).2 (Or.inr ⟨_, Finset.mem_univ _, le_rfl⟩)
    rw [e] at h0
    obtain ⟨r, hr⟩ := h ⟨0, hn⟩
    rw [hr] at h0
    exact absurd (le_bot_iff.1 h0) (EReal.coe_ne_bot r)
  · exact e

/-- Every weight of a row of real scores is a positive real. -/
theorem wt_pos {n : ℕ} (hn : 0 < n) (s : Fin n → EReal) (h : ∀ k, Fin' (s k)) (k : Fin n) :
    ∃ r : ℝ, 0 < r ∧ wt s k = (r : EReal) := by
  obtain ⟨a, ha⟩ := h k
  obtain ⟨b, hb⟩ := top_fin' hn s h
  refine ⟨Real.exp (a - b), Real.exp_pos _, ?_⟩
  unfold wt
  rw [ha, hb, ← EReal.coe_sub, Ideal.exp_coe]

/-- The sum of the weights of a row of real scores is a positive real. -/
theorem sum_wt_pos {n : ℕ} (hn : 0 < n) (s : Fin n → EReal) (h : ∀ k, Fin' (s k)) :
    ∃ r : ℝ, 0 < r ∧ ∑ k, wt s k = (r : EReal) := by
  choose w hw0 hw using wt_pos hn s h
  refine ⟨∑ k, w k, Finset.sum_pos (fun k _ => hw0 k) ⟨⟨0, hn⟩, Finset.mem_univ _⟩, ?_⟩
  rw [Finset.sum_congr rfl fun k _ => hw k]
  exact (map_sum (⟨⟨(fun r : ℝ => (r : EReal)), rfl⟩, fun a b => EReal.coe_add a b⟩ : ℝ →+ EReal) w _).symm

/-- A nonnegative real factor distributes over a sum of extended reals. -/
theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- Dividing the weighted sum by the sum of the weights, or every weight by it first: the same for real scores. -/
theorem normalise {n : ℕ} (hn : 0 < n) (s v : Fin n → EReal) (h : ∀ k, Fin' (s k)) :
    Ideal.div (∑ k, wt s k * v k) (∑ k, wt s k * 1) = ∑ k, v k * Ideal.div (wt s k) (∑ j, wt s j) := by
  obtain ⟨l, hl, e⟩ := sum_wt_pos hn s h
  simp only [mul_one]
  rw [e, Ideal.div_coe hl.ne', sum_mul_real _ _ _ (one_div_pos.2 hl).le]
  refine Finset.sum_congr rfl fun k _ => ?_
  rw [Ideal.div_coe hl.ne', mul_comm (wt s k) (v k), mul_assoc]

end Cert.Softmax

end
-- ==== Proof.Att.Block.lean ====
/-  One block of the attention kernel, read at an element.

    The kernel's body handles 256 query rows of one head at a time: it joins the two parts of the queries, multiplies
    them with the keys, subtracts the row's largest score, exponentiates, multiplies with the values (extended by a column
    of ones, so that the same product also gives the sum of the weights), and divides.  Each step is named here and read at
    an element; `pay15_eq` says that the printed payload is their composition. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Att

open Cert.KernelIdeal Cert.KernelIdeal.Gen Idealize.ShloMosaic
open scoped BigOperators

/-- The two parts of a query row, side by side. -/
def cat (q : FVec Ideal S256x128 .bf16) (r : FVec Ideal S256x64 .bf16) : FVec Ideal S256x192 .bf16 :=
  concatenate S256x192 1 [⟨S256x128, q⟩, ⟨S256x64, r⟩] concatenates_S256x128_S256x64_S256x192_d1

theorem cat_apply (q : FVec Ideal S256x128 .bf16) (r : FVec Ideal S256x64 .bf16) (i : Fin 256) (d : Fin 192) :
    cat q r (ix2 i d) = if h : d.val < 128 then q (ix2 i ⟨d.val, h⟩) else r (ix2 i ⟨d.val - 128, by omega⟩) := by
  unfold cat
  split
  · next h => exact concatenate_pair_apply_left 1 q r _ (ix2 i d) rfl (ix2 i ⟨d.val, h⟩) (fun a => match a with | 0 => rfl | 1 => rfl)
  · next h =>
    exact concatenate_pair_apply_right 1 q r _ (ix2 i d) rfl rfl (ix2 i ⟨d.val - 128, by omega⟩)
      (fun a ha => match a with | 0 => rfl | 1 => absurd rfl ha) (by show d.val - 128 + 128 = d.val; omega)

/-- The block's scores: query rows times key rows. -/
def scores (q : FVec Ideal S256x192 .bf16) (K : FVec Ideal S1x2304x192 .bf16) : FVec Ideal S256x2304 .f32 :=
  matmul dot_S256x192_S2304x192_S256x2304_1_1_0_0_n_n none q (shapeCast S2304x192 K shapeCasts_S1x2304x192_S2304x192)
    (constant S256x2304 .f32 0x00000000#32)

theorem scores_apply (q : FVec Ideal S256x192 .bf16) (K : FVec Ideal S1x2304x192 .bf16) (i : Fin 256) (k : Fin 2304) :
    scores q K (ix2 i k) = ∑ d : Fin 192, q (ix2 i d) * K (ix3 0 k d) := by
  unfold scores
  simp only [pointwise]
  exact zero_add _

/-- The block's weights: the exponentials of the scores less their row's largest. -/
def weights (s : FVec Ideal S256x2304 .f32) : FVec Ideal S256x2304 .bf16 :=
  exp (truncf .bf16 (subf s (broadcastTo S256x2304 (shapeCast S256x1
    (multiReduction .maximumf [1] S256 s 0xFF800000#32 reduces_S256x2304_S256 (.inl rfl) rfl)
      shapeCasts_S256_S256x1) broadcasts_S256x1_S256x2304)) bitsLt_bf16_f32)

theorem weights_apply (s : FVec Ideal S256x2304 .f32) (i : Fin 256) (k : Fin 2304) :
    weights s (ix2 i k) = Softmax.wt (fun j => s (ix2 i j)) k := by
  unfold weights
  simp only [pointwise]
  rfl

/-- The block's result from its weights: the first 128 columns of the product with the values, over its column 128. -/
def outBlk (p : FVec Ideal S256x2304 .bf16) (V : FVec Ideal S1x2304x256 .bf16) : FVec Ideal S256x128 .bf16 :=
  have v17 : FVec Ideal S256x256 .f32 := matmul dot_S256x2304_S2304x256_S256x256_1_0_0_1_n_n none p
      (shapeCast S2304x256 V shapeCasts_S1x2304x256_S2304x256) (constant S256x256 .f32 0x00000000#32)
  truncf .bf16 (divf (extractStridedSlice S256x128 ![0, 0] v17 slices_S256x256_o0_0_S256x128)
    (broadcastTo S256x128 (extractStridedSlice S256x1 ![0, 128] v17 slices_S256x256_o0_128_S256x1) broadcasts_S256x1_S256x128)) bitsLt_bf16_f32

theorem outBlk_apply (p : FVec Ideal S256x2304 .bf16) (V : FVec Ideal S1x2304x256 .bf16) (i : Fin 256) (d : Fin 128) :
    outBlk p V (ix2 i d)
      = Ideal.div (∑ k : Fin 2304, p (ix2 i k) * V (ix3 0 k ⟨d.val, by omega⟩)) (∑ k : Fin 2304, p (ix2 i k) * V (ix3 0 k 128)) := by
  unfold outBlk
  simp only [pointwise]
  rw [zero_add, zero_add]
  have e0 : (⟨![0, 0] 0 + i.val, by show 0 + i.val < 256; omega⟩ : Fin 256) = i := Fin.ext (Nat.zero_add _)
  have e1 : (⟨![0, 0] 1 + d.val, by show 0 + d.val < 256; omega⟩ : Fin 256) = ⟨d.val, by omega⟩ := Fin.ext (Nat.zero_add _)
  have e2 : (⟨![0, 128] 0 + i.val, by show 0 + i.val < 256; omega⟩ : Fin 256) = i := Fin.ext (Nat.zero_add _)
  congr 1
  · exact Finset.sum_congr rfl fun k _ => congrArg₂ (· * ·) (congrArg p (congrArg (ix2 · k) e0)) (congrArg V (congrArg (ix3 0 k ·) e1))
  · exact Finset.sum_congr rfl fun k _ => congrArg₂ (· * ·) (congrArg p (congrArg (ix2 · k) e2)) rfl

/-- One whole block. -/
def attBlk (q : FVec Ideal S256x128 .bf16) (r : FVec Ideal S256x64 .bf16) (K : FVec Ideal S1x2304x192 .bf16)
    (V : FVec Ideal S1x2304x256 .bf16) : FVec Ideal S256x128 .bf16 :=
  outBlk (weights (scores (cat q r) K)) V

/-- The printed payload of a block is the composition of the steps. -/
theorem pay15_eq (q : Vec Ideal S256x128 .bf16) (r : Vec Ideal S256x64 .bf16) (K : Vec Ideal S1x2304x192 .bf16)
    (V : Vec Ideal S1x2304x256 .bf16) : k0_pay15 (F := Ideal) q r K V = attBlk q r K V := rfl

/-- A block at an element, when its scores and its values are known and the values carry ones in column 128. -/
theorem attBlk_apply (q : FVec Ideal S256x128 .bf16) (r : FVec Ideal S256x64 .bf16) (K : FVec Ideal S1x2304x192 .bf16)
    (V : FVec Ideal S1x2304x256 .bf16) (i : Fin 256) (d : Fin 128) (s v : Fin 2304 → EReal)
    (hs : ∀ k, ∑ e : Fin 192, cat q r (ix2 i e) * K (ix3 0 k e) = s k)
    (hv : ∀ k, V (ix3 0 k ⟨d.val, by omega⟩) = v k) (h1 : ∀ k, V (ix3 0 k 128) = 1) :
    attBlk q r K V (ix2 i d) = Ideal.div (∑ k, Softmax.wt s k * v k) (∑ k, Softmax.wt s k * 1) := by
  unfold attBlk
  rw [outBlk_apply]
  have e : (fun j => scores (cat q r) K (ix2 i j)) = s := funext fun k => (scores_apply _ _ i k).trans (hs k)
  congr 1
  · exact Finset.sum_congr rfl fun k _ => by rw [weights_apply, e, hv]
  · exact Finset.sum_congr rfl fun k _ => by rw [weights_apply, e, h1]

end Cert.KernelIdeal.Att

end
-- ==== Proof.Att.Scratch.lean ====
/-  The two scratch buffers of the attention kernel after their stores, read at an element.

    For each of the two heads a grid point handles, the kernel first gathers the head's keys (128 columns of its own and
    64 shared by all heads; 2048 latent rows, then 256 context rows) into one buffer, and its values (with a column of
    ones appended) into another.  `keyAt` and `valAt` say what the buffers hold. -/
module

public import proofs.«01_k».proof.Proof.Gen.KernelIdeal.Skeleton
public import Idealize.ShloMosaic.Lib.Pointwise
public import Idealize.ShloMosaic.Lib.Pipeline.FrameBody
public import Idealize.ShloMosaic.Lib.ValueLayout
public import Idealize.ShloMosaic.Lib.WordCmp
public import Idealize.ShloMosaic.Lib.Pipeline.ValueKit.Tiles

@[expose] public section

set_option maxRecDepth 16384

noncomputable section

namespace Cert.KernelIdeal.Att

open Cert.KernelIdeal Cert.KernelIdeal.Gen Idealize.ShloMosaic

variable (x2 : FVec Ideal S2048x512 .bf16) (x3 : FVec Ideal S256x512 .bf16) (x4 : FVec Ideal S2048x64 .bf16) (x5 : FVec Ideal S256x64 .bf16)

/-- Row `k` (latent rows first, then context rows), column `c` of the key and value block. -/
def kvAt (k : Fin 2304) (c : Fin 512) : EReal :=
  if h : k.val < 2048 then x2 (ix2 ⟨k.val, h⟩ c) else x3 (ix2 ⟨k.val - 2048, by omega⟩ c)

/-- Row `k`, column `c` of the key part shared by the heads. -/
def krAt (k : Fin 2304) (c : Fin 64) : EReal :=
  if h : k.val < 2048 then x4 (ix2 ⟨k.val, h⟩ c) else x5 (ix2 ⟨k.val - 2048, by omega⟩ c)

/-- Coordinate `d` of key `k` of head `h`. -/
def keyAt (h : Fin 2) (k : Fin 2304) (d : Fin 192) : EReal :=
  if hd : d.val < 128 then kvAt x2 x3 k ⟨256 * h.val + d.val, by omega⟩ else krAt x4 x5 k ⟨d.val - 128, by omega⟩

/-- The part of a block from an offset on. -/
abbrev part {R C r c : Nat} (x : FVec Ideal ⟨2, ![R, C]⟩ .bf16) (off : Fin 2 → Nat) (inb : ∀ a, off a + ![r, c] a ≤ ![R, C] a) :
    FVec Ideal ⟨2, ![r, c]⟩ .bf16 :=
  View.ld (Val := Elt Ideal) (S := ⟨2, ![R, C]⟩) (e' := .bf16) x (Rect.unit off ![r, c] inb)

theorem part_apply {R C r c : Nat} (x : FVec Ideal ⟨2, ![R, C]⟩ .bf16) (off : Fin 2 → Nat) (inb : ∀ a, off a + ![r, c] a ≤ ![R, C] a)
    (i : Fin r) (j : Fin c) (i' : Fin R) (j' : Fin C) (hi : i'.val = off 0 + i.val) (hj : j'.val = off 1 + j.val) :
    part x off inb (ix2 i j) = x (ix2 i' j') :=
  View.ld_unit_apply_of (S := ⟨2, ![R, C]⟩) (Val := Elt Ideal) (e := .bf16) x off ![r, c] inb (ix2 i j) (ix2 i' j')
    fun a => match a with | 0 => hi | 1 => hj

/-- The stores into the key buffer, last first. -/
def keyStores : List (View.Piece (Elt Ideal) S2x2304x192 .bf16) :=
  [⟨Rect.unit ![1, 2048, 128] ![1, 256, 64] inb_S2x2304x192_S1x256x64_1_2048_128,
      k0_pay11 (F := Ideal) (part x5 ![0, 0] inb_S256x64_S256x64_0_0)⟩,
    ⟨Rect.unit ![1, 0, 128] ![1, 2048, 64] inb_S2x2304x192_S1x2048x64_1_0_128,
      k0_pay10 (F := Ideal) (part x4 ![0, 0] inb_S2048x64_S2048x64_0_0)⟩,
    ⟨Rect.unit ![1, 2048, 0] ![1, 256, 128] inb_S2x2304x192_S1x256x128_1_2048_0,
      k0_pay9 (F := Ideal) (part x3 ![0, 256] inb_S256x512_S256x128_0_256)⟩,
    ⟨Rect.unit ![1, 0, 0] ![1, 2048, 128] inb_S2x2304x192_S1x2048x128_1_0_0,
      k0_pay8 (F := Ideal) (part x2 ![0, 256] inb_S2048x512_S2048x128_0_256)⟩,
    ⟨Rect.unit ![0, 2048, 128] ![1, 256, 64] inb_S2x2304x192_S1x256x64_0_2048_128,
      k0_pay4 (F := Ideal) (part x5 ![0, 0] inb_S256x64_S256x64_0_0)⟩,
    ⟨Rect.unit ![0, 0, 128] ![1, 2048, 64] inb_S2x2304x192_S1x2048x64_0_0_128,
      k0_pay3 (F := Ideal) (part x4 ![0, 0] inb_S2048x64_S2048x64_0_0)⟩,
    ⟨Rect.unit ![0, 2048, 0] ![1, 256, 128] inb_S2x2304x192_S1x256x128_0_2048_0,
      k0_pay2 (F := Ideal) (part x3 ![0, 0] inb_S256x512_S256x128_0_0)⟩,
    ⟨Rect.unit ![0, 0, 0] ![1, 2048, 128] inb_S2x2304x192_S1x2048x128_0_0_0,
      k0_pay1 (F := Ideal) (part x2 ![0, 0] inb_S2048x512_S2048x128_0_0)⟩]

/-- A box whose corners bound an index holds it. -/
theorem mem_box {A B C : Nat} (o n : Fin 3 → Nat) (inb : ∀ a : Fin 3, o a + n a ≤ ![A, B, C] a) (i : Fin A) (j : Fin B) (k : Fin C)
    (h0 : o 0 ≤ i.val ∧ i.val < o 0 + n 0) (h1 : o 1 ≤ j.val ∧ j.val < o 1 + n 1) (h2 : o 2 ≤ k.val ∧ k.val < o 2 + n 2) :
    ix3 i j k ∈ (Rect.unit (s := ⟨3, ![A, B, C]⟩) o n inb).set :=
  Rect.mem_set_unit.mpr fun a => match a with | 0 => h0 | 1 => h1 | 2 => h2

/-- An index held by the `n`-th box of a list is held by a box of the list. -/
theorem cover_at {S : Shape} {e : EltTy} (L : List (View.Piece (Elt Ideal) S e)) (y : S.Idx) (n : Fin L.length) (h : y ∈ (L.get n).1.set) :
    ∃ p ∈ L, y ∈ p.1.set := ⟨L.get n, L.get_mem n, h⟩

set_option maxHeartbeats 2000000 in
/-- The stores reach every element of the key buffer. -/
theorem keyStores_cover (h : Fin 2) (k : Fin 2304) (d : Fin 192) :
    ∃ p ∈ keyStores x2 x3 x4 x5, ix3 h k d ∈ p.1.set := by
  have hk := k.isLt
  have hd := d.isLt
  by_cases ck : k.val < 2048 <;> by_cases cd : d.val < 128
  · match h with
    | 0 => exact cover_at _ _ (7 : Fin 8) (mem_box _ _ inb_S2x2304x192_S1x2048x128_0_0_0 _ _ _ (by decide) ⟨Nat.zero_le _, ck⟩ ⟨Nat.zero_le _, cd⟩)
    | 1 => exact cover_at _ _ (3 : Fin 8) (mem_box _ _ inb_S2x2304x192_S1x2048x128_1_0_0 _ _ _ (by decide) ⟨Nat.zero_le _, ck⟩ ⟨Nat.zero_le _, cd⟩)
  · match h with
    | 0 => exact cover_at _ _ (5 : Fin 8) (mem_box _ _ inb_S2x2304x192_S1x2048x64_0_0_128 _ _ _ (by decide) ⟨Nat.zero_le _, ck⟩ ⟨Nat.not_lt.mp cd, hd⟩)
    | 1 => exact cover_at _ _ (1 : Fin 8) (mem_box _ _ inb_S2x2304x192_S1x2048x64_1_0_128 _ _ _ (by decide) ⟨Nat.zero_le _, ck⟩ ⟨Nat.not_lt.mp cd, hd⟩)
  · match h with
    | 0 => exact cover_at _ _ (6 : Fin 8) (mem_box _ _ inb_S2x2304x192_S1x256x128_0_2048_0 _ _ _ (by decide) ⟨Nat.not_lt.mp ck, hk⟩ ⟨Nat.zero_le _, cd⟩)
    | 1 => exact cover_at _ _ (2 : Fin 8) (mem_box _ _ inb_S2x2304x192_S1x256x128_1_2048_0 _ _ _ (by decide) ⟨Nat.not_lt.mp ck, hk⟩ ⟨Nat.zero_le _, cd⟩)
  · match h with
    | 0 => exact cover_at _ _ (4 : Fin 8) (mem_box _ _ inb_S2x2304x192_S1x256x64_0_2048_128 _ _ _ (by decide) ⟨Nat.not_lt.mp ck, hk⟩ ⟨Nat.not_lt.mp cd, hd⟩)
    | 1 => exact cover_at _ _ (0 : Fin 8) (mem_box _ _ inb_S2x2304x192_S1x256x64_1_2048_128 _ _ _ (by decide) ⟨Nat.not_lt.mp ck, hk⟩ ⟨Nat.not_lt.mp cd, hd⟩)

/-- A stored piece, a part of a block under a new unit axis, at an index. -/
theorem piece_apply {R C r c : Nat} (x : FVec Ideal ⟨2, ![R, C]⟩ .bf16) (off : Fin 2 → Nat) (inb : ∀ a, off a + ![r, c] a ≤ ![R, C] a)
    (hs : (⟨2, ![r, c]⟩ : Shape).ShapeCasts ⟨3, ![1, r, c]⟩) (y : (⟨3, ![1, r, c]⟩ : Shape).Idx) (i' : Fin R) (j' : Fin C)
    (hi : i'.val = off 0 + (y 1).val) (hj : j'.val = off 1 + (y 2).val) :
    shapeCast ⟨3, ![1, r, c]⟩ (part x off inb) hs y = x (ix2 i' j') := by
  have e : y = ix3 (y 0) (y 1) (y 2) := by idx_ext
  rw [e]
  exact (ValueIdx.shapeCast_ab_1ab_apply (part x off inb) hs (y 0) (y 1) (y 2)).trans (part_apply x off inb (y 1) (y 2) i' j' hi hj)

theorem keyAt_latent (h : Fin 2) (k : Fin 2304) (d : Fin 192) (i : Fin 2048) (c : Fin 512) (hd : d.val < 128) (hi : i.val = k.val)
    (hc : c.val = 256 * h.val + d.val) : keyAt x2 x3 x4 x5 h k d = x2 (ix2 i c) := by
  have hk : k.val < 2048 := hi ▸ i.isLt
  unfold keyAt kvAt
  rw [dif_pos hd, dif_pos hk]
  exact congrArg₂ (fun a b => x2 (ix2 a b)) (Fin.ext hi.symm) (Fin.ext hc.symm)

theorem keyAt_context (h : Fin 2) (k : Fin 2304) (d : Fin 192) (i : Fin 256) (c : Fin 512) (hd : d.val < 128) (hi : k.val = 2048 + i.val)
    (hc : c.val = 256 * h.val + d.val) : keyAt x2 x3 x4 x5 h k d = x3 (ix2 i c) := by
  have hk : ¬ k.val < 2048 := by omega
  unfold keyAt kvAt
  rw [dif_pos hd, dif_neg hk]
  exact congrArg₂ (fun a b => x3 (ix2 a b)) (Fin.ext (by show k.val - 2048 = i.val; omega)) (Fin.ext hc.symm)

theorem keyAt_shared_latent (h : Fin 2) (k : Fin 2304) (d : Fin 192) (i : Fin 2048) (c : Fin 64) (hd : d.val = 128 + c.val)
    (hi : i.val = k.val) : keyAt x2 x3 x4 x5 h k d = x4 (ix2 i c) := by
  have hk : k.val < 2048 := hi ▸ i.isLt
  unfold keyAt krAt
  rw [dif_neg (by omega), dif_pos hk]
  exact congrArg₂ (fun a b => x4 (ix2 a b)) (Fin.ext hi.symm) (Fin.ext (by show d.val - 128 = c.val; omega))

theorem keyAt_shared_context (h : Fin 2) (k : Fin 2304) (d : Fin 192) (i : Fin 256) (c : Fin 64) (hd : d.val = 128 + c.val)
    (hi : k.val = 2048 + i.val) : keyAt x2 x3 x4 x5 h k d = x5 (ix2 i c) := by
  have hk : ¬ k.val < 2048 := by omega
  unfold keyAt krAt
  rw [dif_neg (by omega), dif_neg hk]
  exact congrArg₂ (fun a b => x5 (ix2 a b)) (Fin.ext (by show k.val - 2048 = i.val; omega))
    (Fin.ext (by show d.val - 128 = c.val; omega))

set_option maxHeartbeats 2000000 in
/-- After the stores the key buffer holds the keys. -/
theorem keyStores_apply (h : Fin 2) (k : Fin 2304) (d : Fin 192) :
    View.canon (keyStores x2 x3 x4 x5) (ix3 h k d) = keyAt x2 x3 x4 x5 h k d := by
  have hc := keyStores_cover x2 x3 x4 x5 h k d
  unfold keyStores at hc ⊢
  canon_tiles x e using hc
  all_goals clear hc
  all_goals (replace e0 : h.val = _ := e0; replace e1 : k.val = _ := e1; replace e2 : d.val = _ := e2)
  · exact (piece_apply x5 ![0, 0] _ _ x (x 1) (x 2) (Nat.zero_add _).symm (Nat.zero_add _).symm).trans
      (keyAt_shared_context x2 x3 x4 x5 h k d (x 1) (x 2) e2 e1).symm
  · exact (piece_apply x4 ![0, 0] _ _ x (x 1) (x 2) (Nat.zero_add _).symm (Nat.zero_add _).symm).trans
      (keyAt_shared_latent x2 x3 x4 x5 h k d (x 1) (x 2) e2 e1.symm).symm
  · exact (piece_apply x3 ![0, 256] _ _ x (x 1) ⟨256 + (x 2).val, by omega⟩ (Nat.zero_add _).symm rfl).trans
      (keyAt_context x2 x3 x4 x5 h k d (x 1) ⟨256 + (x 2).val, by omega⟩ (by omega) e1 (by show 256 + (x 2).val = _; omega)).symm
  · exact (piece_apply x2 ![0, 256] _ _ x (x 1) ⟨256 + (x 2).val, by omega⟩ (Nat.zero_add _).symm rfl).trans
      (keyAt_latent x2 x3 x4 x5 h k d (x 1) ⟨256 + (x 2).val, by omega⟩ (by omega) e1.symm (by show 256 + (x 2).val = _; omega)).symm
  · exact (piece_apply x5 ![0, 0] _ _ x (x 1) (x 2) (Nat.zero_add _).symm (Nat.zero_add _).symm).trans
      (keyAt_shared_context x2 x3 x4 x5 h k d (x 1) (x 2) e2 e1).symm
  · exact (piece_apply x4 ![0, 0] _ _ x (x 1) (x 2) (Nat.zero_add _).symm (Nat.zero_add _).symm).trans
      (keyAt_shared_latent x2 x3 x4 x5 h k d (x 1) (x 2) e2 e1.symm).symm
  · exact (piece_apply x3 ![0, 0] _ _ x (x 1) ⟨(x 2).val, by omega⟩ (Nat.zero_add _).symm (Nat.zero_add _).symm).trans
      (keyAt_context x2 x3 x4 x5 h k d (x 1) ⟨(x 2).val, by omega⟩ (by omega) e1 (by show (x 2).val = _; omega)).symm
  · exact (piece_apply x2 ![0, 0] _ _ x (x 1) ⟨(x 2).val, by omega⟩ (Nat.zero_add _).symm (Nat.zero_add _).symm).trans
      (keyAt_latent x2 x3 x4 x5 h k d (x 1) ⟨(x 2).val, by omega⟩ (by omega) e1.symm (by show (x 2).val = _; omega)).symm

/-- Coordinate `d` of value `k` of head `h`, extended by a column of ones at 128 and zeros after it. -/
def valAt (h : Fin 2) (k : Fin 2304) (d : Fin 256) : EReal :=
  if hd : d.val < 128 then kvAt x2 x3 k ⟨256 * h.val + 128 + d.val, by omega⟩ else if d.val = 128 then 1 else 0

/-- The stores into the value buffer, last first. -/
def valStores : List (View.Piece (Elt Ideal) S2x2304x256 .bf16) :=
  [⟨Rect.unit ![1, 0, 128] ![1, 2304, 128] inb_S2x2304x256_S1x2304x128_1_0_128, k0_pay14 (F := Ideal)⟩,
    ⟨Rect.unit ![1, 2048, 0] ![1, 256, 128] inb_S2x2304x256_S1x256x128_1_2048_0,
      k0_pay13 (F := Ideal) (part x3 ![0, 384] inb_S256x512_S256x128_0_384)⟩,
    ⟨Rect.unit ![1, 0, 0] ![1, 2048, 128] inb_S2x2304x256_S1x2048x128_1_0_0,
      k0_pay12 (F := Ideal) (part x2 ![0, 384] inb_S2048x512_S2048x128_0_384)⟩,
    ⟨Rect.unit ![0, 0, 128] ![1, 2304, 128] inb_S2x2304x256_S1x2304x128_0_0_128, k0_pay7 (F := Ideal)⟩,
    ⟨Rect.unit ![0, 2048, 0] ![1, 256, 128] inb_S2x2304x256_S1x256x128_0_2048_0,
      k0_pay6 (F := Ideal) (part x3 ![0, 128] inb_S256x512_S256x128_0_128)⟩,
    ⟨Rect.unit ![0, 0, 0] ![1, 2048, 128] inb_S2x2304x256_S1x2048x128_0_0_0,
      k0_pay5 (F := Ideal) (part x2 ![0, 128] inb_S2048x512_S2048x128_0_128)⟩]

set_option maxHeartbeats 2000000 in
/-- The stores reach every element of the value buffer. -/
theorem valStores_cover (h : Fin 2) (k : Fin 2304) (d : Fin 256) : ∃ p ∈ valStores x2 x3, ix3 h k d ∈ p.1.set := by
  have hk := k.isLt
  have hd := d.isLt
  by_cases cd : d.val < 128
  · by_cases ck : k.val < 2048
    · match h with
      | 0 => exact cover_at _ _ (5 : Fin 6) (mem_box _ _ inb_S2x2304x256_S1x2048x128_0_0_0 _ _ _ (by decide) ⟨Nat.zero_le _, ck⟩ ⟨Nat.zero_le _, cd⟩)
      | 1 => exact cover_at _ _ (2 : Fin 6) (mem_box _ _ inb_S2x2304x256_S1x2048x128_1_0_0 _ _ _ (by decide) ⟨Nat.zero_le _, ck⟩ ⟨Nat.zero_le _, cd⟩)
    · match h with
      | 0 => exact cover_at _ _ (4 : Fin 6) (mem_box _ _ inb_S2x2304x256_S1x256x128_0_2048_0 _ _ _ (by decide) ⟨Nat.not_lt.mp ck, hk⟩ ⟨Nat.zero_le _, cd⟩)
      | 1 => exact cover_at _ _ (1 : Fin 6) (mem_box _ _ inb_S2x2304x256_S1x256x128_1_2048_0 _ _ _ (by decide) ⟨Nat.not_lt.mp ck, hk⟩ ⟨Nat.zero_le _, cd⟩)
  · match h with
    | 0 => exact cover_at _ _ (3 : Fin 6) (mem_box _ _ inb_S2x2304x256_S1x2304x128_0_0_128 _ _ _ (by decide) ⟨Nat.zero_le _, hk⟩ ⟨Nat.not_lt.mp cd, hd⟩)
    | 1 => exact cover_at _ _ (0 : Fin 6) (mem_box _ _ inb_S2x2304x256_S1x2304x128_1_0_128 _ _ _ (by decide) ⟨Nat.zero_le _, hk⟩ ⟨Nat.not_lt.mp cd, hd⟩)

theorem valAt_latent (h : Fin 2) (k : Fin 2304) (d : Fin 256) (i : Fin 2048) (c : Fin 512) (hd : d.val < 128) (hi : i.val = k.val)
    (hc : c.val = 256 * h.val + 128 + d.val) : valAt x2 x3 h k d = x2 (ix2 i c) := by
  have hk : k.val < 2048 := hi ▸ i.isLt
  unfold valAt kvAt
  rw [dif_pos hd, dif_pos hk]
  exact congrArg₂ (fun a b => x2 (ix2 a b)) (Fin.ext hi.symm) (Fin.ext hc.symm)

theorem valAt_context (h : Fin 2) (k : Fin 2304) (d : Fin 256) (i : Fin 256) (c : Fin 512) (hd : d.val < 128) (hi : k.val = 2048 + i.val)
    (hc : c.val = 256 * h.val + 128 + d.val) : valAt x2 x3 h k d = x3 (ix2 i c) := by
  have hk : ¬ k.val < 2048 := by omega
  unfold valAt kvAt
  rw [dif_pos hd, dif_neg hk]
  exact congrArg₂ (fun a b => x3 (ix2 a b)) (Fin.ext (by show k.val - 2048 = i.val; omega)) (Fin.ext hc.symm)

/-- The choice between one and zero by a column number's word. -/
theorem one_or_zero (n : Nat) (hn : n < 128) :
    Scalar.select (IntOp.cmpi .eq (BitVec.ofNat 32 n) 0#32) (1 : EReal) 0 = if n = 0 then 1 else 0 := by
  rw [show (0#32 : BitVec 32) = BitVec.ofNat 32 0 from rfl, WordCmp.cmpi_eq_ofNat (by omega) (by omega)]
  by_cases h : n = 0 <;> simp [h, Scalar.select]

/-- The columns appended to the values: ones in the first, zeros in the others. -/
theorem ones_apply (x : S1x2304x128.Idx) : k0_pay7 (F := Ideal) x = if (x 2).val = 0 then 1 else 0 := by
  have e : x = ix3 (x 0) (x 1) (x 2) := by idx_ext
  unfold k0_pay7
  rw [e]
  simp only [pointwise]
  exact (congrArg (fun n => Scalar.select (IntOp.cmpi .eq (BitVec.ofNat 32 n) 0#32) (1 : EReal) 0)
    (by show 0 * 128 + (x 2).val = (x 2).val; omega)).trans (one_or_zero (x 2).val (x 2).isLt)

set_option maxHeartbeats 2000000 in
/-- After the stores the value buffer holds the extended values. -/
theorem valStores_apply (h : Fin 2) (k : Fin 2304) (d : Fin 256) :
    View.canon (valStores x2 x3) (ix3 h k d) = valAt x2 x3 h k d := by
  have hc := valStores_cover x2 x3 h k d
  unfold valStores at hc ⊢
  canon_tiles x e using hc
  all_goals clear hc
  all_goals (replace e0 : h.val = _ := e0; replace e1 : k.val = _ := e1; replace e2 : d.val = _ := e2)
  · refine (ones_apply x).trans ?_
    unfold valAt
    rw [dif_neg (by omega)]
    exact if_congr (by omega) rfl rfl
  · exact (piece_apply x3 ![0, 384] _ _ x (x 1) ⟨384 + (x 2).val, by omega⟩ (Nat.zero_add _).symm rfl).trans
      (valAt_context x2 x3 h k d (x 1) ⟨384 + (x 2).val, by omega⟩ (by omega) e1 (by show 384 + (x 2).val = _; omega)).symm
  · exact (piece_apply x2 ![0, 384] _ _ x (x 1) ⟨384 + (x 2).val, by omega⟩ (Nat.zero_add _).symm rfl).trans
      (valAt_latent x2 x3 h k d (x 1) ⟨384 + (x 2).val, by omega⟩ (by omega) e1.symm (by show 384 + (x 2).val = _; omega)).symm
  · refine (ones_apply x).trans ?_
    unfold valAt
    rw [dif_neg (by omega)]
    exact if_congr (by omega) rfl rfl
  · exact (piece_apply x3 ![0, 128] _ _ x (x 1) ⟨128 + (x 2).val, by omega⟩ (Nat.zero_add _).symm rfl).trans
      (valAt_context x2 x3 h k d (x 1) ⟨128 + (x 2).val, by omega⟩ (by omega) e1 (by show 128 + (x 2).val = _; omega)).symm
  · exact (piece_apply x2 ![0, 128] _ _ x (x 1) ⟨128 + (x 2).val, by omega⟩ (Nat.zero_add _).symm rfl).trans
      (valAt_latent x2 x3 h k d (x 1) ⟨128 + (x 2).val, by omega⟩ (by omega) e1.symm (by show 128 + (x 2).val = _; omega)).symm

end Cert.KernelIdeal.Att

end
-- ==== Proof.Att.Point.lean ====
/-  One grid point of the attention kernel, read at an element.

    A grid point writes a 2048 by 256 block: 2048 query rows of one batch, two heads of 128 columns.  The body computes it
    in sixteen pieces (eight row blocks, two heads); each piece is the block of `Att.Block` over the scratch buffers of
    `Att.Scratch`. -/
module

public import proofs.«01_k».proof.Proof.Att.Block
public import proofs.«01_k».proof.Proof.Att.Scratch
public import proofs.«01_k».proof.Proof.Gen.KernelIdeal.Frame

@[expose] public section

set_option maxRecDepth 16384

noncomputable section

namespace Cert.KernelIdeal.Att

open Cert.KernelIdeal Cert.KernelIdeal.Gen Idealize.ShloMosaic Idealize.ShloMosaic.TcCoe
open scoped BigOperators

section Block

variable (x0 : FVec Ideal S2048x256 .bf16) (x1 : FVec Ideal S2048x128 .bf16) (x2 : FVec Ideal S2048x512 .bf16)
  (x3 : FVec Ideal S256x512 .bf16) (x4 : FVec Ideal S2048x64 .bf16) (x5 : FVec Ideal S256x64 .bf16)

/-- Coordinate `e` of query row `i` of head `h`, from the two query blocks. -/
def qAt (h : Fin 2) (i : Fin 2048) (e : Fin 192) : EReal :=
  if he : e.val < 128 then x0 (ix2 i ⟨128 * h.val + e.val, by omega⟩) else x1 (ix2 i ⟨64 * h.val + (e.val - 128), by omega⟩)

/-- The score of query row `i` against key `k` in head `h`. -/
def scoreAt (h : Fin 2) (i : Fin 2048) (k : Fin 2304) : EReal := ∑ e : Fin 192, qAt x0 x1 h i e * keyAt x2 x3 x4 x5 h k e

/-- Row `i`, column `d` of head `h` of the point's result: the weighted values over the weights' sum. -/
def resAt (h : Fin 2) (i : Fin 2048) (d : Fin 128) : EReal :=
  Ideal.div (∑ k, Softmax.wt (scoreAt x0 x1 x2 x3 x4 x5 h i) k * valAt x2 x3 h k ⟨d.val, by omega⟩)
    (∑ k, Softmax.wt (scoreAt x0 x1 x2 x3 x4 x5 h i) k * 1)

/-- The point's whole block. -/
def blockAt (i : Fin 2048) (j : Fin 256) : EReal :=
  resAt x0 x1 x2 x3 x4 x5 ⟨j.val / 128, by omega⟩ i ⟨j.val % 128, by omega⟩

/-- The keys of head `h`, loaded from the key buffer. -/
abbrev keysOf (h : Fin 2) (inb : ∀ a : Fin 3, ![h.val, 0, 0] a + ![1, 2304, 192] a ≤ ![2, 2304, 192] a) : FVec Ideal S1x2304x192 .bf16 :=
  (View.whole cc0_scratch0).readCov (Val := Elt Ideal) (keyStores x2 x3 x4 x5)
    (Rect.unit (s := S2x2304x192) ![h.val, 0, 0] ![1, 2304, 192] inb).toLoadRect

/-- The extended values of head `h`, loaded from the value buffer. -/
abbrev valsOf (h : Fin 2) (inb : ∀ a : Fin 3, ![h.val, 0, 0] a + ![1, 2304, 256] a ≤ ![2, 2304, 256] a) : FVec Ideal S1x2304x256 .bf16 :=
  (View.whole cc0_scratch1).readCov (Val := Elt Ideal) (valStores x2 x3)
    (Rect.unit (s := S2x2304x256) ![h.val, 0, 0] ![1, 2304, 256] inb).toLoadRect

theorem keysOf_apply (h : Fin 2) (inb) (k : Fin 2304) (e : Fin 192) :
    keysOf x2 x3 x4 x5 h inb (ix3 0 k e) = keyAt x2 x3 x4 x5 h k e := by
  have E : View.canon (keyStores x2 x3 x4 x5) ((Rect.unit (s := S2x2304x192) ![h.val, 0, 0] ![1, 2304, 192] inb).toLoadRect.idx (ix3 0 k e))
      = View.canon (keyStores x2 x3 x4 x5) (ix3 h k e) := congrArg _ (by
    funext a
    match a with
    | 0 => exact Fin.ext (Rect.idx_unit_val _ _ _ _ _)
    | 1 => exact Fin.ext ((Rect.idx_unit_val _ _ _ _ _).trans (Nat.zero_add _))
    | 2 => exact Fin.ext ((Rect.idx_unit_val _ _ _ _ _).trans (Nat.zero_add _)))
  exact (congrFun (View.readCov_eq_canon' (Val := Elt Ideal) (View.whole cc0_scratch0) (keyStores x2 x3 x4 x5)
    (Rect.unit (s := S2x2304x192) ![h.val, 0, 0] ![1, 2304, 192] inb).toLoadRect) (ix3 0 k e)).trans (E.trans (keyStores_apply x2 x3 x4 x5 h k e))

theorem valsOf_apply (h : Fin 2) (inb) (k : Fin 2304) (e : Fin 256) :
    valsOf x2 x3 h inb (ix3 0 k e) = valAt x2 x3 h k e := by
  have E : View.canon (valStores x2 x3) ((Rect.unit (s := S2x2304x256) ![h.val, 0, 0] ![1, 2304, 256] inb).toLoadRect.idx (ix3 0 k e))
      = View.canon (valStores x2 x3) (ix3 h k e) := congrArg _ (by
    funext a
    match a with
    | 0 => exact Fin.ext (Rect.idx_unit_val _ _ _ _ _)
    | 1 => exact Fin.ext ((Rect.idx_unit_val _ _ _ _ _).trans (Nat.zero_add _))
    | 2 => exact Fin.ext ((Rect.idx_unit_val _ _ _ _ _).trans (Nat.zero_add _)))
  exact (congrFun (View.readCov_eq_canon' (Val := Elt Ideal) (View.whole cc0_scratch1) (valStores x2 x3)
    (Rect.unit (s := S2x2304x256) ![h.val, 0, 0] ![1, 2304, 256] inb).toLoadRect) (ix3 0 k e)).trans (E.trans (valStores_apply x2 x3 h k e))

/-- One of the sixteen pieces, at an element, is the point's block there. -/
theorem piece_res (h : Fin 2) (n : Nat)
    (iq : ∀ a : Fin 2, ![n, 128 * h.val] a + ![256, 128] a ≤ ![2048, 256] a)
    (ir : ∀ a : Fin 2, ![n, 64 * h.val] a + ![256, 64] a ≤ ![2048, 128] a) (ik) (iv)
    (y : S256x128.Idx) (i : Fin 2048) (j : Fin 256) (hi : i.val = n + (y 0).val) (hj : j.val = 128 * h.val + (y 1).val) :
    attBlk (part x0 ![n, 128 * h.val] iq) (part x1 ![n, 64 * h.val] ir) (keysOf x2 x3 x4 x5 h ik) (valsOf x2 x3 h iv) y
      = blockAt x0 x1 x2 x3 x4 x5 i j := by
  have hy : (y 1).val < 128 := (y 1).isLt
  have hh : (⟨j.val / 128, by omega⟩ : Fin 2) = h := Fin.ext (by show j.val / 128 = h.val; omega)
  have hd : (⟨j.val % 128, by omega⟩ : Fin 128) = y 1 := Fin.ext (by show j.val % 128 = (y 1).val; omega)
  unfold blockAt
  rw [hh, hd]
  have e : y = ix2 (y 0) (y 1) := by idx_ext
  rw [e]
  refine attBlk_apply _ _ _ _ (y 0) (y 1) (scoreAt x0 x1 x2 x3 x4 x5 h i) (fun k => valAt x2 x3 h k ⟨(y 1).val, by omega⟩) ?_ ?_ ?_
  · intro k
    refine Finset.sum_congr rfl fun d _ => ?_
    rw [keysOf_apply]
    refine congrArg (· * _) ((cat_apply _ _ (y 0) d).trans ?_)
    unfold qAt
    split
    · next hlt => exact part_apply x0 ![n, 128 * h.val] iq (y 0) ⟨d.val, hlt⟩ i ⟨128 * h.val + d.val, by omega⟩ hi rfl
    · next hlt => exact part_apply x1 ![n, 64 * h.val] ir (y 0) ⟨d.val - 128, by omega⟩ i ⟨64 * h.val + (d.val - 128), by omega⟩ hi rfl
  · exact fun k => valsOf_apply x2 x3 h iv k ⟨(y 1).val, by omega⟩
  · intro k
    rw [valsOf_apply]
    rfl

end Block

variable (m : (ℓ : Loc nD τ sig) → Buf (Elt Ideal) ℓ)

set_option maxHeartbeats 4000000 in
/-- What a grid point writes, at an element. -/
theorem outsAt0_apply (c : Dev nD) (t : Fin cfg0.N) (i : Fin 2048) (j : Fin 256) :
    outsAt0 m c t (ix2 i j)
      = blockAt (iblk m c 0 t) (iblk m c 1 t) (X0_2 m c t) (iblk m c 3 t) (X0_4 m c t) (iblk m c 5 t) i j := by
  unfold outsAt0 out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (hcond0_0 t) (iblk m c 0 t) (iblk m c 1 t) (X0_2 m c t) (iblk m c 3 t) (X0_4 m c t) (iblk m c 5 t))]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  canon_tiles x e
  all_goals (replace e0 : i.val = _ := e0; replace e1 : j.val = _ := e1)
  · exact piece_res _ _ _ _ _ _ 1 1792 inb_S2048x256_S256x128_1792_128 inb_S2048x128_S256x64_1792_64
      inb_S2x2304x192_S1x2304x192_1_0_0 inb_S2x2304x256_S1x2304x256_1_0_0 x i j (by omega) (by show j.val = 128 * 1 + (x 1).val; omega)
  · exact piece_res _ _ _ _ _ _ 0 1792 inb_S2048x256_S256x128_1792_0 inb_S2048x128_S256x64_1792_0
      inb_S2x2304x192_S1x2304x192_0_0_0 inb_S2x2304x256_S1x2304x256_0_0_0 x i j (by omega) (by show j.val = 128 * 0 + (x 1).val; omega)
  · exact piece_res _ _ _ _ _ _ 1 1536 inb_S2048x256_S256x128_1536_128 inb_S2048x128_S256x64_1536_64
      inb_S2x2304x192_S1x2304x192_1_0_0 inb_S2x2304x256_S1x2304x256_1_0_0 x i j (by omega) (by show j.val = 128 * 1 + (x 1).val; omega)
  · exact piece_res _ _ _ _ _ _ 0 1536 inb_S2048x256_S256x128_1536_0 inb_S2048x128_S256x64_1536_0
      inb_S2x2304x192_S1x2304x192_0_0_0 inb_S2x2304x256_S1x2304x256_0_0_0 x i j (by omega) (by show j.val = 128 * 0 + (x 1).val; omega)
  · exact piece_res _ _ _ _ _ _ 1 1280 inb_S2048x256_S256x128_1280_128 inb_S2048x128_S256x64_1280_64
      inb_S2x2304x192_S1x2304x192_1_0_0 inb_S2x2304x256_S1x2304x256_1_0_0 x i j (by omega) (by show j.val = 128 * 1 + (x 1).val; omega)
  · exact piece_res _ _ _ _ _ _ 0 1280 inb_S2048x256_S256x128_1280_0 inb_S2048x128_S256x64_1280_0
      inb_S2x2304x192_S1x2304x192_0_0_0 inb_S2x2304x256_S1x2304x256_0_0_0 x i j (by omega) (by show j.val = 128 * 0 + (x 1).val; omega)
  · exact piece_res _ _ _ _ _ _ 1 1024 inb_S2048x256_S256x128_1024_128 inb_S2048x128_S256x64_1024_64
      inb_S2x2304x192_S1x2304x192_1_0_0 inb_S2x2304x256_S1x2304x256_1_0_0 x i j (by omega) (by show j.val = 128 * 1 + (x 1).val; omega)
  · exact piece_res _ _ _ _ _ _ 0 1024 inb_S2048x256_S256x128_1024_0 inb_S2048x128_S256x64_1024_0
      inb_S2x2304x192_S1x2304x192_0_0_0 inb_S2x2304x256_S1x2304x256_0_0_0 x i j (by omega) (by show j.val = 128 * 0 + (x 1).val; omega)
  · exact piece_res _ _ _ _ _ _ 1 768 inb_S2048x256_S256x128_768_128 inb_S2048x128_S256x64_768_64
      inb_S2x2304x192_S1x2304x192_1_0_0 inb_S2x2304x256_S1x2304x256_1_0_0 x i j (by omega) (by show j.val = 128 * 1 + (x 1).val; omega)
  · exact piece_res _ _ _ _ _ _ 0 768 inb_S2048x256_S256x128_768_0 inb_S2048x128_S256x64_768_0
      inb_S2x2304x192_S1x2304x192_0_0_0 inb_S2x2304x256_S1x2304x256_0_0_0 x i j (by omega) (by show j.val = 128 * 0 + (x 1).val; omega)
  · exact piece_res _ _ _ _ _ _ 1 512 inb_S2048x256_S256x128_512_128 inb_S2048x128_S256x64_512_64
      inb_S2x2304x192_S1x2304x192_1_0_0 inb_S2x2304x256_S1x2304x256_1_0_0 x i j (by omega) (by show j.val = 128 * 1 + (x 1).val; omega)
  · exact piece_res _ _ _ _ _ _ 0 512 inb_S2048x256_S256x128_512_0 inb_S2048x128_S256x64_512_0
      inb_S2x2304x192_S1x2304x192_0_0_0 inb_S2x2304x256_S1x2304x256_0_0_0 x i j (by omega) (by show j.val = 128 * 0 + (x 1).val; omega)
  · exact piece_res _ _ _ _ _ _ 1 256 inb_S2048x256_S256x128_256_128 inb_S2048x128_S256x64_256_64
      inb_S2x2304x192_S1x2304x192_1_0_0 inb_S2x2304x256_S1x2304x256_1_0_0 x i j (by omega) (by show j.val = 128 * 1 + (x 1).val; omega)
  · exact piece_res _ _ _ _ _ _ 0 256 inb_S2048x256_S256x128_256_0 inb_S2048x128_S256x64_256_0
      inb_S2x2304x192_S1x2304x192_0_0_0 inb_S2x2304x256_S1x2304x256_0_0_0 x i j (by omega) (by show j.val = 128 * 0 + (x 1).val; omega)
  · exact piece_res _ _ _ _ _ _ 1 0 inb_S2048x256_S256x128_0_128 inb_S2048x128_S256x64_0_64
      inb_S2x2304x192_S1x2304x192_1_0_0 inb_S2x2304x256_S1x2304x256_1_0_0 x i j (by omega) (by show j.val = 128 * 1 + (x 1).val; omega)
  · exact piece_res _ _ _ _ _ _ 0 0 inb_S2048x256_S256x128_0_0 inb_S2048x128_S256x64_0_0
      inb_S2x2304x192_S1x2304x192_0_0_0 inb_S2x2304x256_S1x2304x256_0_0_0 x i j (by omega) (by show j.val = 128 * 0 + (x 1).val; omega)

end Cert.KernelIdeal.Att

end
-- ==== Proof.Att.Spec.lean ====
/-  The attention as a formula over the three argument arrays: what both programs compute.

    `q` holds, per row, 8 heads of 128 coordinates, then 8 heads of 64 further ones.  `kv` holds, per row and head, 128 key
    coordinates and 128 value coordinates; `kr` the 64 key coordinates shared by all heads.  Batch `b` owns the 2048
    latent rows from 2048 b on, and the 256 context rows from 8192 + 256 b on. -/
module

public import Idealize.ShloMosaic.Lib.Pointwise
public import proofs.«01_k».proof.Proof.Softmax

@[expose] public section

noncomputable section

namespace Cert.Att

open Idealize.ShloMosaic
open scoped BigOperators

/-- The queries' array. -/
abbrev Q := FVec Ideal ⟨2, ![8192, 1536]⟩ .bf16
/-- The keys' and values' array. -/
abbrev KV := FVec Ideal ⟨2, ![9216, 2048]⟩ .bf16
/-- The array of the key coordinates shared by the heads. -/
abbrev KR := FVec Ideal ⟨2, ![9216, 64]⟩ .bf16

/-- Coordinate `d` of the query of row `i` in head `h`. -/
def query (q : Q) (i : Fin 8192) (h : Fin 8) (d : Fin 192) : EReal :=
  if hd : d.val < 128 then q (ix2 i ⟨128 * h.val + d.val, by omega⟩) else q (ix2 i ⟨1024 + 64 * h.val + (d.val - 128), by omega⟩)

/-- The row of batch `b`'s `k`-th key: the latent rows, then the context rows. -/
def keyRow (b : Fin 4) (k : Fin 2304) : Fin 9216 :=
  if hk : k.val < 2048 then ⟨2048 * b.val + k.val, by omega⟩ else ⟨8192 + 256 * b.val + (k.val - 2048), by omega⟩

/-- Coordinate `d` of key `k` in head `h`. -/
def key (kv : KV) (kr : KR) (b : Fin 4) (h : Fin 8) (k : Fin 2304) (d : Fin 192) : EReal :=
  if hd : d.val < 128 then kv (ix2 (keyRow b k) ⟨256 * h.val + d.val, by omega⟩) else kr (ix2 (keyRow b k) ⟨d.val - 128, by omega⟩)

/-- Coordinate `d` of value `k` in head `h`. -/
def value (kv : KV) (b : Fin 4) (h : Fin 8) (k : Fin 2304) (d : Fin 128) : EReal :=
  kv (ix2 (keyRow b k) ⟨256 * h.val + 128 + d.val, by omega⟩)

/-- The batch of a row. -/
def batch (i : Fin 8192) : Fin 4 := ⟨i.val / 2048, by omega⟩

/-- The score of row `i` against key `k` of its batch, in head `h`. -/
def score (q : Q) (kv : KV) (kr : KR) (i : Fin 8192) (h : Fin 8) (k : Fin 2304) : EReal :=
  ∑ d : Fin 192, query q i h d * key kv kr (batch i) h k d

/-- The result as the kernel computes it: the weighted values' sum over the weights' sum. -/
def late (q : Q) (kv : KV) (kr : KR) (i : Fin 8192) (h : Fin 8) (d : Fin 128) : EReal :=
  Ideal.div (∑ k, Softmax.wt (score q kv kr i h) k * value kv (batch i) h k d) (∑ k, Softmax.wt (score q kv kr i h) k * 1)

/-- The result as the reference computes it: the values weighted by the normalised weights. -/
def early (q : Q) (kv : KV) (kr : KR) (i : Fin 8192) (h : Fin 8) (d : Fin 128) : EReal :=
  ∑ k, value kv (batch i) h k d * Ideal.div (Softmax.wt (score q kv kr i h) k) (∑ j, Softmax.wt (score q kv kr i h) j)

/-- The kernel's result array. -/
def lateArr (q : Q) (kv : KV) (kr : KR) : FVec Ideal ⟨2, ![8192, 1024]⟩ .bf16 := fun y =>
  late q kv kr (y 0) ⟨(y 1).val / 128, Nat.div_lt_of_lt_mul (y 1).isLt⟩ ⟨(y 1).val % 128, Nat.mod_lt _ (by decide)⟩

/-- The reference's result array. -/
def earlyArr (q : Q) (kv : KV) (kr : KR) : FVec Ideal ⟨2, ![8192, 1024]⟩ .bf16 := fun y =>
  early q kv kr (y 0) ⟨(y 1).val / 128, Nat.div_lt_of_lt_mul (y 1).isLt⟩ ⟨(y 1).val % 128, Nat.mod_lt _ (by decide)⟩

/-- For finite queries and keys the two are equal. -/
theorem late_eq_early (q : Q) (kv : KV) (kr : KR) (i : Fin 8192) (h : Fin 8) (d : Fin 128)
    (hq : ∀ e, Softmax.Fin' (query q i h e)) (hk : ∀ k e, Softmax.Fin' (key kv kr (batch i) h k e)) :
    late q kv kr i h d = early q kv kr i h d :=
  Softmax.normalise (by decide) _ _ fun k => Softmax.Fin'.sum _ fun e => (hq e).mul (hk k e)

end Cert.Att

end
-- ==== Proof.Att.Whole.lean ====
/-  The attention kernel's result array: every element is the formula `Att.late` of the argument arrays. -/
module

public import proofs.«01_k».proof.Proof.Att.Point
public import proofs.«01_k».proof.Proof.Att.Spec
public import proofs.«01_k».proof.Proof.Gen.KernelIdeal.Value
public import Idealize.ShloMosaic.Lib.Pipeline.ValueKit.Geometry

@[expose] public section

set_option maxRecDepth 16384

noncomputable section

namespace Cert.KernelIdeal.Att

open Cert.KernelIdeal Cert.KernelIdeal.Gen Idealize.ShloMosaic Idealize.ShloMosaic.TcCoe
open Idealize.ShloMosaic.Pipeline (Dat)
open scoped BigOperators

/-- The batch and the head pair of a grid point. -/
abbrev bt (t : Fin cfg0.N) : Nat := (grid0.coords t 0).val
abbrev hp (t : Fin cfg0.N) : Nat := (grid0.coords t 1).val

theorem idx0 : ∀ t : Fin cfg0.N, win0_0.index t = ![(grid0.coords t 0).val, (grid0.coords t 1).val] :=
  (by decide +kernel : ∀ t : Fin grid0.N, win0_0.index t = ![(grid0.coords t 0).val, (grid0.coords t 1).val])
theorem idx1 : ∀ t : Fin cfg0.N, win0_1.index t = ![(grid0.coords t 0).val, 8 + (grid0.coords t 1).val] :=
  (by decide +kernel : ∀ t : Fin grid0.N, win0_1.index t = ![(grid0.coords t 0).val, 8 + (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![32 + (grid0.coords t 0).val, (grid0.coords t 1).val] :=
  (by decide +kernel : ∀ t : Fin grid0.N, win0_3.index t = ![32 + (grid0.coords t 0).val, (grid0.coords t 1).val])
theorem idx4 : ∀ t : Fin cfg0.N, win0_4.index t = ![(grid0.coords t 0).val, 0] :=
  (by decide +kernel : ∀ t : Fin grid0.N, win0_4.index t = ![(grid0.coords t 0).val, 0])
theorem idx5 : ∀ t : Fin cfg0.N, win0_5.index t = ![32 + (grid0.coords t 0).val, 0] :=
  (by decide +kernel : ∀ t : Fin grid0.N, win0_5.index t = ![32 + (grid0.coords t 0).val, 0])
theorem idx6 : ∀ t : Fin cfg0.N, win0_6.index t = ![(grid0.coords t 0).val, (grid0.coords t 1).val] :=
  (by decide +kernel : ∀ t : Fin grid0.N, win0_6.index t = ![(grid0.coords t 0).val, (grid0.coords t 1).val])

variable (m : (ℓ : Loc nD τ sig) → Buf (Elt Ideal) ℓ) (c : Dev nD)

/-- The argument arrays on a device. -/
abbrev aq : Cert.Att.Q := m ((c : Thread nD τ).loc main_arg0)
abbrev akv : Cert.Att.KV := m ((c : Thread nD τ).loc main_arg1)
abbrev akr : Cert.Att.KR := m ((c : Thread nD τ).loc main_arg2)

theorem blk0 (t : Fin cfg0.N) (i : Fin 2048) (j : Fin 256) (i' : Fin 8192) (j' : Fin 1536) (hi : i'.val = bt t * 2048 + i.val)
    (hj : j'.val = hp t * 256 + j.val) : iblk m c 0 t (ix2 i j) = aq m c (ix2 i' j') := by
  blk_simp [iblk]
  refine congrArg (aq m c) ?_
  blk_ext [idx0 t]
  all_goals first | exact hi.symm | exact hj.symm

theorem blk1 (t : Fin cfg0.N) (i : Fin 2048) (j : Fin 128) (i' : Fin 8192) (j' : Fin 1536) (hi : i'.val = bt t * 2048 + i.val)
    (hj : j'.val = (8 + hp t) * 128 + j.val) : iblk m c 1 t (ix2 i j) = aq m c (ix2 i' j') := by
  blk_simp [iblk]
  refine congrArg (aq m c) ?_
  blk_ext [idx1 t]
  all_goals first | exact hi.symm | exact hj.symm

theorem blk2 (t : Fin cfg0.N) (i : Fin 2048) (j : Fin 512) (i' : Fin 9216) (j' : Fin 2048) (hi : i'.val = bt t * 2048 + i.val)
    (hj : j'.val = hp t * 512 + j.val) : X0_2 m c t (ix2 i j) = akv m c (ix2 i' j') := by
  unfold X0_2 Pipeline.Window.fill
  rw [dif_pos (moved0_2 t (ix2 i j))]
  blk_simp [iblk]
  refine congrArg (akv m c) ?_
  blk_ext [idx2 t]
  all_goals first | exact hi.symm | exact hj.symm

theorem blk3 (t : Fin cfg0.N) (i : Fin 256) (j : Fin 512) (i' : Fin 9216) (j' : Fin 2048) (hi : i'.val = (32 + bt t) * 256 + i.val)
    (hj : j'.val = hp t * 512 + j.val) : iblk m c 3 t (ix2 i j) = akv m c (ix2 i' j') := by
  blk_simp [iblk]
  refine congrArg (akv m c) ?_
  blk_ext [idx3 t]
  all_goals first | exact hi.symm | exact hj.symm

theorem blk4 (t : Fin cfg0.N) (i : Fin 2048) (j : Fin 64) (i' : Fin 9216) (j' : Fin 64) (hi : i'.val = bt t * 2048 + i.val)
    (hj : j'.val = j.val) : X0_4 m c t (ix2 i j) = akr m c (ix2 i' j') := by
  unfold X0_4 Pipeline.Window.fill
  rw [dif_pos (moved0_4 t (ix2 i j))]
  blk_simp [iblk]
  refine congrArg (akr m c) ?_
  blk_ext [idx4 t]
  all_goals first | exact hi.symm | exact hj.symm

theorem blk5 (t : Fin cfg0.N) (i : Fin 256) (j : Fin 64) (i' : Fin 9216) (j' : Fin 64) (hi : i'.val = (32 + bt t) * 256 + i.val)
    (hj : j'.val = j.val) : iblk m c 5 t (ix2 i j) = akr m c (ix2 i' j') := by
  blk_simp [iblk]
  refine congrArg (akr m c) ?_
  blk_ext [idx5 t]
  all_goals first | exact hi.symm | exact hj.symm

variable {m c}

theorem qAt_eq (t : Fin cfg0.N) (h : Fin 2) (i : Fin 2048) (e : Fin 192) (i' : Fin 8192) (h' : Fin 8) (hi : i'.val = bt t * 2048 + i.val)
    (hh : h'.val = 2 * hp t + h.val) :
    qAt (iblk m c 0 t) (iblk m c 1 t) h i e = Cert.Att.query (aq m c) i' h' e := by
  unfold qAt Cert.Att.query
  split
  · exact blk0 m c t _ _ _ _ hi (by show 128 * h'.val + e.val = hp t * 256 + (128 * h.val + e.val); omega)
  · exact blk1 m c t _ _ _ _ hi
      (by show 1024 + 64 * h'.val + (e.val - 128) = (8 + hp t) * 128 + (64 * h.val + (e.val - 128)); omega)

theorem kvAt_eq (t : Fin cfg0.N) (k : Fin 2304) (j : Fin 512) (j' : Fin 2048) (b : Fin 4) (hb : b.val = bt t) (hj : j'.val = hp t * 512 + j.val) :
    kvAt (X0_2 m c t) (iblk m c 3 t) k j = akv m c (ix2 (Cert.Att.keyRow b k) j') := by
  unfold kvAt Cert.Att.keyRow
  split
  · exact blk2 m c t _ _ _ _ (by show 2048 * b.val + k.val = bt t * 2048 + k.val; omega) hj
  · exact blk3 m c t _ _ _ _ (by show 8192 + 256 * b.val + (k.val - 2048) = (32 + bt t) * 256 + (k.val - 2048); omega) hj

theorem krAt_eq (t : Fin cfg0.N) (k : Fin 2304) (j : Fin 64) (b : Fin 4) (hb : b.val = bt t) :
    krAt (X0_4 m c t) (iblk m c 5 t) k j = akr m c (ix2 (Cert.Att.keyRow b k) j) := by
  unfold krAt Cert.Att.keyRow
  split
  · exact blk4 m c t _ _ _ _ (by show 2048 * b.val + k.val = bt t * 2048 + k.val; omega) rfl
  · exact blk5 m c t _ _ _ _ (by show 8192 + 256 * b.val + (k.val - 2048) = (32 + bt t) * 256 + (k.val - 2048); omega) rfl

theorem keyAt_eq (t : Fin cfg0.N) (h : Fin 2) (k : Fin 2304) (e : Fin 192) (b : Fin 4) (h' : Fin 8) (hb : b.val = bt t)
    (hh : h'.val = 2 * hp t + h.val) :
    keyAt (X0_2 m c t) (iblk m c 3 t) (X0_4 m c t) (iblk m c 5 t) h k e = Cert.Att.key (akv m c) (akr m c) b h' k e := by
  unfold keyAt Cert.Att.key
  split
  · exact kvAt_eq t k _ _ b hb (by show 256 * h'.val + e.val = hp t * 512 + (256 * h.val + e.val); omega)
  · exact krAt_eq t k _ b hb

theorem valAt_eq (t : Fin cfg0.N) (h : Fin 2) (k : Fin 2304) (d : Fin 128) (b : Fin 4) (h' : Fin 8) (hb : b.val = bt t)
    (hh : h'.val = 2 * hp t + h.val) :
    valAt (X0_2 m c t) (iblk m c 3 t) h k ⟨d.val, by omega⟩ = Cert.Att.value (akv m c) b h' k d := by
  unfold valAt
  rw [dif_pos d.isLt]
  exact kvAt_eq t k _ _ b hb (by show 256 * h'.val + 128 + d.val = hp t * 512 + (256 * h.val + 128 + d.val); omega)

/-- What a grid point writes, as the formula of the argument arrays. -/
theorem point_eq (t : Fin cfg0.N) (i : Fin 2048) (j : Fin 256) (i' : Fin 8192) (j' : Fin 1024) (hi : i'.val = bt t * 2048 + i.val)
    (hj : j'.val = hp t * 256 + j.val) :
    outsAt0 m c t (ix2 i j) = Cert.Att.late (aq m c) (akv m c) (akr m c) i' ⟨j'.val / 128, by omega⟩ ⟨j'.val % 128, by omega⟩ := by
  refine (outsAt0_apply m c t i j).trans ?_
  unfold blockAt resAt Cert.Att.late
  have hh : j'.val / 128 = 2 * hp t + j.val / 128 := by omega
  have hd : (⟨j'.val % 128, by omega⟩ : Fin 128) = ⟨j.val % 128, by omega⟩ := Fin.ext (by show j'.val % 128 = j.val % 128; omega)
  have hb : (Cert.Att.batch i').val = bt t := by show i'.val / 2048 = bt t; omega
  have es : scoreAt (iblk m c 0 t) (iblk m c 1 t) (X0_2 m c t) (iblk m c 3 t) (X0_4 m c t) (iblk m c 5 t) ⟨j.val / 128, by omega⟩ i
      = Cert.Att.score (aq m c) (akv m c) (akr m c) i' ⟨j'.val / 128, by omega⟩ := funext fun k =>
    Finset.sum_congr rfl fun e _ => congrArg₂ (· * ·) (qAt_eq t _ i e i' _ hi hh) (keyAt_eq t _ k e _ _ hb hh)
  rw [es, hd]
  refine congrArg (Ideal.div · _) (Finset.sum_congr rfl fun k _ =>
    congrArg (Softmax.wt (Cert.Att.score (aq m c) (akv m c) (akr m c) i' ⟨j'.val / 128, by omega⟩) k * ·) ?_)
  exact valAt_eq t ⟨j.val / 128, by omega⟩ k ⟨j.val % 128, by omega⟩ _ ⟨j'.val / 128, by omega⟩ hb hh

/-- The result array after the run. -/
theorem final (m : (ℓ : Loc nD τ sig) → Buf (Elt Ideal) ℓ) (c : Dev nD) :
    (dats m 0 c).arrAt 6 cfg0.N = Cert.Att.lateArr (aq m c) (akv m c) (akr m c) := by
  refine (dats m 0 c).arrAt_eq_of_covers 6 _ (by decide +kernel) fun t hf y => ?_
  blk_simp
  rw [after0_6]
  have e : y = ix2 (y 0) (y 1) := by idx_ext
  have h0 : ((win0_6.blk t).view.emb y 0).val = bt t * 2048 + (y 0).val := by blk_simp [idx6 t]
  have h1 : ((win0_6.blk t).view.emb y 1).val = hp t * 256 + (y 1).val := by blk_simp [idx6 t]
  exact (congrArg (outsAt0 m c t) e).trans
    (point_eq t (y 0) (y 1) ((win0_6.blk t).view.emb y 0) ((win0_6.blk t).view.emb y 1) h0 h1)

end Cert.KernelIdeal.Att

end
-- ==== Proof.Att.Reference.lean ====
/-  The reference's result, element by element: it is the attention in the form that normalises the weights first. -/
module

public import proofs.«01_k».proof.Proof.Att.Spec
public import proofs.«01_k».proof.Proof.Gen.ReferenceIdeal.Read

@[expose] public section

set_option maxRecDepth 16384

noncomputable section

namespace Cert.Att.Reference

open Cert.ReferenceIdeal Cert.ReferenceIdeal.Gen Cert.ReferenceIdeal.Read Idealize.ShloMosaic Idealize.ShloMosaic.TcCoe
open scoped BigOperators

/-- The reference's row `i` of batch `b`, in the array of all rows. -/
def row (b : Fin 4) (i : Fin 2048) : Fin 8192 := ⟨2048 * b.val + i.val, by omega⟩

theorem batch_row (b : Fin 4) (i : Fin 2048) : batch (row b i) = b := Fin.ext (by simp only [batch, row]; omega)

/-- The queries, gathered by batch and head. -/
theorem query_eq (q : Q) (b : Fin 4) (i : Fin 2048) (h : Fin 8) (e : Fin 192) :
    val_main_v7 (F := Ideal) q (ix4 b i h e) = query q (row b i) h e := by
  unfold val_main_v7 query row
  by_cases he : e.val < 128
  · rw [dif_pos he]
    refine (concatenate_pair_apply_left (s₁ := S4x2048x8x128) (s₂ := S4x2048x8x64) 3 _ _ _ (ix4 b i h e) rfl (ix4 b i h ⟨e.val, he⟩) (fun a => by fin_cases a <;> rfl)).trans ?_
    rw [val_main_v4_apply, val_main_v3_apply, val_main_v0_apply]
    exact congrArg q (funext fun a => Fin.ext (by fin_cases a <;> simp <;> omega))
  · rw [dif_neg he]
    refine (concatenate_pair_apply_right (s₁ := S4x2048x8x128) (s₂ := S4x2048x8x64) 3 _ _ _ (ix4 b i h e) rfl rfl (ix4 b i h (⟨e.val - 128, by omega⟩ : Fin 64))
      (fun a ha => by fin_cases a <;> first | rfl | exact absurd rfl ha) (by simp; omega)).trans ?_
    rw [val_main_v6_apply, val_main_v5_apply, val_main_v0_apply]
    exact congrArg q (funext fun a => Fin.ext (by fin_cases a <;> simp <;> omega))

/-- The latent rows' keys. -/
theorem latentKey_eq (kv : KV) (kr : KR) (b : Fin 4) (k : Fin 2048) (h : Fin 8) (e : Fin 192) :
    val_main_v14 (F := Ideal) kv kr (ix4 b k h e) = key kv kr b h ⟨k.val, by omega⟩ e := by
  unfold val_main_v14 key keyRow
  rw [dif_pos (show (⟨k.val, by omega⟩ : Fin 2304).val < 2048 from k.isLt)]
  by_cases he : e.val < 128
  · rw [dif_pos he]
    refine (concatenate_pair_apply_left (s₁ := S4x2048x8x128) (s₂ := S4x2048x8x64) 3 _ _ _ (ix4 b k h e) rfl (ix4 b k h ⟨e.val, he⟩) (fun a => by fin_cases a <;> rfl)).trans ?_
    rw [val_main_v13_apply, val_main_v10_apply, val_main_v8_apply, val_main_v1_apply]
    exact congrArg kv (funext fun a => Fin.ext (by fin_cases a <;> simp <;> omega))
  · rw [dif_neg he]
    refine (concatenate_pair_apply_right (s₁ := S4x2048x8x128) (s₂ := S4x2048x8x64) 3 _ _ _ (ix4 b k h e) rfl rfl (ix4 b k h (⟨e.val - 128, by omega⟩ : Fin 64))
      (fun a ha => by fin_cases a <;> first | rfl | exact absurd rfl ha) (by simp; omega)).trans ?_
    rw [val_main_v12_apply, val_main_v11_apply, val_main_v9_apply, val_main_v2_apply]
    exact congrArg kr (funext fun a => Fin.ext (by fin_cases a <;> simp <;> omega))

/-- The context rows' keys. -/
theorem contextKey_eq (kv : KV) (kr : KR) (b : Fin 4) (k : Fin 256) (h : Fin 8) (e : Fin 192) :
    val_main_v22 (F := Ideal) kv kr (ix4 b k h e) = key kv kr b h ⟨2048 + k.val, by omega⟩ e := by
  unfold val_main_v22 key keyRow
  rw [dif_neg (show ¬ (⟨2048 + k.val, by omega⟩ : Fin 2304).val < 2048 from by simp)]
  by_cases he : e.val < 128
  · rw [dif_pos he]
    refine (concatenate_pair_apply_left (s₁ := S4x256x8x128) (s₂ := S4x256x8x64) 3 _ _ _ (ix4 b k h e) rfl (ix4 b k h ⟨e.val, he⟩) (fun a => by fin_cases a <;> rfl)).trans ?_
    rw [val_main_v21_apply, val_main_v18_apply, val_main_v16_apply, val_main_v1_apply]
    exact congrArg kv (funext fun a => Fin.ext (by fin_cases a <;> simp <;> omega))
  · rw [dif_neg he]
    refine (concatenate_pair_apply_right (s₁ := S4x256x8x128) (s₂ := S4x256x8x64) 3 _ _ _ (ix4 b k h e) rfl rfl (ix4 b k h (⟨e.val - 128, by omega⟩ : Fin 64))
      (fun a ha => by fin_cases a <;> first | rfl | exact absurd rfl ha) (by simp; omega)).trans ?_
    rw [val_main_v20_apply, val_main_v19_apply, val_main_v17_apply, val_main_v2_apply]
    exact congrArg kr (funext fun a => Fin.ext (by fin_cases a <;> simp <;> omega))

/-- All keys of a batch. -/
theorem key_eq (kv : KV) (kr : KR) (b : Fin 4) (k : Fin 2304) (h : Fin 8) (e : Fin 192) :
    val_main_v24 (F := Ideal) kv kr (ix4 b k h e) = key kv kr b h k e := by
  unfold val_main_v24
  by_cases hk : k.val < 2048
  · exact (concatenate_pair_apply_left (s₁ := S4x2048x8x192) (s₂ := S4x256x8x192) 1 _ _ _ (ix4 b k h e) rfl (ix4 b ⟨k.val, hk⟩ h e) (fun a => by fin_cases a <;> rfl)).trans
      (latentKey_eq kv kr b ⟨k.val, hk⟩ h e)
  · refine (concatenate_pair_apply_right (s₁ := S4x2048x8x192) (s₂ := S4x256x8x192) 1 _ _ _ (ix4 b k h e) rfl rfl (ix4 b (⟨k.val - 2048, by omega⟩ : Fin 256) h e)
      (fun a ha => by fin_cases a <;> first | rfl | exact absurd rfl ha) (by simp; omega)).trans
      ((contextKey_eq kv kr b ⟨k.val - 2048, by omega⟩ h e).trans ?_)
    exact congrArg (fun k => key kv kr b h k e) (Fin.ext (by simp; omega))

/-- All values of a batch. -/
theorem value_eq (kv : KV) (b : Fin 4) (k : Fin 2304) (h : Fin 8) (d : Fin 128) :
    val_main_v25 (F := Ideal) kv (ix4 b k h d) = value kv b h k d := by
  unfold val_main_v25 value keyRow
  by_cases hk : k.val < 2048
  · rw [dif_pos hk]
    refine (concatenate_pair_apply_left (s₁ := S4x2048x8x128) (s₂ := S4x256x8x128) 1 _ _ _ (ix4 b k h d) rfl (ix4 b ⟨k.val, hk⟩ h d) (fun a => by fin_cases a <;> rfl)).trans ?_
    rw [val_main_v15_apply, val_main_v10_apply, val_main_v8_apply, val_main_v1_apply]
    exact congrArg kv (funext fun a => Fin.ext (by fin_cases a <;> simp <;> omega))
  · rw [dif_neg hk]
    refine (concatenate_pair_apply_right (s₁ := S4x2048x8x128) (s₂ := S4x256x8x128) 1 _ _ _ (ix4 b k h d) rfl rfl (ix4 b (⟨k.val - 2048, by omega⟩ : Fin 256) h d)
      (fun a ha => by fin_cases a <;> first | rfl | exact absurd rfl ha) (by simp; omega)).trans ?_
    rw [val_main_v23_apply, val_main_v18_apply, val_main_v16_apply, val_main_v1_apply]
    exact congrArg kv (funext fun a => Fin.ext (by fin_cases a <;> simp <;> omega))

theorem ext4 {n0 n1 n2 n3 : ℕ} {x y : (⟨4, ![n0, n1, n2, n3]⟩ : Shape).Idx} (h0 : (x 0).val = (y 0).val)
    (h1 : (x 1).val = (y 1).val) (h2 : (x 2).val = (y 2).val) (h3 : (x 3).val = (y 3).val) : x = y :=
  funext fun a => Fin.ext (by fin_cases a <;> assumption)

/-- The scores. -/
theorem score_eq (q : Q) (kv : KV) (kr : KR) (b : Fin 4) (h : Fin 8) (i : Fin 2048) (k : Fin 2304) :
    val_main_v26 (F := Ideal) q kv kr (ix4 b h i k) = score q kv kr (row b i) h k := by
  rw [val_main_v26_apply]
  unfold score
  refine Finset.sum_congr rfl fun e _ => ?_
  rw [batch_row, ← query_eq, ← key_eq]
  exact congrArg₂ (· * ·) (congrArg _ (ext4 rfl rfl rfl rfl)) (congrArg _ (ext4 rfl rfl rfl rfl))

/-- The host's maximum along the last axis, from minus infinity. -/
theorem hostMax_apply (y : FVec Ideal S4x8x2048x2304 .f32) (i : FVec Ideal S_ .f32) (b : Fin 4) (h : Fin 8) (k : Fin 2048) :
    Host.reduce FloatOps.maximumf y i reducesTo_S4x8x2048x2304_S4x8x2048_d3 h_S_ (ix3 b h k)
      = (Finset.univ : Finset (Fin 2304)).fold max (i (Shape.Idx.first h_S_)) fun e => y (ix4 b h k e) := by
  have hr : S4x8x2048x2304.Reduces [3] S4x8x2048 := by decide
  rw [Host.reduce_eq_fold_single FloatOps.maximumf y i reducesTo_S4x8x2048x2304_S4x8x2048_d3 hr h_S_]
  refine congrArg (fun f : Fin 2304 → EReal => Finset.fold max (i (Shape.Idx.first h_S_)) f Finset.univ) (funext fun e => ?_)
  exact congrArg y (ext4 rfl rfl rfl rfl)

/-- The largest score of a row. -/
theorem top_eq (q : Q) (kv : KV) (kr : KR) (b : Fin 4) (h : Fin 8) (i : Fin 2048) :
    val_main_v27 (F := Ideal) q kv kr (ix3 b h i) = Softmax.top (score q kv kr (row b i) h) := by
  unfold val_main_v27 Softmax.top
  refine (hostMax_apply _ _ b h i).trans ?_
  exact congrArg (fun f : Fin 2304 → EReal => Finset.fold max (Ideal.ofBits .f32 0xFF800000#32) f Finset.univ)
    (funext fun k => score_eq q kv kr b h i k)

/-- The weights before normalisation. -/
theorem wt_eq (q : Q) (kv : KV) (kr : KR) (b : Fin 4) (h : Fin 8) (i : Fin 2048) (k : Fin 2304) :
    val_main_v33 (F := Ideal) q kv kr (ix4 b h i k) = Softmax.wt (score q kv kr (row b i) h) k := by
  rw [val_main_v33_apply, val_main_v32_apply, val_main_v31_apply, val_main_v30_apply, val_main_v29_apply, val_main_v28_apply]
  have ht : ∀ y : S4x8x2048.Idx, y = ix3 b h i → val_main_v27 (F := Ideal) q kv kr y = Softmax.top (score q kv kr (row b i) h) :=
    fun y e => e ▸ top_eq q kv kr b h i
  rw [ht _ (funext fun a => Fin.ext (by fin_cases a <;> rfl)), score_eq]
  show Ideal.exp (_ - max (Ideal.ofBits .f32 0xFF800000#32) _) = _
  rw [Softmax.negInf, max_eq_right bot_le]
  rfl

/-- The sum of a row's weights. -/
theorem sum_eq (q : Q) (kv : KV) (kr : KR) (b : Fin 4) (h : Fin 8) (i : Fin 2048) :
    val_main_v34 (F := Ideal) q kv kr (ix3 b h i) = ∑ k, Softmax.wt (score q kv kr (row b i) h) k := by
  rw [val_main_v34_apply, val_main_cst_1_apply]
  refine (congrArg₂ (· + ·) Ideal.ofBits_zero_f32 (Finset.sum_congr rfl fun k _ => ?_)).trans (zero_add _)
  rw [← wt_eq]
  exact congrArg _ (ext4 rfl rfl rfl rfl)

/-- The result, by batch, head and coordinate. -/
theorem out_eq (q : Q) (kv : KV) (kr : KR) (b : Fin 4) (i : Fin 2048) (h : Fin 8) (d : Fin 128) :
    val_main_v38 (F := Ideal) q kv kr (ix4 b h d i) = early q kv kr (row b i) h d := by
  rw [val_main_v38_apply]
  unfold early
  refine Finset.sum_congr rfl fun k _ => ?_
  rw [batch_row, ← value_eq, ← wt_eq, ← sum_eq, val_main_v37_apply, val_main_v36_apply, val_main_v35_apply]
  exact congrArg₂ (· * ·) (congrArg _ (ext4 rfl rfl rfl rfl)) (congrArg₂ Ideal.div (congrArg _ (ext4 rfl rfl rfl rfl))
    (congrArg _ (funext fun a => Fin.ext (by fin_cases a <;> rfl))))

/-- The reference's result array. -/
theorem result (q : Q) (kv : KV) (kr : KR) : val_main_v41 (F := Ideal) q kv kr = earlyArr q kv kr := by
  funext y
  rw [val_main_v41_apply, val_main_v40_apply, val_main_v39_apply]
  have h0 : (y 0).val < 8192 := (y 0).isLt
  have h1 : (y 1).val < 1024 := (y 1).isLt
  refine (congrArg (val_main_v38 (F := Ideal) q kv kr) (ext4 (y := ix4 ⟨(y 0).val / 2048, by omega⟩ ⟨(y 1).val / 128, by omega⟩
    ⟨(y 1).val % 128, by omega⟩ ⟨(y 0).val % 2048, by omega⟩) ?_ ?_ ?_ ?_)).trans ((out_eq q kv kr _ _ _ _).trans ?_)
  · show ((y 0).val * 1024 + (y 1).val) / 2097152 = (y 0).val / 2048; omega
  · show ((y 0).val * 1024 + (y 1).val) / 128 % 8 = (y 1).val / 128; omega
  · show ((y 0).val * 1024 + (y 1).val) % 128 = (y 1).val % 128; omega
  · show ((y 0).val * 1024 + (y 1).val) / 1024 % 2048 = (y 0).val % 2048; omega
  · exact congrArg (fun i => early q kv kr i _ _) (Fin.ext (by simp only [row]; omega))

end Cert.Att.Reference

end
-- ==== Proof.Att.Finite.lean ====
/-  What the attention's precondition says: the queries and the keys are finite. -/
module

public import proofs.«01_k».proof.Proof.Att.Spec
public import proofs.«01_k».proof.Pre_finite_queries_and_keys

@[expose] public section

noncomputable section

namespace Cert.Att

open Idealize.ShloMosaic

/-- The shape relations the predicate states. -/
theorem preFacts : Cert.Pre_finite_queries_and_keys.Facts where
  shapeCasts_S9216x2048_S9216x8x256 := by decide
  slices_S9216x8x256_S9216x8x128_0_0_0 := by decide
  bitsLt_bf16_f32 := by decide
  bcast_S_S8192x1536 := by decide
  bcast_S_S9216x8x128 := by decide
  bcast_S_S9216x64 := by decide

/-- A magnitude that compares below plus infinity is a real number's. -/
theorem fin_of_cmp {x : EReal} (h : Ideal.cmp .olt (max x (-x)) (Ideal.ofBits .f32 0x7F800000#32) = 1#1) : Softmax.Fin' x := by
  have ht : Ideal.ofBits .f32 0x7F800000#32 = ⊤ := by simp [Ideal.ofBits, Ideal.ieee]
  rw [ht] at h
  refine Softmax.fin'_of_abs_lt_top ?_
  by_contra hc
  simp [Ideal.cmp, hc] at h

variable [Cert.Pre_finite_queries_and_keys.Facts]
open Cert.Pre_finite_queries_and_keys Cert.Pre_finite_queries_and_keys.Facts

theorem query_fin (q : Q) (kv : KV) (kr : KR) (h : (fn (F := Ideal) q kv kr).1 = fun _ => 1#1) (y) : Softmax.Fin' (q y) :=
  fin_of_cmp (congrFun h y)

theorem shared_fin (q : Q) (kv : KV) (kr : KR) (h : (fn (F := Ideal) q kv kr).2.2 = fun _ => 1#1) (y) : Softmax.Fin' (kr y) :=
  fin_of_cmp (congrFun h y)

theorem own_fin (q : Q) (kv : KV) (kr : KR) (h : (fn (F := Ideal) q kv kr).2.1 = fun _ => 1#1) (i : Fin 9216) (k : Fin 8) (d : Fin 128) :
    Softmax.Fin' (kv (ix2 i ⟨256 * k.val + d.val, by omega⟩)) := by
  have e : extractStridedSlice S9216x8x128 ![0, 0, 0] (shapeCast S9216x8x256 kv shapeCasts_S9216x2048_S9216x8x256)
      slices_S9216x8x256_S9216x8x128_0_0_0 (ix3 i k d) = kv (ix2 i ⟨256 * k.val + d.val, by omega⟩) := by
    rw [extractStridedSlice_apply ![0, 0, 0] _ slices_S9216x8x256_S9216x8x128_0_0_0 (ix3 i k d)
      (ix3 i k ⟨d.val, by omega⟩) (fun a => by fin_cases a <;> simp)]
    refine shapeCast_apply _ _ _ _ ?_
    rw [Shape.rowMajor_val_two, Shape.rowMajor_val_three]
    show i.val * 2048 + (256 * k.val + d.val) = (i.val * 8 + k.val) * 256 + d.val
    omega
  rw [← e]
  exact fin_of_cmp (congrFun h (ix3 i k d))

/-- Under the precondition the two forms of the attention agree. -/
theorem arr_eq (q : Q) (kv : KV) (kr : KR) (h0 : (fn (F := Ideal) q kv kr).1 = fun _ => 1#1)
    (h1 : (fn (F := Ideal) q kv kr).2.1 = fun _ => 1#1) (h2 : (fn (F := Ideal) q kv kr).2.2 = fun _ => 1#1) :
    lateArr q kv kr = earlyArr q kv kr := by
  funext y
  refine late_eq_early q kv kr _ _ _ (fun e => ?_) (fun k e => ?_)
  · unfold query; split <;> exact query_fin q kv kr h0 _
  · unfold key; split
    · next hd => exact own_fin q kv kr h1 _ _ ⟨e.val, hd⟩
    · exact shared_fin q kv kr h2 _

end Cert.Att

end
-- ==== Proof.Att.Claims.lean ====
/-  The claims about the attention: the three frames, and that kernel and reference end with the same array. -/
module

public import proofs.«01_k».proof.Defs
public import proofs.«01_k».proof.Proof.Att.Whole
public import proofs.«01_k».proof.Proof.Att.Reference
public import proofs.«01_k».proof.Proof.Att.Finite
public import proofs.«01_k».proof.Proof.Gen.Kernel.Frame
public import Idealize.ShloMosaic.Lib.Quiescent

@[expose] public section

noncomputable section

namespace Cert.Att

open Idealize.ShloMosaic Idealize.SL.Sem

theorem frame : Cert.quiescent_Kernel := fun m ρ _ => Cert.Kernel.Gen.frame m ρ

theorem frame_ideal : Cert.quiescent_KernelIdeal := fun m ρ _ => Cert.KernelIdeal.Gen.frame m ρ

theorem frame_ideal_pre [hPre_finite_queries_and_keys : Cert.Pre_finite_queries_and_keys.Facts] : Cert.quiescent_KernelIdeal_pre_finite_queries_and_keys :=
  fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre [hPre_finite_queries_and_keys : Cert.Pre_finite_queries_and_keys.Facts] : Cert.quiescent_ReferenceIdeal_pre_finite_queries_and_keys :=
  fun m ρ _ => frame_reference m ρ trivial

/-- Kernel and reference, run from the same arguments, finite where scores are formed, end with equal results. -/
theorem algebraic [hPre_finite_queries_and_keys : Cert.Pre_finite_queries_and_keys.Facts] :
    Cert.algebraic_KernelIdeal_ReferenceIdeal_pre_finite_queries_and_keys := fun m ρ m' ρ' hpre hag =>
  ⟨fun c => earlyArr (Cert.KernelIdeal.Att.aq m c) (Cert.KernelIdeal.Att.akv m c) (Cert.KernelIdeal.Att.akr m c),
    (θ_run Cert.KernelIdeal.defs _ _).mono (fun _ h c => ⟨(h c).1.trans ((Cert.KernelIdeal.Att.final m c).trans
      (arr_eq _ _ _ (hpre c).1 (hpre c).2.1 (hpre c).2.2)), (h c).2⟩) (Cert.KernelIdeal.Value.run_blocks m ρ),
    (θ_run Cert.ReferenceIdeal.defs _ _).mono (fun _ h c => ⟨(h c).1.trans ((Cert.ReferenceIdeal.Read.val_main_v41_eq m' c).trans
      ((Reference.result _ _ _).trans (by rw [(hag c).1, (hag c).2.1, (hag c).2.2]))), (h c).2⟩)
      (Cert.ReferenceIdeal.Value.run m' ρ')⟩

end Cert.Att

end
-- ==== Proof.Layer.Common.lean ====
/-  What the calls around the attention share: a part of a block, a row times a column, the logistic function, and the
    normalisation of a row by its mean square. -/
module

public import Idealize.ShloMosaic.Lib.Pointwise
public import Idealize.ShloMosaic.Lib.IdealHost
public import Idealize.ShloMosaic.Lib.Pipeline.FrameBody
public import Idealize.ShloMosaic.Lib.Pipeline.ValueKit.Tiles

@[expose] public section

set_option maxRecDepth 16384

noncomputable section

namespace Cert.Layer

open Idealize.ShloMosaic
open scoped BigOperators

/-- An array of `R` rows and `C` columns. -/
abbrev Arr (R C : Nat) (e : FTy) := FVec Ideal ⟨2, ![R, C]⟩ e

/-- The part of a block from an offset on. -/
abbrev part {R C r c : Nat} {e : EltTy} (x : Vec Ideal ⟨2, ![R, C]⟩ e) (off : Fin 2 → Nat) (inb : ∀ a, off a + ![r, c] a ≤ ![R, C] a) :
    Vec Ideal ⟨2, ![r, c]⟩ e :=
  View.ld (Val := Elt Ideal) (S := ⟨2, ![R, C]⟩) (e' := e) x (Rect.unit off ![r, c] inb)

theorem part_apply {R C r c : Nat} {e : EltTy} (x : Vec Ideal ⟨2, ![R, C]⟩ e) (off : Fin 2 → Nat) (inb : ∀ a, off a + ![r, c] a ≤ ![R, C] a)
    (i : Fin r) (j : Fin c) (i' : Fin R) (j' : Fin C) (hi : i'.val = off 0 + i.val) (hj : j'.val = off 1 + j.val) :
    part x off inb (ix2 i j) = x (ix2 i' j') :=
  View.ld_unit_apply_of (S := ⟨2, ![R, C]⟩) (Val := Elt Ideal) (e := e) x off ![r, c] inb (ix2 i j) (ix2 i' j')
    fun a => match a with | 0 => hi | 1 => hj

/-- A whole block, loaded. -/
theorem whole {R C : Nat} {e : EltTy} (x : Vec Ideal ⟨2, ![R, C]⟩ e) (inb : ∀ a, ![0, 0] a + ![R, C] a ≤ ![R, C] a) :
    View.ld (Val := Elt Ideal) (S := ⟨2, ![R, C]⟩) (e' := e) x (Rect.unit ![0, 0] ![R, C] inb) = x :=
  View.ld_unit_zero (S := ⟨2, ![R, C]⟩) (off := ![0, 0]) (funext fun a => match a with | 0 => rfl | 1 => rfl) inb x

/-- A whole block of four axes, loaded. -/
theorem whole4 {A B R C : Nat} {e : EltTy} (x : Vec Ideal ⟨4, ![A, B, R, C]⟩ e) (inb : ∀ a, ![0, 0, 0, 0] a + ![A, B, R, C] a ≤ ![A, B, R, C] a) :
    View.ld (Val := Elt Ideal) (S := ⟨4, ![A, B, R, C]⟩) (e' := e) x (Rect.unit ![0, 0, 0, 0] ![A, B, R, C] inb) = x :=
  View.ld_unit_zero (S := ⟨4, ![A, B, R, C]⟩) (off := ![0, 0, 0, 0]) (funext fun a => match a with | 0 => rfl | 1 => rfl | 2 => rfl | 3 => rfl) inb x

/-- A whole buffer, loaded after a store of the whole. -/
theorem stored {sig : RefSig} {κ : Kind} {sp : Space} {R C : Nat} {e : EltTy} (v : View sig κ sp ⟨2, ![R, C]⟩ e)
    (p : Vec Ideal ⟨2, ![R, C]⟩ e) (inb : ∀ a, ![0, 0] a + ![R, C] a ≤ ![R, C] a) :
    v.readCov (Val := Elt Ideal) [⟨Rect.unit ![0, 0] ![R, C] inb, p⟩] (Rect.unit ![0, 0] ![R, C] inb).toLoadRect = p :=
  View.readCov_unit_zero (S := ⟨2, ![R, C]⟩) v (off := ![0, 0]) (funext fun a => match a with | 0 => rfl | 1 => rfl) inb p

/-- What one store of the whole leaves. -/
theorem stored_canon {R C : Nat} {e : EltTy} (p : Vec Ideal ⟨2, ![R, C]⟩ e) (inb : ∀ a, ![0, 0] a + ![R, C] a ≤ ![R, C] a)
    (L : List (View.Piece (Elt Ideal) ⟨2, ![R, C]⟩ e)) :
    View.canon (⟨Rect.unit ![0, 0] ![R, C] inb, p⟩ :: L) = p :=
  View.canon_cons_unit_zero (S := ⟨2, ![R, C]⟩) (off := ![0, 0]) (funext fun a => match a with | 0 => rfl | 1 => rfl) inb p L

/-- Row `i` of `x` times column `j` of `w`. -/
def dot {R K C : Nat} {e f : FTy} (x : Arr R K e) (w : Arr K C f) (i : Fin R) (j : Fin C) : EReal :=
  ∑ k : Fin K, x (ix2 i k) * w (ix2 k j)

/-- The logistic function. -/
def sigm (x : EReal) : EReal := Ideal.div 1 (1 + Ideal.exp (-x))

theorem logistic_eq (x : EReal) : Ideal.logistic x = sigm x := rfl

/-- An array of four axes, and one of one axis. -/
abbrev Arr4 (A B R C : Nat) (e : FTy) := FVec Ideal ⟨4, ![A, B, R, C]⟩ e
abbrev Arr1 (C : Nat) (e : FTy) := FVec Ideal ⟨1, ![C]⟩ e

/-- Entry `j` of a row of 2048 entries, divided by the root of the row's mean square (and the small constant added to it). -/
def normed (y : Fin 2048 → EReal) (j : Fin 2048) : EReal :=
  y j * Ideal.rsqrt (Ideal.div (∑ k : Fin 2048, y k * y k) (Ideal.ofBits .f32 0x45000000#32) + Ideal.ofBits .f32 0x358637BD#32)

end Cert.Layer

end
-- ==== Proof.FfnIn.Point.lean ====
/-  One grid point of the feed-forward network's first call, read at an element.

    A grid point holds 2048 rows and one tile of 512 columns of each half of the weights.  At the first row block of a tile
    the two weight tiles are cast into scratch buffers; every row block then multiplies by what the scratch holds. -/
module

public import proofs.«01_k».proof.Proof.Layer.Common
public import proofs.«01_k».proof.Proof.Gen.Kernel2Ideal.Frame

@[expose] public section

set_option maxRecDepth 16384

noncomputable section

namespace Cert.Kernel2Ideal.FfnIn

open Cert.Kernel2Ideal Cert.Kernel2Ideal.Gen Cert.Layer Idealize.ShloMosaic Idealize.ShloMosaic.TcCoe
open scoped BigOperators

/-- The gated product of a row with a column of each half of the weights. -/
def gated {R C : Nat} {e f g : FTy} (x : Arr R 2048 e) (wa : Arr 2048 C f) (wb : Arr 2048 C g) (i : Fin R) (j : Fin C) : EReal :=
  dot x wa i j * sigm (dot x wa i j) * dot x wb i j

theorem gated_congr {R C : Nat} {e f g f' g' : FTy} (x : Arr R 2048 e) {wa : Arr 2048 C f} {wb : Arr 2048 C g} {wa' : Arr 2048 C f'}
    {wb' : Arr 2048 C g'} (i : Fin R) (j : Fin C) (ha : ∀ k, wa (ix2 k j) = wa' (ix2 k j)) (hb : ∀ k, wb (ix2 k j) = wb' (ix2 k j)) :
    gated x wa wb i j = gated x wa' wb' i j := by
  have ea : dot x wa i j = dot x wa' i j := Finset.sum_congr rfl fun k _ => congrArg (x (ix2 i k) * ·) (ha k)
  have eb : dot x wb i j = dot x wb' i j := Finset.sum_congr rfl fun k _ => congrArg (x (ix2 i k) * ·) (hb k)
  unfold gated
  rw [ea, eb]

/-- The payload of one store: 512 rows. -/
theorem pay5_apply (x : Vec Ideal S512x2048 .bf16) (wa wb : Vec Ideal S2048x512 .bf16) (i : Fin 512) (j : Fin 512) :
    k0_pay5 (F := Ideal) x wa wb (ix2 i j) = gated (e := .bf16) x (f := .bf16) wa (g := .bf16) wb i j := by
  unfold k0_pay5
  simp only [pointwise]
  rw [zero_add, zero_add]
  rfl

/-- The cast weight tile, at an element. -/
theorem pay3_apply (w : Vec Ideal S2048x512 .f32) (k : Fin 2048) (j : Fin 512) : k0_pay3 (F := Ideal) w (ix2 k j) = w (ix2 k j) := by
  unfold k0_pay3
  simp only [pointwise]

theorem pay4_apply (w : Vec Ideal S2048x512 .f32) (k : Fin 2048) (j : Fin 512) : k0_pay4 (F := Ideal) w (ix2 k j) = w (ix2 k j) :=
  pay3_apply w k j

/-- A store's payload, at an element, over a part of the rows. -/
theorem piece (x : Vec Ideal S2048x2048 .bf16) (wa wb : Vec Ideal S2048x512 .bf16) (n : Nat)
    (inb : ∀ a : Fin 2, ![n, 0] a + ![512, 2048] a ≤ ![2048, 2048] a) (y : S512x512.Idx) (i : Fin 2048) (j : Fin 512)
    (hi : i.val = n + (y 0).val) (hj : j.val = (y 1).val) :
    k0_pay5 (F := Ideal) (part x ![n, 0] inb) wa wb y = gated (e := .bf16) x (f := .bf16) wa (g := .bf16) wb i j := by
  have e : y = ix2 (y 0) (y 1) := by idx_ext
  have ej : j = y 1 := Fin.ext hj
  rw [e, ej]
  refine (pay5_apply _ wa wb (y 0) (y 1)).trans ?_
  have h : ∀ w : Vec Ideal S2048x512 .bf16, dot (e := .bf16) (part x ![n, 0] inb) (f := .bf16) w (y 0) (y 1) = dot (e := .bf16) x (f := .bf16) w i (y 1) := fun w =>
    Finset.sum_congr rfl fun k _ => congrArg (· * w (ix2 k (y 1))) (part_apply x ![n, 0] inb (y 0) k i k hi (Nat.zero_add _).symm)
  unfold gated
  rw [h wa, h wb]

variable (x0 : Vec Ideal S2048x2048 .bf16) (x1 x2 : Vec Ideal S2048x512 .f32)

set_option maxHeartbeats 1000000 in
/-- The block written at the first row block of a tile. -/
theorem outA (c : Dev nD) (t : Fin cfg0.N) (h) (i : Fin 2048) (j : Fin 512) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2 (ix2 i j)
      = gated (e := .bf16) x0 (f := .f32) x1 (g := .f32) x2 i j := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2)]
  unfold kernelRun0_A; dsimp only; sl_unfold_words
  simp only [View.readAt_eq_ld, (hs0_0 t).read_unread, (hs0_1 t).read_unread, (hs0_2 t).read_unread]
  refine Eq.trans ?_ (gated_congr (e := .bf16) x0 (f := .bf16) (wa := k0_pay3 (F := Ideal) x1) (g := .bf16) (wb := k0_pay4 (F := Ideal) x2) i j
    (fun k => pay3_apply x1 k j) (fun k => pay4_apply x2 k j))
  rw [stored, stored, whole x1, whole x2]
  canon_tiles x e
  all_goals (replace e0 : i.val = _ := e0; replace e1 : j.val = _ := e1)
  · exact piece x0 _ _ 1536 _ x i j e0 e1
  · exact piece x0 _ _ 1024 _ x i j e0 e1
  · exact piece x0 _ _ 512 _ x i j e0 e1
  · exact piece x0 _ _ 0 _ x i j (e0.trans (Nat.zero_add _).symm) e1

/-- The first scratch buffer after the first row block of a tile. -/
theorem soutA0 (c : Dev nD) (t : Fin cfg0.N) (h) : sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2 = k0_pay3 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2)]
  unfold kernelRun0_A; dsimp only; sl_unfold_words
  simp only [View.readAt_eq_ld, (hs0_1 t).read_unread]
  rw [stored_canon, whole x1]

/-- The second scratch buffer after the first row block of a tile. -/
theorem soutA1 (c : Dev nD) (t : Fin cfg0.N) (h) : sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2 = k0_pay4 (F := Ideal) x2 := by
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2)]
  unfold kernelRun0_A; dsimp only; sl_unfold_words
  simp only [View.readAt_eq_ld, (hs0_2 t).read_unread]
  rw [stored_canon, whole x2]

set_option maxHeartbeats 1000000 in
/-- The block written at a later row block of a tile, from what the scratch buffers hold. -/
theorem outB (c : Dev nD) (t : Fin cfg0.N) (h) (wa wb : Vec Ideal S2048x512 .bf16) (i : Fin 2048) (j : Fin 512) :
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2 wa wb (ix2 i j)
      = gated (e := .bf16) x0 (f := .bf16) wa (g := .bf16) wb i j := by
  unfold out0_B_3
  rw [View.read_writes_eq_canon _ _ _ (cover0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) h x0 x1 x2 wa wb)]
  unfold kernelRun0_B; dsimp only; sl_unfold_words
  simp only [View.readAt_eq_ld, (hs0_0 t).read_unread, (Memref.isWhole_whole _).read_unread]
  rw [whole wa, whole wb]
  canon_tiles x e
  all_goals (replace e0 : i.val = _ := e0; replace e1 : j.val = _ := e1)
  · exact piece x0 _ _ 1536 _ x i j e0 e1
  · exact piece x0 _ _ 1024 _ x i j e0 e1
  · exact piece x0 _ _ 512 _ x i j e0 e1
  · exact piece x0 _ _ 0 _ x i j (e0.trans (Nat.zero_add _).symm) e1

end Cert.Kernel2Ideal.FfnIn

end
-- ==== Proof.FfnIn.Spec.lean ====
/-  The feed-forward network's first call as a formula over its two argument arrays: what both programs compute. -/
module

public import proofs.«01_k».proof.Proof.Layer.Common

@[expose] public section

noncomputable section

namespace Cert.FfnIn

open Idealize.ShloMosaic Cert.Layer

/-- Element `i`, `j` of the result: the first half's product through the logistic gate, times the second half's. -/
def elem (x : Arr 8192 2048 .bf16) (w : Arr 2048 11264 .f32) (i : Fin 8192) (j : Fin 5632) : EReal :=
  dot x w i ⟨j.val, by omega⟩ * sigm (dot x w i ⟨j.val, by omega⟩) * dot x w i ⟨5632 + j.val, by omega⟩

/-- The result array. -/
def arr (x : Arr 8192 2048 .bf16) (w : Arr 2048 11264 .f32) : Arr 8192 5632 .bf16 := fun y => elem x w (y 0) (y 1)

end Cert.FfnIn

end
-- ==== Proof.FfnIn.Whole.lean ====
/-  The feed-forward network's first call: every element of its result array is the formula `FfnIn.elem`. -/
module

public import proofs.«01_k».proof.Proof.FfnIn.Point
public import proofs.«01_k».proof.Proof.FfnIn.Spec
public import proofs.«01_k».proof.Proof.Gen.Kernel2Ideal.Value
public import Idealize.ShloMosaic.Lib.Pipeline.ValueKit.Geometry

@[expose] public section

set_option maxRecDepth 16384

noncomputable section

namespace Cert.Kernel2Ideal.FfnIn

open Cert.Kernel2Ideal Cert.Kernel2Ideal.Gen Cert.Layer Idealize.ShloMosaic Idealize.ShloMosaic.TcCoe
open Idealize.ShloMosaic.Pipeline (Dat)
open scoped BigOperators

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![0, 11 + t.val / 4] :=
  (by decide +kernel : ∀ t : Fin grid0.N, win0_2.index t = ![0, 11 + t.val / 4])
theorem idx3 : ∀ t : Fin cfg0.N, win0_3.index t = ![t.val % 4, t.val / 4] :=
  (by decide +kernel : ∀ t : Fin grid0.N, win0_3.index t = ![t.val % 4, t.val / 4])

variable (m : (ℓ : Loc nD τ sig) → Buf (Elt Ideal) ℓ) (c : Dev nD)

/-- The argument arrays on a device. -/
abbrev ax : Arr 8192 2048 .bf16 := m ((c : Thread nD τ).loc main_arg0)
abbrev aw : Arr 2048 11264 .f32 := m ((c : Thread nD τ).loc main_arg1)

theorem blk0 (t : Fin cfg0.N) (i : Fin 2048) (j : Fin 2048) (i' : Fin 8192) (hi : i'.val = t.val % 4 * 2048 + i.val) :
    iblk m c 0 t (ix2 i j) = ax m c (ix2 i' j) := by
  blk_simp [iblk]
  refine congrArg (ax m c) ?_
  blk_ext [idx0 t]
  all_goals first | exact hi.symm | rfl

theorem blk1 (t : Fin cfg0.N) (i : Fin 2048) (j : Fin 512) (j' : Fin 11264) (hj : j'.val = t.val / 4 * 512 + j.val) :
    iblk m c 1 t (ix2 i j) = aw m c (ix2 i j') := by
  blk_simp [iblk]
  refine congrArg (aw m c) ?_
  blk_ext [idx1 t]
  all_goals first | exact hj.symm | rfl

theorem blk2 (t : Fin cfg0.N) (i : Fin 2048) (j : Fin 512) (j' : Fin 11264) (hj : j'.val = (11 + t.val / 4) * 512 + j.val) :
    iblk m c 2 t (ix2 i j) = aw m c (ix2 i j') := by
  blk_simp [iblk]
  refine congrArg (aw m c) ?_
  blk_ext [idx2 t]
  all_goals first | exact hj.symm | rfl

/-- What the two scratch buffers hold after a point: the tile's columns of the two halves of the weights. -/
def Held (n : ℕ) (a b : Vec Ideal S2048x512 .bf16) : Prop :=
  ∀ (k : Fin 2048) (j : Fin 512) (ja jb : Fin 11264), ja.val = n / 4 * 512 + j.val → jb.val = (11 + n / 4) * 512 + j.val →
    a (ix2 k j) = aw m c (ix2 k ja) ∧ b (ix2 k j) = aw m c (ix2 k jb)

theorem held (n : ℕ) (hn : n < cfg0.N) : Held m c n (outsAt0 m c n hn).2.1 (outsAt0 m c n hn).2.2 := by
  induction n with
  | zero =>
    rw [outsAt0_A m c ⟨0, hn⟩ rfl]
    dsimp only
    rw [soutA0, soutA1]
    intro k j ja jb ha hb
    rw [pay3_apply, pay4_apply]
    exact ⟨blk1 m c ⟨0, hn⟩ k j ja ha, blk2 m c ⟨0, hn⟩ k j jb hb⟩
  | succ n ih =>
    by_cases h0 : (n + 1) % 4 = 0
    · rw [outsAt0_A m c ⟨n + 1, hn⟩ h0]
      dsimp only
      rw [soutA0, soutA1]
      intro k j ja jb ha hb
      rw [pay3_apply, pay4_apply]
      exact ⟨blk1 m c ⟨n + 1, hn⟩ k j ja ha, blk2 m c ⟨n + 1, hn⟩ k j jb hb⟩
    · rw [outsAt0_B m c ⟨n + 1, hn⟩ h0]
      have e : (n + 1) / 4 = n / 4 := by omega
      intro k j ja jb ha hb
      rw [e] at ha hb
      exact ih (Nat.lt_of_succ_lt hn) k j ja jb ha hb

/-- What a point writes, as the formula of the argument arrays. -/
theorem point_eq (t : Fin cfg0.N) (i : Fin 2048) (j : Fin 512) (i' : Fin 8192) (j' : Fin 5632) (hi : i'.val = t.val % 4 * 2048 + i.val)
    (hj : j'.val = t.val / 4 * 512 + j.val) : (outsAt0 m c t.val t.isLt).1 (ix2 i j) = Cert.FfnIn.elem (ax m c) (aw m c) i' j' := by
  have key : ∀ {f g : FTy} (wa : Arr 2048 512 f) (wb : Arr 2048 512 g), (∀ k, wa (ix2 k j) = aw m c (ix2 k ⟨j'.val, by omega⟩)) →
      (∀ k, wb (ix2 k j) = aw m c (ix2 k ⟨5632 + j'.val, by omega⟩)) →
      gated (e := .bf16) (iblk m c 0 t) wa wb i j = Cert.FfnIn.elem (ax m c) (aw m c) i' j' := fun wa wb ha hb => by
    have e : ∀ {f : FTy} (w : Arr 2048 512 f) (J : Fin 11264), (∀ k, w (ix2 k j) = aw m c (ix2 k J)) →
        dot (e := .bf16) (iblk m c 0 t) w i j = dot (ax m c) (aw m c) i' J := fun w J h =>
      Finset.sum_congr rfl fun k _ => congrArg₂ (· * ·) (blk0 m c t i k i' hi) (h k)
    unfold gated Cert.FfnIn.elem
    rw [e wa _ ha, e wb _ hb]
  by_cases h0 : t.val % 4 = 0
  · rw [outsAt0_A m c t h0]
    dsimp only
    rw [outA]
    refine key (f := .f32) (g := .f32) _ _ (fun k => blk1 m c t k j _ hj) (fun k => blk2 m c t k j _ ?_)
    show 5632 + j'.val = _
    omega
  · rw [outsAt0_B m c t h0]
    have hN : t.val - 1 < cfg0.N := Nat.lt_of_le_of_lt (Nat.sub_le _ _) t.isLt
    have e : (t.val - 1) / 4 = t.val / 4 := by omega
    have H := held m c (t.val - 1) hN
    unfold Held at H
    rw [e] at H
    dsimp only
    rw [outB]
    refine key (f := .bf16) (g := .bf16) _ _
      (fun k => (H k j ⟨j'.val, by omega⟩ ⟨5632 + j'.val, by omega⟩ hj ?_).1) (fun k => (H k j ⟨j'.val, by omega⟩ ⟨5632 + j'.val, by omega⟩ hj ?_).2)
    all_goals (show 5632 + j'.val = _; omega)

/-- The result array after the run. -/
theorem final : (dats m 0 c).arrAt 3 cfg0.N = Cert.FfnIn.arr (ax m c) (aw m c) := by
  refine (dats m 0 c).arrAt_eq_of_covers 3 _ (by decide +kernel) fun t hf y => ?_
  blk_simp
  rw [after0_3]
  have e : y = ix2 (y 0) (y 1) := by idx_ext
  have h0 : ((win0_3.blk t).view.emb y 0).val = t.val % 4 * 2048 + (y 0).val := by blk_simp [idx3 t]
  have h1 : ((win0_3.blk t).view.emb y 1).val = t.val / 4 * 512 + (y 1).val := by blk_simp [idx3 t]
  exact (congrArg (outsAt0 m c t.val t.isLt).1 e).trans
    (point_eq m c t (y 0) (y 1) ((win0_3.blk t).view.emb y 0) ((win0_3.blk t).view.emb y 1) h0 h1)

end Cert.Kernel2Ideal.FfnIn

end
-- ==== Proof.FfnIn.Reference.lean ====
/-  The reference of the feed-forward network's first call: every element of its result array is the formula `FfnIn.elem`. -/
module

public import proofs.«01_k».proof.Proof.FfnIn.Spec
public import proofs.«01_k».proof.Proof.Gen.Reference2Ideal.Read

@[expose] public section

set_option maxRecDepth 16384

noncomputable section

namespace Cert.FfnIn.Reference

open Cert.Reference2Ideal Cert.Reference2Ideal.Gen Cert.Reference2Ideal.Read Cert.Layer Idealize.ShloMosaic Idealize.ShloMosaic.TcCoe
open scoped BigOperators

variable (x : Arr 8192 2048 .bf16) (w : Arr 2048 11264 .f32)

/-- The product with the whole weights. -/
theorem prod_eq (y : S8192x11264.Idx) : val_main_v1 (F := Ideal) x w y = dot x w (y 0) (y 1) := by
  rw [val_main_v1_apply]
  refine Finset.sum_congr rfl fun k _ => congrArg₂ (· * ·) (congrArg x ?_) (congrArg w ?_)
  · exact funext fun a => match a with | 0 => rfl | 1 => rfl
  · exact funext fun a => match a with | 0 => rfl | 1 => rfl

/-- The reference's result array. -/
theorem result : val_main_v6 (F := Ideal) x w = arr x w := by
  funext y
  rw [val_main_v6_apply, val_main_v5_apply, val_main_v4_apply, val_main_call0_v5_apply, val_main_call0_v4_apply,
    val_main_call0_v3_apply, val_main_call0_v2_apply, val_main_call0_v1_apply, val_main_call0_v0_apply, val_main_v2_apply,
    val_main_v3_apply, prod_eq, prod_eq, val_main_call0_cst_apply, val_main_call0_cst_0_apply]
  simp only [Ideal.ofBits_def, Ideal.ofBits_one_f32]
  rfl

end Cert.FfnIn.Reference

end
-- ==== Proof.FfnIn.Claims.lean ====
/-  The claims about the feed-forward network's first call: the three frames, and that kernel and reference end with the
    same array. -/
module

public import proofs.«01_k».proof.Defs
public import proofs.«01_k».proof.Proof.FfnIn.Whole
public import proofs.«01_k».proof.Proof.FfnIn.Reference
public import proofs.«01_k».proof.Proof.Gen.Kernel2.Frame
public import Idealize.ShloMosaic.Lib.Quiescent

@[expose] public section

noncomputable section

namespace Cert.FfnIn

open Idealize.ShloMosaic Idealize.SL.Sem

theorem frame : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Kernel and reference, run from the same arguments, end with equal results. -/
theorem algebraic : Cert.algebraic_Kernel2Ideal_Reference2Ideal := fun m ρ m' ρ' _ hag =>
  ⟨fun c => arr (Cert.Kernel2Ideal.FfnIn.ax m c) (Cert.Kernel2Ideal.FfnIn.aw m c),
    (θ_run Cert.Kernel2Ideal.defs _ _).mono (fun _ h c => ⟨(h c).1.trans (Cert.Kernel2Ideal.FfnIn.final m c), (h c).2⟩)
      (Cert.Kernel2Ideal.Value.run_blocks m ρ),
    (θ_run Cert.Reference2Ideal.defs _ _).mono (fun _ h c => ⟨(h c).1.trans ((Cert.Reference2Ideal.Read.val_main_v6_eq _ _).trans
      ((Reference.result _ _).trans (by rw [(hag c).1, (hag c).2]))), (h c).2⟩)
      (Cert.Reference2Ideal.Value.run m' ρ')⟩

end Cert.FfnIn

end
-- ==== Proof.FfnOut.Spec.lean ====
/-  The feed-forward network's last product as a formula over the argument arrays, half by half: what the kernel's two calls and
    their references compute. -/
module

public import proofs.«01_k».proof.Proof.Layer.Common

@[expose] public section

noncomputable section

namespace Cert.FfnOut

open Idealize.ShloMosaic Cert.Layer
open scoped BigOperators

/-- A block's row before the normalisation: what it is added to, and the scaled product. -/
def pre {f : FTy} (x0 : Arr 256 2816 .bf16) (w : Arr 2816 2048 f) (x2 : Arr 256 2048 .f32) (x3 : Arr4 1 1 1 2048 .f32) (i : Fin 256) (j : Fin 2048) : EReal :=
  x2 (ix2 i j) + x3 (ix4 0 0 0 j) * dot x0 w i j

/-- Row `i`, column `j` of the sum that half `o` of the hidden values enters; the modulation is that of the row's batch. -/
def acc (o : Fin 2) (hid : Arr 8192 5632 .bf16) (w : Arr 5632 2048 .f32) (x : Arr 8192 2048 .f32) (m : Arr4 8 6 1 2048 .f32) (i : Fin 8192) (j : Fin 2048) : EReal :=
  x (ix2 i j) + m (ix4 ⟨i.val / 2048, by omega⟩ 5 0 j) * ∑ k : Fin 2816, hid (ix2 i ⟨o.val * 2816 + k.val, by omega⟩) * w (ix2 ⟨o.val * 2816 + k.val, by omega⟩ j)

/-- The first call's result. -/
def arr0 (hid : Arr 8192 5632 .bf16) (w : Arr 5632 2048 .f32) (x : Arr 8192 2048 .f32) (m : Arr4 8 6 1 2048 .f32) : Arr 8192 2048 .f32 :=
  fun y => acc 0 hid w x m (y 0) (y 1)

/-- The second call's result: the sum is normalised row by row. -/
def arr1 (hid : Arr 8192 5632 .bf16) (w : Arr 5632 2048 .f32) (x : Arr 8192 2048 .f32) (m : Arr4 8 6 1 2048 .f32) (g : Arr1 2048 .f32) : Arr 8192 2048 .f32 :=
  fun y => normed (fun k => acc 1 hid w x m (y 0) k) (y 1) * g (ix1 (y 1))

end Cert.FfnOut

end
-- ==== Proof.FfnOut.Point3.lean ====
/-  One grid point of the first half of the feed-forward network's last product, read at an element.

    A grid point holds 256 rows of the hidden values and the half of the weights.  The first point casts the weights into a
    scratch buffer; every point multiplies by what the scratch holds, scales and adds. -/
module

public import proofs.«01_k».proof.Proof.FfnOut.Spec
public import proofs.«01_k».proof.Proof.Gen.Kernel3Ideal.Frame

@[expose] public section

set_option maxRecDepth 16384

noncomputable section

namespace Cert.Kernel3Ideal.FfnOut

open Cert.Kernel3Ideal Cert.Kernel3Ideal.Gen Cert.Layer Cert.FfnOut Idealize.ShloMosaic Idealize.ShloMosaic.TcCoe
open scoped BigOperators

/-- What is stored, at an element. -/
theorem pay2_apply (x2 : Vec Ideal S256x2048 .f32) (x3 : Vec Ideal S1x1x1x2048 .f32) (x0 : Vec Ideal S256x2816 .bf16) (w : Vec Ideal S2816x2048 .bf16)
    (i : Fin 256) (j : Fin 2048) : k0_pay2 (F := Ideal) x2 x3 x0 w (ix2 i j) = pre (f := .bf16) x0 w x2 x3 i j := by
  unfold k0_pay2
  simp only [pointwise, zero_add]
  rfl

/-- The cast weights, at an element. -/
theorem pay1_apply (w : Vec Ideal S2816x2048 .f32) (k : Fin 2816) (j : Fin 2048) : k0_pay1 (F := Ideal) w (ix2 k j) = w (ix2 k j) := by
  unfold k0_pay1
  simp only [pointwise]

variable (x0 : Vec Ideal S256x2816 .bf16) (x1 : Vec Ideal S2816x2048 .f32) (x2 : Vec Ideal S256x2048 .f32) (x3 : Vec Ideal S1x1x1x2048 .f32)
  (x4 : Vec Ideal S1x2048 .f32)

/-- The block written at the first point. -/
theorem outA (c : Dev nD) (t : Fin cfg0.N) (h) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4
    = k0_pay2 (F := Ideal) x2 x3 x0 (k0_pay1 (F := Ideal) x1) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4)]
  unfold kernelRun0_A; dsimp only; sl_unfold_words
  simp only [View.readAt_eq_ld, (hs0_0 t).read_unread, (hs0_1 t).read_unread, (hs0_2 t).read_unread, (hs0_3 t).read_unread]
  rw [stored_canon, stored, whole x0, whole x1, whole x2, whole4 x3]

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 = k0_pay1 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4)]
  unfold kernelRun0_A; dsimp only; sl_unfold_words
  simp only [View.readAt_eq_ld, (hs0_1 t).read_unread]
  rw [stored_canon, whole x1]

/-- The block written at a later point, from what the scratch buffer holds. -/
theorem outB (c : Dev nD) (t : Fin cfg0.N) (h) (s : Vec Ideal S2816x2048 .bf16) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 s
    = k0_pay2 (F := Ideal) x2 x3 x0 s := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 s)]
  unfold kernelRun0_B; dsimp only; sl_unfold_words
  simp only [View.readAt_eq_ld, (hs0_0 t).read_unread, (hs0_2 t).read_unread, (hs0_3 t).read_unread, (Memref.isWhole_whole _).read_unread]
  rw [stored_canon, whole s, whole x0, whole x2, whole4 x3]

end Cert.Kernel3Ideal.FfnOut

end
-- ==== Proof.FfnOut.Whole3.lean ====
/-  The first half of the feed-forward network's last product: every element of the call's result array is the formula. -/
module

public import proofs.«01_k».proof.Proof.FfnOut.Point3
public import proofs.«01_k».proof.Proof.Gen.Kernel3Ideal.Value
public import Idealize.ShloMosaic.Lib.Pipeline.ValueKit.Geometry

@[expose] public section

set_option maxRecDepth 16384

noncomputable section

namespace Cert.Kernel3Ideal.FfnOut

open Cert.Kernel3Ideal Cert.Kernel3Ideal.Gen Cert.Layer Cert.FfnOut Idealize.ShloMosaic Idealize.ShloMosaic.TcCoe
open Idealize.ShloMosaic.Pipeline (Dat)
open scoped BigOperators

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 8, 5, 0, 0] :=
  (by decide +kernel : ∀ t : Fin grid0.N, win0_3.index t = ![t.val / 8, 5, 0, 0])
theorem idx5 : ∀ t : Fin cfg0.N, win0_5.index t = ![t.val, 0] :=
  (by decide +kernel : ∀ t : Fin grid0.N, win0_5.index t = ![t.val, 0])

variable (m : (ℓ : Loc nD τ sig) → Buf (Elt Ideal) ℓ) (c : Dev nD)

/-- The argument arrays on a device. -/
abbrev ahid : Arr 8192 5632 .bf16 := m ((c : Thread nD τ).loc main_arg0)
abbrev aw : Arr 5632 2048 .f32 := m ((c : Thread nD τ).loc main_arg1)
abbrev ax : Arr 8192 2048 .f32 := m ((c : Thread nD τ).loc main_arg2)
abbrev am : Arr4 8 6 1 2048 .f32 := m ((c : Thread nD τ).loc main_arg3)

theorem blk0 (t : Fin cfg0.N) (i : Fin 256) (k : Fin 2816) (i' : Fin 8192) (hi : i'.val = t.val * 256 + i.val) (k' : Fin 5632)
    (hk : k'.val = 0 * 2816 + k.val) : iblk m c 0 t (ix2 i k) = ahid m c (ix2 i' k') := by
  blk_simp [iblk]
  refine congrArg (ahid m c) ?_
  blk_ext [idx0 t]
  all_goals first | exact hi.symm | (show _ = k'.val; omega)

theorem blk1 (t : Fin cfg0.N) (k : Fin 2816) (j : Fin 2048) (k' : Fin 5632) (hk : k'.val = 0 * 2816 + k.val) :
    iblk m c 1 t (ix2 k j) = aw m c (ix2 k' j) := by
  blk_simp [iblk]
  refine congrArg (aw m c) ?_
  blk_ext [idx1 t]
  all_goals first | rfl | (show _ = k'.val; omega)

theorem blk2 (t : Fin cfg0.N) (i : Fin 256) (j : Fin 2048) (i' : Fin 8192) (hi : i'.val = t.val * 256 + i.val) :
    iblk m c 2 t (ix2 i j) = ax m c (ix2 i' j) := by
  blk_simp [iblk]
  refine congrArg (ax m c) ?_
  blk_ext [idx2 t]
  all_goals first | exact hi.symm | rfl

theorem blk3 (t : Fin cfg0.N) (j : Fin 2048) (b : Fin 8) (hb : b.val = t.val / 8) : iblk m c 3 t (ix4 0 0 0 j) = am m c (ix4 b 5 0 j) := by
  blk_simp [iblk]
  refine congrArg (am m c) ?_
  blk_ext [idx3 t]
  all_goals first | exact hb.symm | rfl

/-- What the scratch buffer holds after any point: the half's rows of the weights. -/
def Held (w : Vec Ideal S2816x2048 .bf16) : Prop :=
  ∀ (k : Fin 2816) (j : Fin 2048) (k' : Fin 5632), k'.val = 0 * 2816 + k.val → w (ix2 k j) = aw m c (ix2 k' j)

theorem held_first (t : Fin cfg0.N) : Held m c (k0_pay1 (F := Ideal) (iblk m c 1 t)) := fun k j k' hk =>
  (pay1_apply _ k j).trans (blk1 m c t k j k' hk)

theorem held (n : ℕ) (hn : n < cfg0.N) : Held m c (outsAt0 m c n hn).2 := by
  induction n with
  | zero =>
    rw [outsAt0_A m c ⟨0, hn⟩ rfl]
    dsimp only
    rw [soutA]
    exact held_first m c _
  | succ n ih =>
    by_cases h0 : (n + 1) % 32 = 0
    · rw [outsAt0_A m c ⟨n + 1, hn⟩ h0]
      dsimp only
      rw [soutA]
      exact held_first m c _
    · rw [outsAt0_B m c ⟨n + 1, hn⟩ h0]
      exact ih (Nat.lt_of_succ_lt hn)

/-- A row of a point, before the normalisation, as the formula of the argument arrays. -/
theorem pre_eq (t : Fin cfg0.N) (w : Vec Ideal S2816x2048 .bf16) (H : Held m c w) (i : Fin 256) (j : Fin 2048) (i' : Fin 8192)
    (hi : i'.val = t.val * 256 + i.val) :
    pre (f := .bf16) (iblk m c 0 t) w (iblk m c 2 t) (iblk m c 3 t) i j = acc 0 (ahid m c) (aw m c) (ax m c) (am m c) i' j := by
  unfold pre acc
  rw [blk2 m c t i j i' hi, blk3 m c t j ⟨i'.val / 2048, by omega⟩ (by show i'.val / 2048 = _; omega)]
  refine congrArg (fun s => ax m c (ix2 i' j) + am m c _ * s) (Finset.sum_congr rfl fun k _ => congrArg₂ (· * ·) ?_ ?_)
  · exact blk0 m c t i k i' hi _ rfl
  · exact H k j _ rfl

/-- What a point writes, as the formula of the argument arrays. -/
theorem point_eq (t : Fin cfg0.N) (i : Fin 256) (j : Fin 2048) (i' : Fin 8192) (hi : i'.val = t.val * 256 + i.val) :
    (outsAt0 m c t.val t.isLt).1 (ix2 i j) = acc 0 (ahid m c) (aw m c) (ax m c) (am m c) i' j := by
  have key : ∀ w : Vec Ideal S2816x2048 .bf16, Held m c w → k0_pay2 (F := Ideal) (iblk m c 2 t) (iblk m c 3 t) (iblk m c 0 t) w (ix2 i j)
      = acc 0 (ahid m c) (aw m c) (ax m c) (am m c) i' j := fun w H => by
    rw [pay2_apply]
    exact pre_eq m c t w H i j i' hi
  by_cases h0 : t.val % 32 = 0
  · rw [outsAt0_A m c t h0]
    dsimp only
    rw [outA]
    exact key _ (held_first m c t)
  · rw [outsAt0_B m c t h0]
    dsimp only
    rw [outB]
    exact key _ (held m c (t.val - 1) _)

/-- The result array after the run. -/
theorem final : (dats m 0 c).arrAt 5 cfg0.N = arr0 (ahid m c) (aw m c) (ax m c) (am m c) := by
  refine (dats m 0 c).arrAt_eq_of_covers 5 _ (by decide +kernel) fun t hf y => ?_
  blk_simp
  rw [after0_5]
  have e : y = ix2 (y 0) (y 1) := by idx_ext
  have h0 : ((win0_5.blk t).view.emb y 0).val = t.val * 256 + (y 0).val := by blk_simp [idx5 t]
  have h1 : ((win0_5.blk t).view.emb y 1) = y 1 := Fin.ext (by blk_simp [idx5 t])
  refine (congrArg (outsAt0 m c t.val t.isLt).1 e).trans ((point_eq m c t (y 0) (y 1) ((win0_5.blk t).view.emb y 0) h0).trans ?_)
  unfold arr0
  rw [h1]

end Cert.Kernel3Ideal.FfnOut

end
-- ==== Proof.FfnOut.Point8.lean ====
/-  One grid point of the second half of the feed-forward network's last product, read at an element.

    A grid point holds 256 rows of the hidden values and the half of the weights.  The first point casts the weights into a
    scratch buffer; every point multiplies by what the scratch holds, scales and adds, and divides each row by the root of its mean square. -/
module

public import proofs.«01_k».proof.Proof.FfnOut.Spec
public import proofs.«01_k».proof.Proof.Gen.Kernel8Ideal.Frame

@[expose] public section

set_option maxRecDepth 16384

noncomputable section

namespace Cert.Kernel8Ideal.FfnOut

open Cert.Kernel8Ideal Cert.Kernel8Ideal.Gen Cert.Layer Cert.FfnOut Idealize.ShloMosaic Idealize.ShloMosaic.TcCoe
open scoped BigOperators

/-- What is stored, at an element. -/
theorem pay2_apply (x2 : Vec Ideal S256x2048 .f32) (x3 : Vec Ideal S1x1x1x2048 .f32) (x0 : Vec Ideal S256x2816 .bf16) (w : Vec Ideal S2816x2048 .bf16)
    (x4 : Vec Ideal S1x2048 .f32) (i : Fin 256) (j : Fin 2048) :
    k0_pay2 (F := Ideal) x2 x3 x0 w x4 (ix2 i j) = normed (fun k => pre (f := .bf16) x0 w x2 x3 i k) j * x4 (ix2 0 j) := by
  unfold k0_pay2
  simp only [pointwise, zero_add]
  rfl

/-- The cast weights, at an element. -/
theorem pay1_apply (w : Vec Ideal S2816x2048 .f32) (k : Fin 2816) (j : Fin 2048) : k0_pay1 (F := Ideal) w (ix2 k j) = w (ix2 k j) := by
  unfold k0_pay1
  simp only [pointwise]

variable (x0 : Vec Ideal S256x2816 .bf16) (x1 : Vec Ideal S2816x2048 .f32) (x2 : Vec Ideal S256x2048 .f32) (x3 : Vec Ideal S1x1x1x2048 .f32)
  (x4 : Vec Ideal S1x2048 .f32)

/-- The block written at the first point. -/
theorem outA (c : Dev nD) (t : Fin cfg0.N) (h) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4
    = k0_pay2 (F := Ideal) x2 x3 x0 (k0_pay1 (F := Ideal) x1) x4 := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4)]
  unfold kernelRun0_A; dsimp only; sl_unfold_words
  simp only [View.readAt_eq_ld, (hs0_0 t).read_unread, (hs0_1 t).read_unread, (hs0_2 t).read_unread, (hs0_3 t).read_unread, (hs0_4 t).read_unread]
  rw [stored_canon, stored, whole x0, whole x1, whole x2, whole4 x3, whole x4]

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 = k0_pay1 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4)]
  unfold kernelRun0_A; dsimp only; sl_unfold_words
  simp only [View.readAt_eq_ld, (hs0_1 t).read_unread]
  rw [stored_canon, whole x1]

/-- The block written at a later point, from what the scratch buffer holds. -/
theorem outB (c : Dev nD) (t : Fin cfg0.N) (h) (s : Vec Ideal S2816x2048 .bf16) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 s
    = k0_pay2 (F := Ideal) x2 x3 x0 s x4 := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h x0 x1 x2 x3 x4 s)]
  unfold kernelRun0_B; dsimp only; sl_unfold_words
  simp only [View.readAt_eq_ld, (hs0_0 t).read_unread, (hs0_2 t).read_unread, (hs0_3 t).read_unread, (hs0_4 t).read_unread, (Memref.isWhole_whole _).read_unread]
  rw [stored_canon, whole s, whole x0, whole x2, whole4 x3, whole x4]

end Cert.Kernel8Ideal.FfnOut

end
-- ==== Proof.FfnOut.Whole8.lean ====
/-  The second half of the feed-forward network's last product: every element of the call's result array is the formula. -/
module

public import proofs.«01_k».proof.Proof.FfnOut.Point8
public import proofs.«01_k».proof.Proof.Gen.Kernel8Ideal.Value
public import Idealize.ShloMosaic.Lib.Pipeline.ValueKit.Geometry

@[expose] public section

set_option maxRecDepth 16384

noncomputable section

namespace Cert.Kernel8Ideal.FfnOut

open Cert.Kernel8Ideal Cert.Kernel8Ideal.Gen Cert.Layer Cert.FfnOut Idealize.ShloMosaic Idealize.ShloMosaic.TcCoe
open Idealize.ShloMosaic.Pipeline (Dat)
open scoped BigOperators

theorem idx0 : ∀ t : Fin cfg0.N, win0_0.index t = ![t.val, 1] :=
  (by decide +kernel : ∀ t : Fin grid0.N, win0_0.index t = ![t.val, 1])
theorem idx1 : ∀ t : Fin cfg0.N, win0_1.index t = ![1, 0] :=
  (by decide +kernel : ∀ t : Fin grid0.N, win0_1.index t = ![1, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 8, 5, 0, 0] :=
  (by decide +kernel : ∀ t : Fin grid0.N, win0_3.index t = ![t.val / 8, 5, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

variable (m : (ℓ : Loc nD τ sig) → Buf (Elt Ideal) ℓ) (c : Dev nD)

/-- The argument arrays on a device. -/
abbrev ahid : Arr 8192 5632 .bf16 := m ((c : Thread nD τ).loc main_arg0)
abbrev aw : Arr 5632 2048 .f32 := m ((c : Thread nD τ).loc main_arg1)
abbrev ax : Arr 8192 2048 .f32 := m ((c : Thread nD τ).loc main_arg2)
abbrev am : Arr4 8 6 1 2048 .f32 := m ((c : Thread nD τ).loc main_arg3)
abbrev ag : Arr1 2048 .f32 := m ((c : Thread nD τ).loc main_arg4)

theorem blk0 (t : Fin cfg0.N) (i : Fin 256) (k : Fin 2816) (i' : Fin 8192) (hi : i'.val = t.val * 256 + i.val) (k' : Fin 5632)
    (hk : k'.val = 1 * 2816 + k.val) : iblk m c 0 t (ix2 i k) = ahid m c (ix2 i' k') := by
  blk_simp [iblk]
  refine congrArg (ahid m c) ?_
  blk_ext [idx0 t]
  all_goals first | exact hi.symm | (show _ = k'.val; omega)

theorem blk1 (t : Fin cfg0.N) (k : Fin 2816) (j : Fin 2048) (k' : Fin 5632) (hk : k'.val = 1 * 2816 + k.val) :
    iblk m c 1 t (ix2 k j) = aw m c (ix2 k' j) := by
  blk_simp [iblk]
  refine congrArg (aw m c) ?_
  blk_ext [idx1 t]
  all_goals first | rfl | (show _ = k'.val; omega)

theorem blk2 (t : Fin cfg0.N) (i : Fin 256) (j : Fin 2048) (i' : Fin 8192) (hi : i'.val = t.val * 256 + i.val) :
    iblk m c 2 t (ix2 i j) = ax m c (ix2 i' j) := by
  blk_simp [iblk]
  refine congrArg (ax m c) ?_
  blk_ext [idx2 t]
  all_goals first | exact hi.symm | rfl

theorem blk3 (t : Fin cfg0.N) (j : Fin 2048) (b : Fin 8) (hb : b.val = t.val / 8) : iblk m c 3 t (ix4 0 0 0 j) = am m c (ix4 b 5 0 j) := by
  blk_simp [iblk]
  refine congrArg (am m c) ?_
  blk_ext [idx3 t]
  all_goals first | exact hb.symm | rfl

/-- The scales of the last normalisation, as the region finds them: the argument, reshaped. -/
theorem blk4 (t : Fin cfg0.N) (j : Fin 2048) : iblk m c 4 t (ix2 0 j) = ag m c (ix1 j) := by
  blk_simp [iblk]
  refine (congrArg (V m c main_v0) (show _ = ix2 (0 : Fin 1) j from ?_)).trans ?_
  · blk_ext [idx4 t]
    all_goals rfl
  · show shapeCast S1x2048 (ag m c) _ (ix2 0 j) = _
    simp only [pointwise]

/-- What the scratch buffer holds after any point: the half's rows of the weights. -/
def Held (w : Vec Ideal S2816x2048 .bf16) : Prop :=
  ∀ (k : Fin 2816) (j : Fin 2048) (k' : Fin 5632), k'.val = 1 * 2816 + k.val → w (ix2 k j) = aw m c (ix2 k' j)

theorem held_first (t : Fin cfg0.N) : Held m c (k0_pay1 (F := Ideal) (iblk m c 1 t)) := fun k j k' hk =>
  (pay1_apply _ k j).trans (blk1 m c t k j k' hk)

theorem held (n : ℕ) (hn : n < cfg0.N) : Held m c (outsAt0 m c n hn).2 := by
  induction n with
  | zero =>
    rw [outsAt0_A m c ⟨0, hn⟩ rfl]
    dsimp only
    rw [soutA]
    exact held_first m c _
  | succ n ih =>
    by_cases h0 : (n + 1) % 32 = 0
    · rw [outsAt0_A m c ⟨n + 1, hn⟩ h0]
      dsimp only
      rw [soutA]
      exact held_first m c _
    · rw [outsAt0_B m c ⟨n + 1, hn⟩ h0]
      exact ih (Nat.lt_of_succ_lt hn)

/-- A row of a point, before the normalisation, as the formula of the argument arrays. -/
theorem pre_eq (t : Fin cfg0.N) (w : Vec Ideal S2816x2048 .bf16) (H : Held m c w) (i : Fin 256) (j : Fin 2048) (i' : Fin 8192)
    (hi : i'.val = t.val * 256 + i.val) :
    pre (f := .bf16) (iblk m c 0 t) w (iblk m c 2 t) (iblk m c 3 t) i j = acc 1 (ahid m c) (aw m c) (ax m c) (am m c) i' j := by
  unfold pre acc
  rw [blk2 m c t i j i' hi, blk3 m c t j ⟨i'.val / 2048, by omega⟩ (by show i'.val / 2048 = _; omega)]
  refine congrArg (fun s => ax m c (ix2 i' j) + am m c _ * s) (Finset.sum_congr rfl fun k _ => congrArg₂ (· * ·) ?_ ?_)
  · exact blk0 m c t i k i' hi _ rfl
  · exact H k j _ rfl

/-- What a point writes, as the formula of the argument arrays. -/
theorem point_eq (t : Fin cfg0.N) (i : Fin 256) (j : Fin 2048) (i' : Fin 8192) (hi : i'.val = t.val * 256 + i.val) :
    (outsAt0 m c t.val t.isLt).1 (ix2 i j) = normed (fun k => acc 1 (ahid m c) (aw m c) (ax m c) (am m c) i' k) j * ag m c (ix1 j) := by
  have key : ∀ w : Vec Ideal S2816x2048 .bf16, Held m c w → k0_pay2 (F := Ideal) (iblk m c 2 t) (iblk m c 3 t) (iblk m c 0 t) w (iblk m c 4 t) (ix2 i j)
      = normed (fun k => acc 1 (ahid m c) (aw m c) (ax m c) (am m c) i' k) j * ag m c (ix1 j) := fun w H => by
    rw [pay2_apply, blk4]
    exact congrArg (fun f => normed f j * ag m c (ix1 j)) (funext fun k => pre_eq m c t w H i k i' hi)
  by_cases h0 : t.val % 32 = 0
  · rw [outsAt0_A m c t h0]
    dsimp only
    rw [outA]
    exact key _ (held_first m c t)
  · rw [outsAt0_B m c t h0]
    dsimp only
    rw [outB]
    exact key _ (held m c (t.val - 1) _)

/-- The result array after the run. -/
theorem final : (dats m 0 c).arrAt 5 cfg0.N = arr1 (ahid m c) (aw m c) (ax m c) (am m c) (ag m c) := by
  refine (dats m 0 c).arrAt_eq_of_covers 5 _ (by decide +kernel) fun t hf y => ?_
  blk_simp
  rw [after0_5]
  have e : y = ix2 (y 0) (y 1) := by idx_ext
  have h0 : ((win0_5.blk t).view.emb y 0).val = t.val * 256 + (y 0).val := by blk_simp [idx5 t]
  have h1 : ((win0_5.blk t).view.emb y 1) = y 1 := Fin.ext (by blk_simp [idx5 t])
  refine (congrArg (outsAt0 m c t.val t.isLt).1 e).trans ((point_eq m c t (y 0) (y 1) ((win0_5.blk t).view.emb y 0) h0).trans ?_)
  unfold arr1
  rw [h1]

end Cert.Kernel8Ideal.FfnOut

end
-- ==== Proof.FfnOut.Reference3.lean ====
/-  The reference of the first half of the feed-forward network's last product: its result array is the formula. -/
module

public import proofs.«01_k».proof.Proof.FfnOut.Spec
public import proofs.«01_k».proof.Proof.Gen.Reference3Ideal.Read

@[expose] public section

set_option maxRecDepth 16384

noncomputable section

namespace Cert.FfnOut.Reference3

open Cert.Reference3Ideal Cert.Reference3Ideal.Gen Cert.Reference3Ideal.Read Cert.Layer Idealize.ShloMosaic Idealize.ShloMosaic.TcCoe
open scoped BigOperators

variable (hid : Arr 8192 5632 .bf16) (w : Arr 5632 2048 .f32) (x : Arr 8192 2048 .f32) (m : Arr4 8 6 1 2048 .f32)

/-- The product with the half of the weights. -/
theorem prod_eq (y : S8192x2048.Idx) : val_main_v5 (F := Ideal) hid w y =
    ∑ k : Fin 2816, hid (ix2 (y 0) ⟨0 * 2816 + k.val, by omega⟩) * w (ix2 ⟨0 * 2816 + k.val, by omega⟩ (y 1)) := by
  rw [val_main_v5_apply]
  refine Finset.sum_congr rfl fun k _ => ?_
  rw [val_main_v3_apply, val_main_v2_apply, val_main_v4_apply]
  refine congrArg₂ (· * ·) (congrArg hid ?_) (congrArg w ?_)
  · exact funext fun a => match a with | 0 => rfl | 1 => Fin.ext (show k.val = 0 * 2816 + k.val by omega)
  · exact funext fun a => match a with | 0 => Fin.ext (show k.val = 0 * 2816 + k.val by omega) | 1 => rfl

/-- The sum at a batch, a row of the batch and a column. -/
theorem acc_eq (b : Fin 4) (r : Fin 2048) (j : Fin 2048) (i : Fin 8192) (hi : i.val = b.val * 2048 + r.val) :
    val_main_v10 (F := Ideal) hid w x m (ix3 b r j) = acc 0 hid w x m i j := by
  rw [val_main_v10_apply, val_main_v9_apply, val_main_v8_apply, val_main_v7_apply, val_main_v6_apply, val_main_v1_apply,
    val_main_v0_apply, prod_eq]
  unfold acc
  have e : idx_main_v6 (ix3 b r j) = ix2 i j := funext fun a => match a with
    | 0 => Fin.ext (show ((b.val * 2048 + r.val) * 2048 + j.val) / 2048 = i.val by omega)
    | 1 => Fin.ext (show ((b.val * 2048 + r.val) * 2048 + j.val) % 2048 = j.val by omega)
  have e7 : idx_main_v7 (ix3 b r j) = ix2 i j := e
  have em : idx_main_v0 (idx_main_v1 (idx_main_v8 (ix3 b r j))) = ix4 ⟨i.val / 2048, by omega⟩ 5 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  rw [e, e7, em]
  rfl

/-- The reference's result, at an element. -/
theorem result_apply (i : Fin 8192) (j : Fin 2048) : val_main_v11 (F := Ideal) hid w x m (ix2 i j) = acc 0 hid w x m i j := by
  obtain ⟨b, hb⟩ : ∃ b : Fin 4, b.val = i.val / 2048 := ⟨⟨i.val / 2048, by omega⟩, rfl⟩
  obtain ⟨r, hr⟩ : ∃ r : Fin 2048, r.val = i.val % 2048 := ⟨⟨i.val % 2048, by omega⟩, rfl⟩
  have e : idx_main_v11 (ix2 i j) = ix3 b r j := funext fun a => match a with
    | 0 => Fin.ext (show (i.val * 2048 + j.val) / 4194304 = b.val by omega)
    | 1 => Fin.ext (show (i.val * 2048 + j.val) / 2048 % 2048 = r.val by omega)
    | 2 => Fin.ext (show (i.val * 2048 + j.val) % 2048 = j.val by omega)
  rw [val_main_v11_apply, e]
  exact acc_eq hid w x m b r j i (by omega)

/-- The reference's result array. -/
theorem result : val_main_v11 (F := Ideal) hid w x m = arr0 hid w x m := by
  funext y
  have e : y = ix2 (y 0) (y 1) := by idx_ext
  exact (congrArg (val_main_v11 (F := Ideal) hid w x m) e).trans (result_apply hid w x m (y 0) (y 1))

end Cert.FfnOut.Reference3

end
-- ==== Proof.FfnOut.Reference8.lean ====
/-  The reference of the second half of the feed-forward network's last product: its result array is the formula. -/
module

public import proofs.«01_k».proof.Proof.FfnOut.Spec
public import proofs.«01_k».proof.Proof.Gen.Reference8Ideal.Read

@[expose] public section

set_option maxRecDepth 16384

noncomputable section

namespace Cert.FfnOut.Reference8

open Cert.Reference8Ideal Cert.Reference8Ideal.Gen Cert.Reference8Ideal.Read Cert.Layer Idealize.ShloMosaic Idealize.ShloMosaic.TcCoe
open scoped BigOperators

variable (hid : Arr 8192 5632 .bf16) (w : Arr 5632 2048 .f32) (x : Arr 8192 2048 .f32) (m : Arr4 8 6 1 2048 .f32) (g : Arr1 2048 .f32)

/-- The product with the half of the weights. -/
theorem prod_eq (y : S8192x2048.Idx) : val_main_v5 (F := Ideal) hid w y =
    ∑ k : Fin 2816, hid (ix2 (y 0) ⟨1 * 2816 + k.val, by omega⟩) * w (ix2 ⟨1 * 2816 + k.val, by omega⟩ (y 1)) := by
  rw [val_main_v5_apply]
  refine Finset.sum_congr rfl fun k _ => ?_
  rw [val_main_v3_apply, val_main_v2_apply, val_main_v4_apply]
  refine congrArg₂ (· * ·) (congrArg hid ?_) (congrArg w ?_)
  · exact funext fun a => match a with | 0 => rfl | 1 => rfl
  · exact funext fun a => match a with | 0 => rfl | 1 => rfl

/-- The sum before the normalisation, at a batch, a row of the batch and a column. -/
theorem acc_eq (b : Fin 4) (r : Fin 2048) (j : Fin 2048) (i : Fin 8192) (hi : i.val = b.val * 2048 + r.val) :
    val_main_v10 (F := Ideal) hid w x m (ix3 b r j) = acc 1 hid w x m i j := by
  rw [val_main_v10_apply, val_main_v9_apply, val_main_v8_apply, val_main_v7_apply, val_main_v6_apply, val_main_v1_apply,
    val_main_v0_apply, prod_eq]
  unfold acc
  have e : idx_main_v6 (ix3 b r j) = ix2 i j := funext fun a => match a with
    | 0 => Fin.ext (show ((b.val * 2048 + r.val) * 2048 + j.val) / 2048 = i.val by omega)
    | 1 => Fin.ext (show ((b.val * 2048 + r.val) * 2048 + j.val) % 2048 = j.val by omega)
  have e7 : idx_main_v7 (ix3 b r j) = ix2 i j := e
  have em : idx_main_v0 (idx_main_v1 (idx_main_v8 (ix3 b r j))) = ix4 ⟨i.val / 2048, by omega⟩ 5 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  rw [e, e7, em]
  rfl

/-- The reference's result, at an element. -/
theorem result_apply (i : Fin 8192) (j : Fin 2048) : val_main_v24 (F := Ideal) hid w x m g (ix2 i j)
    = normed (fun k => acc 1 hid w x m i k) j * g (ix1 j) := by
  obtain ⟨b, hb⟩ : ∃ b : Fin 4, b.val = i.val / 2048 := ⟨⟨i.val / 2048, by omega⟩, rfl⟩
  obtain ⟨r, hr⟩ : ∃ r : Fin 2048, r.val = i.val % 2048 := ⟨⟨i.val % 2048, by omega⟩, rfl⟩
  have e : idx_main_v24 (ix2 i j) = ix3 b r j := funext fun a => match a with
    | 0 => Fin.ext (show (i.val * 2048 + j.val) / 4194304 = b.val by omega)
    | 1 => Fin.ext (show (i.val * 2048 + j.val) / 2048 % 2048 = r.val by omega)
    | 2 => Fin.ext (show (i.val * 2048 + j.val) % 2048 = j.val by omega)
  have hi : i.val = b.val * 2048 + r.val := by omega
  have es : ∀ k : Fin 2048, val_main_v11 (F := Ideal) hid w x m (idx_main_v12 (idx_main_v13 (idx_main_v19 (ix3 b r j))) k)
      = acc 1 hid w x m i k * acc 1 hid w x m i k := fun k => by
    have ek : idx_main_v12 (idx_main_v13 (idx_main_v19 (ix3 b r j))) k = ix3 b r k :=
      funext fun a => match a with | 0 => rfl | 1 => rfl | 2 => rfl
    rw [ek, val_main_v11_apply, acc_eq hid w x m b r k i hi]
    rfl
  have eg : idx_main_v21 (idx_main_v22 (ix3 b r j)) = ix1 j := funext fun a => match a with | 0 => rfl
  rw [val_main_v24_apply, e, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, acc_eq hid w x m b r j i hi, eg, Finset.sum_congr rfl fun k _ => es k,
    val_main_cst_apply, val_main_cst_0_apply, val_main_cst_1_apply]
  simp only [Ideal.ofBits_def, Ideal.ofBits_zero_f32, zero_add]
  rfl

/-- The reference's result array. -/
theorem result : val_main_v24 (F := Ideal) hid w x m g = arr1 hid w x m g := by
  funext y
  have e : y = ix2 (y 0) (y 1) := by idx_ext
  exact (congrArg (val_main_v24 (F := Ideal) hid w x m g) e).trans (result_apply hid w x m g (y 0) (y 1))

end Cert.FfnOut.Reference8

end
-- ==== Proof.FfnOut.Claims.lean ====
/-  The claims about the feed-forward network's last product, half by half: the frames, and that kernel and reference end with
    the same array. -/
module

public import proofs.«01_k».proof.Defs
public import proofs.«01_k».proof.Proof.FfnOut.Whole3
public import proofs.«01_k».proof.Proof.FfnOut.Whole8
public import proofs.«01_k».proof.Proof.FfnOut.Reference3
public import proofs.«01_k».proof.Proof.FfnOut.Reference8
public import proofs.«01_k».proof.Proof.Gen.Kernel3.Frame
public import proofs.«01_k».proof.Proof.Gen.Kernel8.Frame
public import Idealize.ShloMosaic.Lib.Quiescent

@[expose] public section

noncomputable section

namespace Cert.FfnOut

open Idealize.ShloMosaic Idealize.SL.Sem

theorem frame3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- Kernel and reference, run from the same arguments, end with equal results. -/
theorem algebraic3 : Cert.algebraic_Kernel3Ideal_Reference3Ideal := fun m ρ m' ρ' _ hag =>
  ⟨fun c => arr0 (Cert.Kernel3Ideal.FfnOut.ahid m c) (Cert.Kernel3Ideal.FfnOut.aw m c) (Cert.Kernel3Ideal.FfnOut.ax m c) (Cert.Kernel3Ideal.FfnOut.am m c),
    (θ_run Cert.Kernel3Ideal.defs _ _).mono (fun _ h c => ⟨(h c).1.trans (Cert.Kernel3Ideal.FfnOut.final m c), (h c).2⟩)
      (Cert.Kernel3Ideal.Value.run_blocks m ρ),
    (θ_run Cert.Reference3Ideal.defs _ _).mono (fun _ h c => ⟨(h c).1.trans ((Cert.Reference3Ideal.Read.val_main_v11_eq _ _ _ _).trans
      ((Reference3.result _ _ _ _).trans (by rw [(hag c).1, (hag c).2.1, (hag c).2.2.1, (hag c).2.2.2.1]))), (h c).2⟩)
      (Cert.Reference3Ideal.Value.run m' ρ')⟩

theorem frame8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- Kernel and reference, run from the same arguments, end with equal results. -/
theorem algebraic8 : Cert.algebraic_Kernel8Ideal_Reference8Ideal := fun m ρ m' ρ' _ hag =>
  ⟨fun c => arr1 (Cert.Kernel8Ideal.FfnOut.ahid m c) (Cert.Kernel8Ideal.FfnOut.aw m c) (Cert.Kernel8Ideal.FfnOut.ax m c) (Cert.Kernel8Ideal.FfnOut.am m c) (Cert.Kernel8Ideal.FfnOut.ag m c),
    (θ_run Cert.Kernel8Ideal.defs _ _).mono (fun _ h c => ⟨(h c).1.trans (Cert.Kernel8Ideal.FfnOut.final m c), (h c).2⟩)
      (Cert.Kernel8Ideal.Value.run_blocks m ρ),
    (θ_run Cert.Reference8Ideal.defs _ _).mono (fun _ h c => ⟨(h c).1.trans ((Cert.Reference8Ideal.Read.val_main_v24_eq _ _ _ _ _).trans
      ((Reference8.result _ _ _ _ _).trans (by rw [(hag c).1, (hag c).2.1, (hag c).2.2.1, (hag c).2.2.2.1, (hag c).2.2.2.2]))), (h c).2⟩)
      (Cert.Reference8Ideal.Value.run m' ρ')⟩

end Cert.FfnOut

end
-- ==== Proof.Gates.Point.lean ====
/-  One grid point of the gates' call, read at an element.

    A grid point holds 1024 rows and 1024 rows of the transposed weights.  At the first row block of a weight tile the tile is
    cast into a scratch buffer; every row block multiplies by what the scratch holds. -/
module

public import proofs.«01_k».proof.Proof.Layer.Common
public import proofs.«01_k».proof.Proof.Gen.Kernel4Ideal.Frame

@[expose] public section

set_option maxRecDepth 16384

noncomputable section

namespace Cert.Kernel4Ideal.Gates

open Cert.Kernel4Ideal Cert.Kernel4Ideal.Gen Cert.Layer Idealize.ShloMosaic Idealize.ShloMosaic.TcCoe
open scoped BigOperators

/-- What is stored, at an element. -/
theorem pay2_apply (x : Vec Ideal S1024x2048 .bf16) (w : Vec Ideal S1024x2048 .bf16) (i j : Fin 1024) :
    k0_pay2 (F := Ideal) x w (ix2 i j) = sigm (∑ k : Fin 2048, x (ix2 i k) * w (ix2 j k)) := by
  unfold k0_pay2
  simp only [pointwise, zero_add]
  rfl

/-- The cast weights, at an element. -/
theorem pay1_apply (w : Vec Ideal S1024x2048 .f32) (j : Fin 1024) (k : Fin 2048) : k0_pay1 (F := Ideal) w (ix2 j k) = w (ix2 j k) := by
  unfold k0_pay1
  simp only [pointwise]

variable (x0 : Vec Ideal S1024x2048 .bf16) (x1 : Vec Ideal S1024x2048 .f32)

/-- The block written at the first row block of a tile. -/
theorem outA (c : Dev nD) (t : Fin cfg0.N) (h) : out0_A_2 c (grid0.coords t) (ms0_0 t) (hs0_0 t) (ms0_1 t) (hs0_1 t) (ms0_2 t) (hs0_2 t) scM0_0 (Memref.isWhole_whole _) h x0 x1 = k0_pay2 (F := Ideal) x0 (k0_pay1 (F := Ideal) x1) := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) h x0 x1)]
  unfold kernelRun0_A; dsimp only; sl_unfold_words
  simp only [View.readAt_eq_ld, (hs0_0 t).read_unread, (hs0_1 t).read_unread]
  rw [stored_canon, stored, whole x0, whole x1]

/-- The scratch buffer after the first row block of a tile. -/
theorem soutA (c : Dev nD) (t : Fin cfg0.N) (h) : sout0_A_0 c (grid0.coords t) (ms0_0 t) (hs0_0 t) (ms0_1 t) (hs0_1 t) (ms0_2 t) (hs0_2 t) scM0_0 (Memref.isWhole_whole _) h x0 x1 = k0_pay1 (F := Ideal) x1 := by
  unfold sout0_A_0
  rw [View.read_writes_eq_canon _ _ _ (scover0_A_0 c (grid0.coords t) (ms0_0 t) (hs0_0 t) (ms0_1 t) (hs0_1 t) (ms0_2 t) (hs0_2 t) scM0_0 (Memref.isWhole_whole _) h x0 x1)]
  unfold kernelRun0_A; dsimp only; sl_unfold_words
  simp only [View.readAt_eq_ld, (hs0_1 t).read_unread]
  rw [stored_canon, whole x1]

/-- The block written at a later row block of a tile, from what the scratch buffer holds. -/
theorem outB (c : Dev nD) (t : Fin cfg0.N) (h) (s : Vec Ideal S1024x2048 .bf16) : out0_B_2 c (grid0.coords t) (ms0_0 t) (hs0_0 t) (ms0_1 t) (hs0_1 t) (ms0_2 t) (hs0_2 t) scM0_0 (Memref.isWhole_whole _) h x0 x1 s = k0_pay2 (F := Ideal) x0 s := by
  unfold out0_B_2
  rw [View.read_writes_eq_canon _ _ _ (cover0_B_2 c (grid0.coords t) (ms0_0 t) (hs0_0 t) (ms0_1 t) (hs0_1 t) (ms0_2 t) (hs0_2 t) scM0_0 (Memref.isWhole_whole _) h x0 x1 s)]
  unfold kernelRun0_B; dsimp only; sl_unfold_words
  simp only [View.readAt_eq_ld, (hs0_0 t).read_unread, (Memref.isWhole_whole _).read_unread]
  rw [stored_canon, whole s, whole x0]

end Cert.Kernel4Ideal.Gates

end
-- ==== Proof.Gates.Spec.lean ====
/-  The gates as a formula over the normalised rows and the input weights: what kernel and reference compute. -/
module

public import proofs.«01_k».proof.Proof.Layer.Common

@[expose] public section

noncomputable section

namespace Cert.Gates

open Idealize.ShloMosaic Cert.Layer
open scoped BigOperators

/-- An array of three axes. -/
abbrev Arr3 (A R C : Nat) (e : FTy) := FVec Ideal ⟨3, ![A, R, C]⟩ e

/-- Element `i`, `j`: the gates' columns of the weights begin at 1856, and only the first 8192 rows have gates. -/
def elem (x : Arr 9216 2048 .bf16) (w : Arr3 1 2048 5952 .f32) (i : Fin 8192) (j : Fin 4096) : EReal :=
  sigm (∑ k : Fin 2048, x (ix2 ⟨i.val, by omega⟩ k) * w (ix3 0 k ⟨1856 + j.val, by omega⟩))

/-- The result array. -/
def arr (x : Arr 9216 2048 .bf16) (w : Arr3 1 2048 5952 .f32) : Arr 8192 4096 .bf16 := fun y => elem x w (y 0) (y 1)

end Cert.Gates

end
-- ==== Proof.Gates.Whole.lean ====
/-  The gates' call: every element of its result array is the formula `Gates.elem`. -/
module

public import proofs.«01_k».proof.Proof.Gates.Point
public import proofs.«01_k».proof.Proof.Gates.Spec
public import proofs.«01_k».proof.Proof.Gen.Kernel4Ideal.Value
public import Idealize.ShloMosaic.Lib.Pipeline.ValueKit.Geometry

@[expose] public section

set_option maxRecDepth 16384

noncomputable section

namespace Cert.Kernel4Ideal.Gates

open Cert.Kernel4Ideal Cert.Kernel4Ideal.Gen Cert.Layer Idealize.ShloMosaic Idealize.ShloMosaic.TcCoe
open Idealize.ShloMosaic.Pipeline (Dat)
open scoped BigOperators

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![1856 + t.val / 8 * 1024, 0] :=
  (by decide +kernel : ∀ t : Fin grid0.N, win0_1.index t = ![1856 + t.val / 8 * 1024, 0])
theorem idx2 : ∀ t : Fin cfg0.N, win0_2.index t = ![t.val % 8, t.val / 8] :=
  (by decide +kernel : ∀ t : Fin grid0.N, win0_2.index t = ![t.val % 8, t.val / 8])

variable (m : (ℓ : Loc nD τ sig) → Buf (Elt Ideal) ℓ) (c : Dev nD)

/-- The argument arrays on a device. -/
abbrev ax : Arr 9216 2048 .bf16 := m ((c : Thread nD τ).loc main_arg0)
abbrev aw : Cert.Gates.Arr3 1 2048 5952 .f32 := m ((c : Thread nD τ).loc main_arg1)

theorem blk0 (t : Fin cfg0.N) (i : Fin 1024) (k : Fin 2048) (i' : Fin 9216) (hi : i'.val = t.val % 8 * 1024 + i.val) :
    iblk m c 0 t (ix2 i k) = ax m c (ix2 i' k) := by
  blk_simp [iblk]
  refine congrArg (ax m c) ?_
  blk_ext [idx0 t]
  all_goals first | exact hi.symm | rfl

/-- The weights as the region finds them: one matrix, transposed. -/
theorem weights (r : Fin 5952) (k : Fin 2048) : V m c main_v1 (ix2 r k) = aw m c (ix3 0 k r) := by
  show transpose S5952x2048 [1, 0] (shapeCast S2048x5952 (aw m c) _) _ (ix2 r k) = _
  simp only [pointwise]

theorem blk1 (t : Fin cfg0.N) (j : Fin 1024) (k : Fin 2048) (r : Fin 5952) (hr : r.val = 1856 + t.val / 8 * 1024 + j.val) :
    iblk m c 1 t (ix2 j k) = aw m c (ix3 0 k r) := by
  blk_simp [iblk]
  refine (congrArg (V m c main_v1) (show _ = ix2 r k from ?_)).trans (weights m c r k)
  refine funext fun a => Fin.ext ?_
  have h := Pipeline.Window.rect_emb_val_off win0_1 t (ix2 j k) a
  rw [idx1 t] at h
  match a with
  | 0 => exact h.trans hr.symm
  | 1 => exact h.trans (Nat.zero_add _)

/-- What the scratch buffer holds after a point: the tile's columns of the weights. -/
def Held (n : ℕ) (w : Vec Ideal S1024x2048 .bf16) : Prop :=
  ∀ (j : Fin 1024) (k : Fin 2048) (r : Fin 5952), r.val = 1856 + n / 8 * 1024 + j.val → w (ix2 j k) = aw m c (ix3 0 k r)

theorem held_first (t : Fin cfg0.N) : Held m c t.val (k0_pay1 (F := Ideal) (iblk m c 1 t)) := fun j k r hr =>
  (pay1_apply _ j k).trans (blk1 m c t j k r hr)

theorem held (n : ℕ) (hn : n < cfg0.N) : Held m c n (outsAt0 m c n hn).2 := by
  induction n with
  | zero =>
    rw [outsAt0_A m c ⟨0, hn⟩ rfl]
    dsimp only
    rw [soutA]
    exact held_first m c ⟨0, hn⟩
  | succ n ih =>
    by_cases h0 : (n + 1) % 8 = 0
    · rw [outsAt0_A m c ⟨n + 1, hn⟩ h0]
      dsimp only
      rw [soutA]
      exact held_first m c ⟨n + 1, hn⟩
    · rw [outsAt0_B m c ⟨n + 1, hn⟩ h0]
      have e : (n + 1) / 8 = n / 8 := by omega
      intro j k r hr
      rw [e] at hr
      exact ih (Nat.lt_of_succ_lt hn) j k r hr

/-- What a point writes, as the formula of the argument arrays. -/
theorem point_eq (t : Fin cfg0.N) (i j : Fin 1024) (i' : Fin 8192) (j' : Fin 4096) (hi : i'.val = t.val % 8 * 1024 + i.val)
    (hj : j'.val = t.val / 8 * 1024 + j.val) : (outsAt0 m c t.val t.isLt).1 (ix2 i j) = Cert.Gates.elem (ax m c) (aw m c) i' j' := by
  have key : ∀ w : Vec Ideal S1024x2048 .bf16, Held m c t.val w →
      k0_pay2 (F := Ideal) (iblk m c 0 t) w (ix2 i j) = Cert.Gates.elem (ax m c) (aw m c) i' j' := fun w H => by
    rw [pay2_apply]
    unfold Cert.Gates.elem
    refine congrArg sigm (Finset.sum_congr rfl fun k _ => congrArg₂ (· * ·) ?_ ?_)
    · exact blk0 m c t i k _ hi
    · exact H j k _ (by show 1856 + j'.val = _; omega)
  by_cases h0 : t.val % 8 = 0
  · rw [outsAt0_A m c t h0]
    dsimp only
    rw [outA]
    exact key _ (held_first m c t)
  · rw [outsAt0_B m c t h0]
    dsimp only
    rw [outB]
    have hN : t.val - 1 < cfg0.N := Nat.lt_of_le_of_lt (Nat.sub_le _ _) t.isLt
    have e : (t.val - 1) / 8 = t.val / 8 := by omega
    have H := held m c (t.val - 1) hN
    unfold Held at H
    rw [e] at H
    exact key _ H

/-- The result array after the run. -/
theorem final : (dats m 0 c).arrAt 2 cfg0.N = Cert.Gates.arr (ax m c) (aw m c) := by
  refine (dats m 0 c).arrAt_eq_of_covers 2 _ (by decide +kernel) fun t hf y => ?_
  blk_simp
  rw [after0_2]
  have e : y = ix2 (y 0) (y 1) := by idx_ext
  have h0 : ((win0_2.blk t).view.emb y 0).val = t.val % 8 * 1024 + (y 0).val := by blk_simp [idx2 t]
  have h1 : ((win0_2.blk t).view.emb y 1).val = t.val / 8 * 1024 + (y 1).val := by blk_simp [idx2 t]
  exact (congrArg (outsAt0 m c t.val t.isLt).1 e).trans
    (point_eq m c t (y 0) (y 1) ((win0_2.blk t).view.emb y 0) ((win0_2.blk t).view.emb y 1) h0 h1)

end Cert.Kernel4Ideal.Gates

end
-- ==== Proof.Gates.Reference.lean ====
/-  The gates' reference: every element of its result array is the formula `Gates.elem`. -/
module

public import proofs.«01_k».proof.Proof.Gates.Spec
public import proofs.«01_k».proof.Proof.Gen.Reference4Ideal.Read

@[expose] public section

set_option maxRecDepth 16384

noncomputable section

namespace Cert.Gates.Reference

open Cert.Reference4Ideal Cert.Reference4Ideal.Gen Cert.Reference4Ideal.Read Cert.Layer Idealize.ShloMosaic Idealize.ShloMosaic.TcCoe
open scoped BigOperators

variable (x : Arr 9216 2048 .bf16) (w : Arr3 1 2048 5952 .f32)

/-- The product before the logistic function. -/
theorem prod_eq (i : Fin 8192) (j : Fin 4096) : val_main_v4 (F := Ideal) x w (ix2 i j) =
    ∑ k : Fin 2048, x (ix2 ⟨i.val, by omega⟩ k) * w (ix3 0 k ⟨1856 + j.val, by omega⟩) := by
  rw [val_main_v4_apply]
  refine Finset.sum_congr rfl fun k _ => ?_
  rw [val_main_v1_apply, val_main_v0_apply, val_main_v3_apply, val_main_v2_apply]
  refine congrArg₂ (· * ·) (congrArg x ?_) (congrArg w ?_)
  · exact funext fun a => match a with | 0 => rfl | 1 => rfl
  · exact funext fun a => match a with
      | 0 => rfl
      | 1 => Fin.ext (show (k.val * 5952 + (1856 + j.val)) / 5952 % 2048 = k.val by omega)
      | 2 => Fin.ext (show (k.val * 5952 + (1856 + j.val)) % 5952 = 1856 + j.val by omega)

/-- The reference's result array. -/
theorem result : val_main_v11 (F := Ideal) x w = arr x w := by
  funext y
  have e : y = ix2 (y 0) (y 1) := by idx_ext
  have h : ∀ (i : Fin 8192) (j : Fin 4096), val_main_v11 (F := Ideal) x w (ix2 i j) = elem x w i j := fun i j => by
    rw [val_main_v11_apply, val_main_v10_apply, val_main_v9_apply, val_main_v8_apply, val_main_v7_apply, val_main_v6_apply,
      val_main_v5_apply, prod_eq, val_main_cst_apply, val_main_cst_0_apply]
    simp only [Ideal.ofBits_def, Ideal.ofBits_one_f32]
    rfl
  exact (congrArg (val_main_v11 (F := Ideal) x w) e).trans (h (y 0) (y 1))

end Cert.Gates.Reference

end
-- ==== Proof.Gates.Claims.lean ====
/-  The claims about the gates: the three frames, and that kernel and reference end with the same array. -/
module

public import proofs.«01_k».proof.Defs
public import proofs.«01_k».proof.Proof.Gates.Whole
public import proofs.«01_k».proof.Proof.Gates.Reference
public import proofs.«01_k».proof.Proof.Gen.Kernel4.Frame
public import Idealize.ShloMosaic.Lib.Quiescent

@[expose] public section

noncomputable section

namespace Cert.Gates

open Idealize.ShloMosaic Idealize.SL.Sem

theorem frame : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- Kernel and reference, run from the same arguments, end with equal results. -/
theorem algebraic : Cert.algebraic_Kernel4Ideal_Reference4Ideal := fun m ρ m' ρ' _ hag =>
  ⟨fun c => arr (Cert.Kernel4Ideal.Gates.ax m c) (Cert.Kernel4Ideal.Gates.aw m c),
    (θ_run Cert.Kernel4Ideal.defs _ _).mono (fun _ h c => ⟨(h c).1.trans (Cert.Kernel4Ideal.Gates.final m c), (h c).2⟩)
      (Cert.Kernel4Ideal.Value.run_blocks m ρ),
    (θ_run Cert.Reference4Ideal.defs _ _).mono (fun _ h c => ⟨(h c).1.trans ((Cert.Reference4Ideal.Read.val_main_v11_eq _ _).trans
      ((Reference.result _ _).trans (by rw [(hag c).1, (hag c).2]))), (h c).2⟩)
      (Cert.Reference4Ideal.Value.run m' ρ')⟩

end Cert.Gates

end
-- ==== Proof.Layer.Latent.lean ====
/-  What the two latent projections share: a row divided by the root of its mean square, and the turn of a pair of entries. -/
module

public import proofs.«01_k».proof.Proof.Layer.Common

@[expose] public section

noncomputable section

namespace Cert.Layer

open Idealize.ShloMosaic
open scoped BigOperators

/-- Entry `j` of a row, divided by the root of the row's mean square (and the small constant added to it); `n` is the row's
    length as the programs write it. -/
def unit {C : Nat} (n : BitVec 32) (y : Fin C → EReal) (j : Fin C) : EReal :=
  y j * Ideal.rsqrt (Ideal.div (∑ k : Fin C, y k * y k) (Ideal.ofBits .f32 n) + Ideal.ofBits .f32 0x358637BD#32)

/-- An array of three axes. -/
abbrev Arr3 (A R C : Nat) (e : FTy) := FVec Ideal ⟨3, ![A, R, C]⟩ e

/-- Entry `e` of a head's 64 positional entries, turned by the position's angles.  The entries are two groups (row and column of
    the position) of two halves of 16 each; an entry is turned together with the entry of the same place in the other half. -/
def turn (q : Fin 64 → EReal) (cos sin : Arr3 2048 2 16 .f32) (p : Fin 2048) (e : Fin 64) : EReal :=
  if h : e.val % 32 < 16 then
    q e * cos (ix3 p ⟨e.val / 32, by omega⟩ ⟨e.val % 16, by omega⟩)
      - q ⟨e.val + 16, by omega⟩ * sin (ix3 p ⟨e.val / 32, by omega⟩ ⟨e.val % 16, by omega⟩)
  else
    q e * cos (ix3 p ⟨e.val / 32, by omega⟩ ⟨e.val % 16, by omega⟩)
      + q ⟨e.val - 16, by omega⟩ * sin (ix3 p ⟨e.val / 32, by omega⟩ ⟨e.val % 16, by omega⟩)

end Cert.Layer

end
-- ==== Proof.KvPath.Point.lean ====
/-  One grid point of the keys' and values' projection, read at an element.

    A grid point holds 1024 rows.  They are multiplied by 384 rows of weights (cast into a scratch buffer at the first point): 256 for the
    latent, 64 for the rotary key, 64 for the turned partners of those.  The latent is normalised and multiplied by the second weights. -/
module

public import proofs.«01_k».proof.Proof.Layer.Latent
public import proofs.«01_k».proof.Proof.Gen.Kernel10Ideal.Frame

@[expose] public section

set_option maxRecDepth 16384

noncomputable section

namespace Cert.Kernel10Ideal.KvPath

open Cert.Kernel10Ideal Cert.Kernel10Ideal.Gen Cert.Layer Idealize.ShloMosaic Idealize.ShloMosaic.TcCoe
open scoped BigOperators

/-- The first product, at an element. -/
def acc (x : Vec Ideal S1024x2048 .bf16) (w : Vec Ideal S384x2048 .bf16) (i : Fin 1024) (k : Fin 384) : EReal :=
  ∑ l : Fin 2048, x (ix2 i l) * w (ix2 k l)

/-- A normalised row of the latent, times the scales. -/
def row (x : Vec Ideal S1024x2048 .bf16) (w : Vec Ideal S384x2048 .bf16) (g : Vec Ideal S1x256 .f32) (i : Fin 1024) (k : Fin 256) : EReal :=
  unit 0x43800000#32 (fun q : Fin 256 => acc x w i ⟨q.val, by omega⟩) k * g (ix2 0 k)

/-- The first result of a point, at an element. -/
def prod (x : Vec Ideal S1024x2048 .bf16) (w : Vec Ideal S384x2048 .bf16) (g : Vec Ideal S1x256 .f32) (u : Vec Ideal S256x2048 .bf16)
    (i : Fin 1024) (j : Fin 2048) : EReal := ∑ k : Fin 256, row x w g i k * u (ix2 k j)

/-- The second. -/
def rope (x : Vec Ideal S1024x2048 .bf16) (w : Vec Ideal S384x2048 .bf16) (a : Vec Ideal S1024x128 .f32) (i : Fin 1024) (e : Fin 64) : EReal :=
  acc x w i ⟨256 + e.val, by omega⟩ * a (ix2 i ⟨e.val, by omega⟩) + acc x w i ⟨320 + e.val, by omega⟩ * a (ix2 i ⟨64 + e.val, by omega⟩)

/-- The cast weights, at an element. -/
theorem pay1_apply (w : Vec Ideal S384x2048 .f32) (k : Fin 384) (l : Fin 2048) : k0_pay1 (F := Ideal) w (ix2 k l) = w (ix2 k l) := by
  unfold k0_pay1
  simp only [pointwise]

theorem pay2_apply (x : Vec Ideal S1024x2048 .bf16) (w : Vec Ideal S384x2048 .bf16) (i : Fin 1024) (k : Fin 384) :
    k0_pay2 (F := Ideal) x w (ix2 i k) = acc x w i k := by
  unfold k0_pay2
  simp only [pointwise, zero_add]
  rfl

/-- The latent's columns of the first product. -/
theorem latent (x : Vec Ideal S1024x2048 .bf16) (w : Vec Ideal S384x2048 .bf16) :
    extractStridedSlice S1024x256 ![0, 0] (k0_pay2 (F := Ideal) x w) slices_S1024x384_o0_0_S1024x256
      = fun y => acc x w (y 0) ⟨(y 1).val, (y 1).isLt.trans (by decide)⟩ := by
  funext y
  refine (extractStridedSlice_apply (s := S1024x384) (t := S1024x256) _ (k0_pay2 (F := Ideal) x w) slices_S1024x384_o0_0_S1024x256 y
    (ix2 (y 0) (⟨(y 1).val, (y 1).isLt.trans (by decide)⟩ : Fin 384)) fun a => match a with
    | 0 => (Nat.zero_add _).symm
    | 1 => (Nat.zero_add _).symm).trans (pay2_apply x w _ _)

theorem pay3_apply (x : Vec Ideal S1024x2048 .bf16) (w : Vec Ideal S384x2048 .bf16) (g : Vec Ideal S1x256 .f32) (u : Vec Ideal S256x2048 .bf16)
    (i : Fin 1024) (j : Fin 2048) : k0_pay3 (F := Ideal) x w g u (ix2 i j) = prod x w g u i j := by
  unfold k0_pay3
  rw [latent]
  simp only [pointwise, zero_add]
  rfl

theorem pay4_apply (x : Vec Ideal S1024x2048 .bf16) (w : Vec Ideal S384x2048 .bf16) (a : Vec Ideal S1024x128 .f32) (i : Fin 1024) (e : Fin 64) :
    k0_pay4 (F := Ideal) x w a (ix2 i e) = rope x w a i e := by
  unfold k0_pay4
  simp only [pointwise, zero_add, pay2_apply]
  unfold rope
  refine congrArg₂ (· + ·) (congrArg₂ (· * ·) (congrArg₂ (acc x w) (Fin.ext ?_) (Fin.ext ?_)) (congrArg₂ (fun p q => a (ix2 p q)) (Fin.ext ?_) (Fin.ext ?_)))
    (congrArg₂ (· * ·) (congrArg₂ (acc x w) (Fin.ext ?_) (Fin.ext ?_)) (congrArg₂ (fun p q => a (ix2 p q)) (Fin.ext ?_) (Fin.ext ?_)))
  · show 0 + (0 + i.val) = i.val
    omega
  · show 256 + (0 + e.val) = 256 + e.val
    omega
  · exact Nat.zero_add _
  · exact Nat.zero_add _
  · show 0 + (0 + i.val) = i.val
    omega
  · show 256 + (0 + e.val + 128 - 64 % 128) % 128 = 320 + e.val
    omega
  · exact Nat.zero_add _
  · show (0 + e.val + 128 - 64 % 128) % 128 = 64 + e.val
    omega

variable (x0 : Vec Ideal S1024x2048 .bf16) (x1 : Vec Ideal S384x2048 .f32) (x2 : Vec Ideal S1x256 .f32) (x3 : Vec Ideal S256x2048 .bf16)
  (x4 : Vec Ideal S1024x128 .f32)

/-- The first block written at the first point. -/
theorem outA5 (c : Dev nD) (t : Fin cfg0.N) (h) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4
    = k0_pay3 (F := Ideal) x0 (k0_pay1 (F := Ideal) x1) x2 x3 := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4)]
  unfold kernelRun0_A; dsimp only; sl_unfold_words
  simp only [View.readAt_eq_ld, (hs0_0 t).read_unread, (hs0_1 t).read_unread, (hs0_2 t).read_unread, (hs0_3 t).read_unread]
  rw [stored_canon, stored, whole x0, whole x1, whole x2, whole x3]

/-- The second block written at the first point. -/
theorem outA6 (c : Dev nD) (t : Fin cfg0.N) (h) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4
    = k0_pay4 (F := Ideal) x0 (k0_pay1 (F := Ideal) x1) x4 := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4)]
  unfold kernelRun0_A; dsimp only; sl_unfold_words
  simp only [View.readAt_eq_ld, (hs0_0 t).read_unread, (hs0_1 t).read_unread, (hs0_4 t).read_unread]
  rw [stored_canon, stored, whole x0, whole x1, whole x4]

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4
    = k0_pay1 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4)]
  unfold kernelRun0_A; dsimp only; sl_unfold_words
  simp only [View.readAt_eq_ld, (hs0_1 t).read_unread]
  rw [stored_canon, whole x1]

/-- The first block written at a later point, from what the scratch buffer holds. -/
theorem outB5 (c : Dev nD) (t : Fin cfg0.N) (h) (s : Vec Ideal S384x2048 .bf16) : out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 s
    = k0_pay3 (F := Ideal) x0 s x2 x3 := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 s)]
  unfold kernelRun0_B; dsimp only; sl_unfold_words
  simp only [View.readAt_eq_ld, (hs0_0 t).read_unread, (hs0_2 t).read_unread, (hs0_3 t).read_unread, (Memref.isWhole_whole _).read_unread]
  rw [stored_canon, whole s, whole x0, whole x2, whole x3]

/-- The second block written at a later point. -/
theorem outB6 (c : Dev nD) (t : Fin cfg0.N) (h) (s : Vec Ideal S384x2048 .bf16) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 s
    = k0_pay4 (F := Ideal) x0 s x4 := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 s)]
  unfold kernelRun0_B; dsimp only; sl_unfold_words
  simp only [View.readAt_eq_ld, (hs0_0 t).read_unread, (hs0_4 t).read_unread, (Memref.isWhole_whole _).read_unread]
  rw [stored_canon, whole s, whole x0, whole x4]

end Cert.Kernel10Ideal.KvPath

end
-- ==== Proof.Layer.Real.lean ====
/-  Finite extended reals: sums of negated terms, a scale taken out of a sum, and a normalised row of finite entries. -/
module

public import proofs.«01_k».proof.Proof.Layer.Latent
public import proofs.«01_k».proof.Proof.Softmax

@[expose] public section

noncomputable section

namespace Cert.Layer

open Idealize.ShloMosaic
open scoped BigOperators

/-- The image of a sum of reals is the sum of the images. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A sum of negated finite terms is the negated sum. -/
theorem sum_neg {C : Nat} (f : Fin C → EReal) (h : ∀ k, Softmax.Fin' (f k)) : (∑ k : Fin C, -f k) = -∑ k : Fin C, f k := by
  choose r hr using h
  simp only [hr, ← EReal.coe_neg, ← coe_sum, Finset.sum_neg_distrib]

/-- A word with sign bit 0 whose exponent is neither of the two special ones is a positive number's. -/
theorem word_pos (b : BitVec 32) (hs : (b.extractLsb' 31 1 == 1#1) = false) (h1 : (b.extractLsb' 23 8).toNat ≠ 2 ^ 8 - 1)
    (h0 : (b.extractLsb' 23 8).toNat ≠ 0) : ∃ r : ℝ, 0 < r ∧ Ideal.ofBits .f32 b = (r : EReal) := by
  unfold Ideal.ofBits Ideal.ieee
  dsimp only
  rw [if_neg h1, if_neg h0]
  refine ⟨_, ?_, rfl⟩
  rw [show (8 + 23) = 31 from rfl, hs]
  rw [if_neg Bool.false_ne_true, one_mul]
  positivity

/-- The words' values: the scale of the scores, the small constant and the lengths of the rows are positive numbers. -/
theorem sc_pos : ∃ r : ℝ, 0 < r ∧ Ideal.ofBits .f32 0x3D93CD3A#32 = (r : EReal) := word_pos _ (by decide) (by decide) (by decide)
theorem eps_pos : ∃ r : ℝ, 0 < r ∧ Ideal.ofBits .f32 0x358637BD#32 = (r : EReal) := word_pos _ (by decide) (by decide) (by decide)
theorem len512_pos : ∃ r : ℝ, 0 < r ∧ Ideal.ofBits .f32 0x44000000#32 = (r : EReal) := word_pos _ (by decide) (by decide) (by decide)

theorem sc_nonneg : 0 ≤ Ideal.ofBits .f32 0x3D93CD3A#32 := by
  obtain ⟨r, hr, e⟩ := sc_pos
  rw [e]
  exact EReal.coe_nonneg.2 hr.le

theorem sc_ne_top : Ideal.ofBits .f32 0x3D93CD3A#32 ≠ ⊤ := by
  obtain ⟨r, hr, e⟩ := sc_pos
  rw [e]
  exact EReal.coe_ne_top r

/-- A scale that is a nonnegative number, taken out of a sum and of a difference of products. -/
theorem scaled_add (a b p q s : EReal) (h0 : 0 ≤ s) (ht : s ≠ ⊤) : a * (p * s) + b * (q * s) = (a * p + b * q) * s := by
  rw [EReal.right_distrib_of_nonneg_of_ne_top h0 ht, mul_assoc, mul_assoc]

theorem scaled_sub (a b p q s : EReal) (h0 : 0 ≤ s) (ht : s ≠ ⊤) : a * (p * s) + -b * (q * s) = (a * p - b * q) * s := by
  rw [sub_eq_add_neg, EReal.right_distrib_of_nonneg_of_ne_top h0 ht, EReal.neg_mul, EReal.neg_mul, mul_assoc, mul_assoc]

/-- A row of finite entries, normalised, is finite. -/
theorem unit_fin {C : Nat} (n : BitVec 32) (hn : ∃ r : ℝ, 0 < r ∧ Ideal.ofBits .f32 n = (r : EReal)) (y : Fin C → EReal)
    (h : ∀ k, Softmax.Fin' (y k)) (j : Fin C) : Softmax.Fin' (unit n y j) := by
  obtain ⟨d, hd, en⟩ := hn
  obtain ⟨e, he, ee⟩ := eps_pos
  choose r hr using h
  have es : (∑ k : Fin C, y k * y k) = ((∑ k : Fin C, r k * r k : ℝ) : EReal) := by
    simp only [hr, ← EReal.coe_mul, ← coe_sum]
  unfold unit
  rw [es, en, ee, Ideal.div_coe hd.ne', ← EReal.coe_mul, ← EReal.coe_add, Ideal.rsqrt_coe]
  have hp : 0 < (∑ k : Fin C, r k * r k) * (1 / d) + e :=
    add_pos_of_nonneg_of_pos (mul_nonneg (Finset.sum_nonneg fun k _ => mul_self_nonneg _) (by positivity)) he
  rw [if_neg (not_lt.2 hp.le), if_neg hp.ne']
  exact Softmax.Fin'.mul ⟨_, hr j⟩ ⟨_, rfl⟩

end Cert.Layer

end
-- ==== Proof.KvPath.Spec.lean ====
/-  The keys' and values' latent path as formulas over the normalised rows and the weights: the expanded keys and values, the shared
    rotary key in the reference's form and in the kernel's, and that these two agree. -/
module

public import proofs.«01_k».proof.Proof.Layer.Latent
public import proofs.«01_k».proof.Proof.Layer.Real

@[expose] public section

noncomputable section

namespace Cert.KvPath

open Idealize.ShloMosaic Cert.Layer
open scoped BigOperators

abbrev X := Arr 9216 2048 .bf16
abbrev W := Arr3 1 2048 5952 .f32
abbrev G := Arr1 256 .f32
abbrev U := Arr 256 2048 .f32
abbrev T := Arr3 2048 2 16 .f32

variable (x : X) (w : W) (g : G) (u : U) (cos sin : T)

/-- Entry `k` of a row's product with the weights: the keys' and values' columns begin at 1536, 256 for the latent and 64 for the
    rotary key. -/
def lat (i : Fin 9216) (k : Fin 320) : EReal := ∑ l : Fin 2048, x (ix2 i l) * w (ix3 0 l ⟨1536 + k.val, by omega⟩)

/-- The latent normalised, times the scales. -/
def row (i : Fin 9216) (k : Fin 256) : EReal := unit 0x43800000#32 (fun q : Fin 256 => lat x w i ⟨q.val, by omega⟩) k * g (ix1 k)

/-- The expanded keys and values. -/
def kv (i : Fin 9216) (j : Fin 2048) : EReal := ∑ k : Fin 256, row x w g i k * u (ix2 k j)

/-- The rotary key: turned by the position in the rows of the batches, as it is in the rows of the context. -/
def key (i : Fin 9216) (e : Fin 64) : EReal :=
  if i.val < 8192 then turn (fun e => lat x w i ⟨256 + e.val, by omega⟩) cos sin ⟨i.val % 2048, by omega⟩ e
  else lat x w i ⟨256 + e.val, by omega⟩

/-- The partner of entry `e` of the rotary key in the weights, with the sign it is turned by. -/
def partner (l : Fin 2048) (e : Fin 64) : EReal :=
  if hs : e.val % 32 < 16 then -w (ix3 0 l ⟨1792 + (e.val + 16), by omega⟩)
  else w (ix3 0 l ⟨1792 + (e.val - 16), by omega⟩)

/-- The rotary key as the kernel forms it: the partners are rows of the weights. -/
def kkey (i : Fin 9216) (e : Fin 64) : EReal :=
  if i.val < 8192 then lat x w i ⟨256 + e.val, by omega⟩ * cos (ix3 ⟨i.val % 2048, by omega⟩ ⟨e.val / 32, by omega⟩ ⟨e.val % 16, by omega⟩)
    + (∑ l : Fin 2048, x (ix2 i l) * partner w l e) * sin (ix3 ⟨i.val % 2048, by omega⟩ ⟨e.val / 32, by omega⟩ ⟨e.val % 16, by omega⟩)
  else lat x w i ⟨256 + e.val, by omega⟩

/-- The result arrays. -/
def arr : Arr 9216 2048 .bf16 := fun y => kv x w g u (y 0) (y 1)
def keys : Arr 9216 64 .bf16 := fun y => key x w cos sin (y 0) (y 1)
def kkeys : Arr 9216 64 .bf16 := fun y => kkey x w cos sin (y 0) (y 1)

/-- Where the batches' rows and the rotary key's weights are finite, the kernel's form is the reference's. -/
theorem kkey_eq (i : Fin 9216) (e : Fin 64) (hx : i.val < 8192 → ∀ l, Softmax.Fin' (x (ix2 i l)))
    (hw : ∀ (l : Fin 2048) (e : Fin 64), Softmax.Fin' (w (ix3 0 l ⟨1792 + e.val, by omega⟩))) :
    kkey x w cos sin i e = key x w cos sin i e := by
  unfold kkey key
  by_cases hi : i.val < 8192
  · rw [if_pos hi, if_pos hi]
    have hl : ∀ (e' : Fin 64), (∑ l : Fin 2048, x (ix2 i l) * w (ix3 0 l ⟨1792 + e'.val, by omega⟩)) = lat x w i ⟨256 + e'.val, by omega⟩ :=
      fun e' => Finset.sum_congr rfl fun l _ => congrArg (fun a => x (ix2 i l) * w (ix3 0 l a)) (Fin.ext (by
        show 1792 + e'.val = 1536 + (256 + e'.val)
        omega))
    unfold turn
    by_cases hs : e.val % 32 < 16
    · have h : (∑ l : Fin 2048, x (ix2 i l) * partner w l e) = -lat x w i ⟨256 + (e.val + 16), by omega⟩ := by
        rw [← hl ⟨e.val + 16, by omega⟩, ← sum_neg _ fun l => (hx hi l).mul (hw l ⟨e.val + 16, by omega⟩)]
        refine Finset.sum_congr rfl fun l _ => ?_
        unfold partner
        rw [dif_pos hs, mul_neg]
      rw [dif_pos hs, h, EReal.neg_mul, ← sub_eq_add_neg]
    · have h : (∑ l : Fin 2048, x (ix2 i l) * partner w l e) = lat x w i ⟨256 + (e.val - 16), by omega⟩ := by
        rw [← hl ⟨e.val - 16, by omega⟩]
        refine Finset.sum_congr rfl fun l _ => ?_
        unfold partner
        rw [dif_neg hs]
      rw [dif_neg hs, h]
  · rw [if_neg hi, if_neg hi]

end Cert.KvPath

end
-- ==== Proof.KvPath.Host.lean ====
/-  What the host prepares for the keys' and values' call: the columns of the input weights it needs as rows, with the turned partners
    of the rotary key's added, and the table of the angles. -/
module

public import proofs.«01_k».proof.Proof.KvPath.Spec
public import proofs.«01_k».proof.Proof.Gen.Kernel10Ideal.Frame
public import Idealize.ShloMosaic.Lib.Pipeline.Value

@[expose] public section

set_option maxRecDepth 16384

noncomputable section

namespace Cert.Kernel10Ideal.KvPath

open Cert.Kernel10Ideal Cert.Kernel10Ideal.Gen Cert.Layer Idealize.ShloMosaic Idealize.ShloMosaic.TcCoe
open scoped BigOperators

variable (m : (ℓ : Loc nD τ sig) → Buf (Elt Ideal) ℓ) (c : Dev nD)

/-- The argument arrays on a device. -/
abbrev ax : Cert.KvPath.X := m ((c : Thread nD τ).loc main_arg0)
abbrev aw : Cert.KvPath.W := m ((c : Thread nD τ).loc main_arg1)
abbrev ag : Cert.KvPath.G := m ((c : Thread nD τ).loc main_arg2)
abbrev au : Cert.KvPath.U := m ((c : Thread nD τ).loc main_arg3)
abbrev acos : Cert.KvPath.T := m ((c : Thread nD τ).loc main_arg4)
abbrev asin : Cert.KvPath.T := m ((c : Thread nD τ).loc main_arg5)

/-! ### The weights -/

/-- The input weights as one matrix, transposed. -/
theorem v1_at (r : Fin 5952) (l : Fin 2048) : V m c main_v1 (ix2 r l) = aw m c (ix3 0 l r) := by
  show transpose S5952x2048 [1, 0] (shapeCast S2048x5952 (aw m c) _) _ (ix2 r l) = _
  simp only [pointwise]

theorem v2_at (k : Fin 320) (l : Fin 2048) : V m c main_v2 (ix2 k l) = aw m c (ix3 0 l ⟨1536 + k.val, by omega⟩) :=
  (extractStridedSlice_apply (s := S5952x2048) (t := S320x2048) _ (V m c main_v1) slices_S5952x2048_S320x2048_1536_0 (ix2 k l)
    (ix2 ⟨1536 + k.val, by omega⟩ l) (fun a => match a with
    | 0 => rfl
    | 1 => (Nat.zero_add _).symm)).trans (v1_at m c _ l)

theorem v3_at (e : Fin 64) (l : Fin 2048) : V m c main_v3 (ix2 e l) = aw m c (ix3 0 l ⟨1792 + e.val, by omega⟩) :=
  (extractStridedSlice_apply (s := S320x2048) (t := S64x2048) _ (V m c main_v2) slices_S320x2048_S64x2048_256_0 (ix2 e l)
    (ix2 ⟨256 + e.val, by omega⟩ l) (fun a => match a with
    | 0 => rfl
    | 1 => (Nat.zero_add _).symm)).trans ((v2_at m c _ l).trans (congrArg (fun a => aw m c (ix3 0 l a)) (Fin.ext (by
    show 1536 + (256 + e.val) = 1792 + e.val
    omega))))

theorem v4_at (l : Fin 2048) (e : Fin 64) : V m c main_v4 (ix2 l e) = aw m c (ix3 0 l ⟨1792 + e.val, by omega⟩) :=
  (transpose_apply (s := S64x2048) (t := S2048x64) [1, 0] (V m c main_v3) transposes_S64x2048_S2048x64_1_0 (ix2 l e) (ix2 e l)
    (fun a => match a with
    | 0 => rfl
    | 1 => rfl)).trans (v3_at m c e l)

/-- The rotary key's columns by group, half and place. -/
theorem v5_at (l : Fin 2048) (g s : Fin 2) (f : Fin 16) :
    V m c main_v5 (ix5 l 0 g s f) = aw m c (ix3 0 l ⟨1792 + (32 * g.val + 16 * s.val + f.val), by omega⟩) :=
  (shapeCast_apply (s := S2048x64) (t := S2048x1x2x2x16) (V m c main_v4) shapeCasts_S2048x64_S2048x1x2x2x16 (ix5 l 0 g s f)
    (ix2 l ⟨32 * g.val + 16 * s.val + f.val, by omega⟩) (by
    rw [Shape.rowMajor_val_two, Shape.rowMajor_val_five]
    show l.val * 64 + (32 * g.val + 16 * s.val + f.val) = (((l.val * 1 + 0) * 2 + g.val) * 2 + s.val) * 16 + f.val
    omega)).trans (v4_at m c l _)

/-- The second half of each group, and the first. -/
theorem v7_at (l : Fin 2048) (g : Fin 2) (f : Fin 16) :
    V m c main_v7 (ix4 l 0 g f) = aw m c (ix3 0 l ⟨1792 + (32 * g.val + 16 * 1 + f.val), by omega⟩) :=
  (shapeCast_apply (s := S2048x1x2x1x16) (t := S2048x1x2x16) (V m c main_v6) shapeCasts_S2048x1x2x1x16_S2048x1x2x16 (ix4 l 0 g f) (ix5 l 0 g 0 f) (by
    rw [Shape.rowMajor_val_five, Shape.rowMajor_val_four]
    show (((l.val * 1 + 0) * 2 + g.val) * 1 + 0) * 16 + f.val = ((l.val * 1 + 0) * 2 + g.val) * 16 + f.val
    omega)).trans
  ((extractStridedSlice_apply (s := S2048x1x2x2x16) (t := S2048x1x2x1x16) _ (V m c main_v5) slices_S2048x1x2x2x16_S2048x1x2x1x16_0_0_0_1_0 _ (ix5 l 0 g 1 f) (fun a => match a with
    | 0 => (Nat.zero_add _).symm
    | 1 => rfl
    | 2 => (Nat.zero_add _).symm
    | 3 => rfl
    | 4 => (Nat.zero_add _).symm)).trans (v5_at m c l g 1 f))

theorem v10_at (l : Fin 2048) (g : Fin 2) (f : Fin 16) :
    V m c main_v10 (ix4 l 0 g f) = aw m c (ix3 0 l ⟨1792 + (32 * g.val + 16 * 0 + f.val), by omega⟩) :=
  (shapeCast_apply (s := S2048x1x2x1x16) (t := S2048x1x2x16) (V m c main_v9) shapeCasts_S2048x1x2x1x16_S2048x1x2x16 (ix4 l 0 g f) (ix5 l 0 g 0 f) (by
    rw [Shape.rowMajor_val_five, Shape.rowMajor_val_four]
    show (((l.val * 1 + 0) * 2 + g.val) * 1 + 0) * 16 + f.val = ((l.val * 1 + 0) * 2 + g.val) * 16 + f.val
    omega)).trans
  ((extractStridedSlice_apply (s := S2048x1x2x2x16) (t := S2048x1x2x1x16) _ (V m c main_v5) slices_S2048x1x2x2x16_S2048x1x2x1x16_0_0_0_0_0 _ (ix5 l 0 g 0 f) (fun a => match a with
    | 0 => (Nat.zero_add _).symm
    | 1 => rfl
    | 2 => (Nat.zero_add _).symm
    | 3 => rfl
    | 4 => (Nat.zero_add _).symm)).trans (v5_at m c l g 0 f))

theorem v11_at (l : Fin 2048) (g : Fin 2) (f : Fin 16) :
    V m c main_v11 (ix5 l 0 g 0 f) = -aw m c (ix3 0 l ⟨1792 + (32 * g.val + 16 * 1 + f.val), by omega⟩) :=
  (broadcastInDim_apply (s := S2048x1x2x16) (t := S2048x1x2x1x16) _ bcast_S2048x1x2x16_S2048x1x2x1x16_0_1_2_4 (V m c main_v8) _ (ix4 l 0 g f) (fun a => match a with
    | 0 => rfl
    | 1 => rfl
    | 2 => rfl
    | 3 => rfl)).trans (congrArg (fun z : EReal => -z) (v7_at m c l g f))

theorem v12_at (l : Fin 2048) (g : Fin 2) (f : Fin 16) :
    V m c main_v12 (ix5 l 0 g 0 f) = aw m c (ix3 0 l ⟨1792 + (32 * g.val + 16 * 0 + f.val), by omega⟩) :=
  (broadcastInDim_apply (s := S2048x1x2x16) (t := S2048x1x2x1x16) _ bcast_S2048x1x2x16_S2048x1x2x1x16_0_1_2_4 (V m c main_v10) _ (ix4 l 0 g f) (fun a => match a with
    | 0 => rfl
    | 1 => rfl
    | 2 => rfl
    | 3 => rfl)).trans (v10_at m c l g f)

theorem v13_left (l : Fin 2048) (g : Fin 2) (f : Fin 16) :
    V m c main_v13 (ix5 l 0 g 0 f) = -aw m c (ix3 0 l ⟨1792 + (32 * g.val + 16 * 1 + f.val), by omega⟩) :=
  (concatenate_pair_apply_left (t := S2048x1x2x2x16) (s₁ := S2048x1x2x1x16) (s₂ := S2048x1x2x1x16) 3 (V m c main_v11) (V m c main_v12)
    concatenates_S2048x1x2x1x16_S2048x1x2x1x16_S2048x1x2x2x16_d3 (ix5 l 0 g 0 f) rfl (ix5 l 0 g 0 f) (fun a => match a with
    | 0 => rfl
    | 1 => rfl
    | 2 => rfl
    | 3 => rfl
    | 4 => rfl)).trans (v11_at m c l g f)

theorem v13_right (l : Fin 2048) (g : Fin 2) (f : Fin 16) :
    V m c main_v13 (ix5 l 0 g 1 f) = aw m c (ix3 0 l ⟨1792 + (32 * g.val + 16 * 0 + f.val), by omega⟩) :=
  (concatenate_pair_apply_right (t := S2048x1x2x2x16) (s₁ := S2048x1x2x1x16) (s₂ := S2048x1x2x1x16) 3 (V m c main_v11) (V m c main_v12)
    concatenates_S2048x1x2x1x16_S2048x1x2x1x16_S2048x1x2x2x16_d3 (ix5 l 0 g 1 f) rfl rfl (ix5 l 0 g 0 f) (fun a ha => match a with
    | 0 => rfl
    | 1 => rfl
    | 2 => rfl
    | 3 => absurd rfl ha
    | 4 => rfl) rfl).trans (v12_at m c l g f)

/-- The partners. -/
theorem v14_at (l : Fin 2048) (e : Fin 64) : V m c main_v14 (ix2 l e) = Cert.KvPath.partner (aw m c) l e := by
  have h : V m c main_v14 (ix2 l e) = V m c main_v13
      (ix5 l 0 ⟨e.val / 32, by omega⟩ ⟨e.val % 32 / 16, by omega⟩ ⟨e.val % 16, by omega⟩) :=
    shapeCast_apply (s := S2048x1x2x2x16) (t := S2048x64) (V m c main_v13) shapeCasts_S2048x1x2x2x16_S2048x64 _ _ (by
      rw [Shape.rowMajor_val_five, Shape.rowMajor_val_two]
      show (((l.val * 1 + 0) * 2 + e.val / 32) * 2 + e.val % 32 / 16) * 16 + e.val % 16 = l.val * 64 + e.val
      omega)
  rw [h]
  unfold Cert.KvPath.partner
  by_cases hs : e.val % 32 < 16
  · rw [dif_pos hs, show (⟨e.val % 32 / 16, by omega⟩ : Fin 2) = 0 from Fin.ext (show e.val % 32 / 16 = 0 by omega), v13_left]
    refine congrArg (fun x => -aw m c (ix3 0 l x)) (Fin.ext ?_)
    show 1792 + (32 * (e.val / 32) + 16 * 1 + e.val % 16) = 1792 + (e.val + 16)
    omega
  · rw [dif_neg hs, show (⟨e.val % 32 / 16, by omega⟩ : Fin 2) = 1 from Fin.ext (show e.val % 32 / 16 = 1 by omega), v13_right]
    refine congrArg (fun x => aw m c (ix3 0 l x)) (Fin.ext ?_)
    show 1792 + (32 * (e.val / 32) + 16 * 0 + e.val % 16) = 1792 + (e.val - 16)
    omega

theorem v15_at (e : Fin 64) (l : Fin 2048) : V m c main_v15 (ix2 e l) = Cert.KvPath.partner (aw m c) l e :=
  (transpose_apply (s := S2048x64) (t := S64x2048) [1, 0] (V m c main_v14) transposes_S2048x64_S64x2048_1_0 (ix2 e l) (ix2 l e)
    (fun a => match a with
    | 0 => rfl
    | 1 => rfl)).trans (v14_at m c l e)

/-! The two pieces of the rows. -/

theorem rows0 (a : S320x2048.Idx → EReal) (b : S64x2048.Idx → EReal) (k : Fin 384) (l : Fin 2048) (i : Fin 320) (hi : k.val = i.val) :
    concatenate S384x2048 0 [⟨S320x2048, a⟩, ⟨S64x2048, b⟩] concatenates_S320x2048_S64x2048_S384x2048_d0 (ix2 k l) = a (ix2 i l) :=
  concatenate_pair_apply_left (t := S384x2048) (s₁ := S320x2048) (s₂ := S64x2048) 0 a b concatenates_S320x2048_S64x2048_S384x2048_d0 (ix2 k l) rfl (ix2 i l) (fun a => match a with
    | 0 => hi.symm
    | 1 => rfl)

theorem rows1 (a : S320x2048.Idx → EReal) (b : S64x2048.Idx → EReal) (k : Fin 384) (l : Fin 2048) (i : Fin 64) (hi : k.val = 320 + i.val) :
    concatenate S384x2048 0 [⟨S320x2048, a⟩, ⟨S64x2048, b⟩] concatenates_S320x2048_S64x2048_S384x2048_d0 (ix2 k l) = b (ix2 i l) :=
  concatenate_pair_apply_right (t := S384x2048) (s₁ := S320x2048) (s₂ := S64x2048) 0 a b concatenates_S320x2048_S64x2048_S384x2048_d0 (ix2 k l) rfl rfl (ix2 i l) (fun a ha => match a with
    | 0 => absurd rfl ha
    | 1 => rfl) (show i.val + 320 = k.val by omega)

set_option maxHeartbeats 4000000 in
theorem v16_eq : V m c main_v16 = concatenate S384x2048 0 [⟨S320x2048, V m c main_v2⟩, ⟨S64x2048, V m c main_v15⟩]
    concatenates_S320x2048_S64x2048_S384x2048_d0 := rfl

/-- The rows the kernel multiplies by: first the columns of the input weights, … -/
theorem v16_plain (k : Fin 384) (l : Fin 2048) (hk : k.val < 320) : V m c main_v16 (ix2 k l) = aw m c (ix3 0 l ⟨1536 + k.val, by omega⟩) :=
  (congrFun (v16_eq m c) (ix2 k l)).trans ((rows0 _ _ k l ⟨k.val, hk⟩ rfl).trans (v2_at m c ⟨k.val, hk⟩ l))

/-- … then the partners. -/
theorem v16_partner (k : Fin 384) (l : Fin 2048) (e : Fin 64) (hk : k.val = 320 + e.val) :
    V m c main_v16 (ix2 k l) = Cert.KvPath.partner (aw m c) l e :=
  (congrFun (v16_eq m c) (ix2 k l)).trans ((rows1 _ _ k l e hk).trans (v15_at m c e l))

/-! ### The angles -/

theorem v20_at (p : Fin 2048) (e : Fin 64) : V m c main_v20 (ix2 p e) = acos m c (ix3 p ⟨e.val / 32, by omega⟩ ⟨e.val % 16, by omega⟩) :=
  (shapeCast_apply (s := S2048x2x2x16) (t := S2048x64) (V m c main_v19) shapeCasts_S2048x2x2x16_S2048x64 _ (ix4 p ⟨e.val / 32, by omega⟩ ⟨e.val % 32 / 16, by omega⟩ ⟨e.val % 16, by omega⟩) (by
    rw [Shape.rowMajor_val_four, Shape.rowMajor_val_two]
    show ((p.val * 2 + e.val / 32) * 2 + e.val % 32 / 16) * 16 + e.val % 16 = p.val * 64 + e.val
    omega)).trans
  ((broadcastInDim_apply (s := S2048x2x1x16) (t := S2048x2x2x16) _ bcast_S2048x2x1x16_S2048x2x2x16_0_1_2_3 (V m c main_v18) _ (ix4 p ⟨e.val / 32, by omega⟩ 0 ⟨e.val % 16, by omega⟩) (fun a => match a with
    | 0 => rfl
    | 1 => rfl
    | 2 => rfl
    | 3 => rfl)).trans
  (broadcastInDim_apply (s := S2048x2x16) (t := S2048x2x1x16) _ bcast_S2048x2x16_S2048x2x1x16_0_1_3 (acos m c) _ (ix3 p ⟨e.val / 32, by omega⟩ ⟨e.val % 16, by omega⟩) (fun a => match a with
    | 0 => rfl
    | 1 => rfl
    | 2 => rfl)))

theorem v23_at (p : Fin 2048) (e : Fin 64) : V m c main_v23 (ix2 p e) = asin m c (ix3 p ⟨e.val / 32, by omega⟩ ⟨e.val % 16, by omega⟩) :=
  (shapeCast_apply (s := S2048x2x2x16) (t := S2048x64) (V m c main_v22) shapeCasts_S2048x2x2x16_S2048x64 _ (ix4 p ⟨e.val / 32, by omega⟩ ⟨e.val % 32 / 16, by omega⟩ ⟨e.val % 16, by omega⟩) (by
    rw [Shape.rowMajor_val_four, Shape.rowMajor_val_two]
    show ((p.val * 2 + e.val / 32) * 2 + e.val % 32 / 16) * 16 + e.val % 16 = p.val * 64 + e.val
    omega)).trans
  ((broadcastInDim_apply (s := S2048x2x1x16) (t := S2048x2x2x16) _ bcast_S2048x2x1x16_S2048x2x2x16_0_1_2_3 (V m c main_v21) _ (ix4 p ⟨e.val / 32, by omega⟩ 0 ⟨e.val % 16, by omega⟩) (fun a => match a with
    | 0 => rfl
    | 1 => rfl
    | 2 => rfl
    | 3 => rfl)).trans
  (broadcastInDim_apply (s := S2048x2x16) (t := S2048x2x1x16) _ bcast_S2048x2x16_S2048x2x1x16_0_1_3 (asin m c) _ (ix3 p ⟨e.val / 32, by omega⟩ ⟨e.val % 16, by omega⟩) (fun a => match a with
    | 0 => rfl
    | 1 => rfl
    | 2 => rfl)))

/-- The rows without a position: ones, then zeros. -/
theorem v24_at (i : Fin 1024) (e : Fin 64) : V m c main_v24 (ix2 i e) = (1 : EReal) := by
  show Ideal.ofBits .f32 0x3F800000#32 = 1
  exact Ideal.ofBits_one_f32

theorem v25_at (i : Fin 1024) (e : Fin 64) : V m c main_v25 (ix2 i e) = (0 : EReal) := by
  show Ideal.ofBits .f32 0x00000000#32 = 0
  exact Ideal.ofBits_zero_f32

theorem v26_left (i : Fin 1024) (e : Fin 64) : V m c main_v26 (ix2 i (⟨e.val, by omega⟩ : Fin 128)) = (1 : EReal) :=
  (concatenate_pair_apply_left (t := S1024x128) (s₁ := S1024x64) (s₂ := S1024x64) 1 (V m c main_v24) (V m c main_v25)
    concatenates_S1024x64_S1024x64_S1024x128_d1 (ix2 i (⟨e.val, by omega⟩ : Fin 128)) rfl (ix2 i e) (fun a => match a with
    | 0 => rfl
    | 1 => rfl)).trans (v24_at m c i e)

theorem v26_right (i : Fin 1024) (e : Fin 64) : V m c main_v26 (ix2 i (⟨64 + e.val, by omega⟩ : Fin 128)) = (0 : EReal) :=
  (concatenate_pair_apply_right (t := S1024x128) (s₁ := S1024x64) (s₂ := S1024x64) 1 (V m c main_v24) (V m c main_v25)
    concatenates_S1024x64_S1024x64_S1024x128_d1 (ix2 i (⟨64 + e.val, by omega⟩ : Fin 128)) rfl rfl (ix2 i e) (fun a ha => match a with
    | 0 => rfl
    | 1 => absurd rfl ha) (show e.val + 64 = 64 + e.val by omega)).trans (v25_at m c i e)

theorem v27_left (i : Fin 2048) (e : Fin 64) : V m c main_v27 (ix2 i (⟨e.val, by omega⟩ : Fin 128)) = acos m c (ix3 i ⟨e.val / 32, by omega⟩ ⟨e.val % 16, by omega⟩) :=
  (concatenate_pair_apply_left (t := S2048x128) (s₁ := S2048x64) (s₂ := S2048x64) 1 (V m c main_v20) (V m c main_v23)
    concatenates_S2048x64_S2048x64_S2048x128_d1 (ix2 i (⟨e.val, by omega⟩ : Fin 128)) rfl (ix2 i e) (fun a => match a with
    | 0 => rfl
    | 1 => rfl)).trans (v20_at m c i e)

theorem v27_right (i : Fin 2048) (e : Fin 64) : V m c main_v27 (ix2 i (⟨64 + e.val, by omega⟩ : Fin 128)) = asin m c (ix3 i ⟨e.val / 32, by omega⟩ ⟨e.val % 16, by omega⟩) :=
  (concatenate_pair_apply_right (t := S2048x128) (s₁ := S2048x64) (s₂ := S2048x64) 1 (V m c main_v20) (V m c main_v23)
    concatenates_S2048x64_S2048x64_S2048x128_d1 (ix2 i (⟨64 + e.val, by omega⟩ : Fin 128)) rfl rfl (ix2 i e) (fun a ha => match a with
    | 0 => rfl
    | 1 => absurd rfl ha) (show e.val + 64 = 64 + e.val by omega)).trans (v23_at m c i e)

/-! The two pieces of the table. -/

theorem table0 (a : S2048x128.Idx → EReal) (b : S1024x128.Idx → EReal) (k : Fin 3072) (l : Fin 128) (i : Fin 2048) (hi : k.val = i.val) :
    concatenate S3072x128 0 [⟨S2048x128, a⟩, ⟨S1024x128, b⟩] concatenates_S2048x128_S1024x128_S3072x128_d0 (ix2 k l) = a (ix2 i l) :=
  concatenate_pair_apply_left (t := S3072x128) (s₁ := S2048x128) (s₂ := S1024x128) 0 a b concatenates_S2048x128_S1024x128_S3072x128_d0 (ix2 k l) rfl (ix2 i l) (fun a => match a with
    | 0 => hi.symm
    | 1 => rfl)

theorem table1 (a : S2048x128.Idx → EReal) (b : S1024x128.Idx → EReal) (k : Fin 3072) (l : Fin 128) (i : Fin 1024) (hi : k.val = 2048 + i.val) :
    concatenate S3072x128 0 [⟨S2048x128, a⟩, ⟨S1024x128, b⟩] concatenates_S2048x128_S1024x128_S3072x128_d0 (ix2 k l) = b (ix2 i l) :=
  concatenate_pair_apply_right (t := S3072x128) (s₁ := S2048x128) (s₂ := S1024x128) 0 a b concatenates_S2048x128_S1024x128_S3072x128_d0 (ix2 k l) rfl rfl (ix2 i l) (fun a ha => match a with
    | 0 => absurd rfl ha
    | 1 => rfl) (show i.val + 2048 = k.val by omega)

set_option maxHeartbeats 4000000 in
theorem v28_eq : V m c main_v28 = concatenate S3072x128 0 [⟨S2048x128, V m c main_v27⟩, ⟨S1024x128, V m c main_v26⟩]
    concatenates_S2048x128_S1024x128_S3072x128_d0 := rfl

/-- The table: the angles of the 2048 positions, … -/
theorem v28_pos (p : Fin 3072) (l : Fin 128) (i : Fin 2048) (hp : p.val = i.val) : V m c main_v28 (ix2 p l) = V m c main_v27 (ix2 i l) :=
  (congrFun (v28_eq m c) (ix2 p l)).trans (table0 _ _ p l i hp)

/-- … then the rows without one. -/
theorem v28_none (p : Fin 3072) (l : Fin 128) (i : Fin 1024) (hp : p.val = 2048 + i.val) : V m c main_v28 (ix2 p l) = V m c main_v26 (ix2 i l) :=
  (congrFun (v28_eq m c) (ix2 p l)).trans (table1 _ _ p l i hp)

end Cert.Kernel10Ideal.KvPath

end
-- ==== Proof.KvPath.Whole.lean ====
/-  The keys' and values' call: every element of its result arrays is the formula `KvPath.kv` or `KvPath.kkey`. -/
module

public import proofs.«01_k».proof.Proof.KvPath.Point
public import proofs.«01_k».proof.Proof.KvPath.Host
public import proofs.«01_k».proof.Proof.Gen.Kernel10Ideal.Value
public import Idealize.ShloMosaic.Lib.Pipeline.ValueKit.Geometry

@[expose] public section

set_option maxRecDepth 16384

noncomputable section

namespace Cert.Kernel10Ideal.KvPath

open Cert.Kernel10Ideal Cert.Kernel10Ideal.Gen Cert.Layer Idealize.ShloMosaic Idealize.ShloMosaic.TcCoe
open Idealize.ShloMosaic.Pipeline (Dat)
open scoped BigOperators

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![if t.val < 8 then t.val % 2 else 2, 0] :=
  (by decide +kernel : ∀ t : Fin grid0.N, win0_4.index t = ![if t.val < 8 then t.val % 2 else 2, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem points (t : Fin cfg0.N) : t.val < 9 := t.isLt

variable (m : (ℓ : Loc nD τ sig) → Buf (Elt Ideal) ℓ) (c : Dev nD)

theorem blk0 (t : Fin cfg0.N) (i : Fin 1024) (l : Fin 2048) (i' : Fin 9216) (hi : i'.val = t.val * 1024 + i.val) :
    iblk m c 0 t (ix2 i l) = ax m c (ix2 i' l) := by
  blk_simp [iblk]
  refine congrArg (ax m c) ?_
  blk_ext [idx0 t]
  all_goals first | exact hi.symm | rfl

theorem blk1 (t : Fin cfg0.N) (k : Fin 384) (l : Fin 2048) : iblk m c 1 t (ix2 k l) = V m c main_v16 (ix2 k l) := by
  blk_simp [iblk]
  refine congrArg (V m c main_v16) (funext fun a => Fin.ext ?_)
  have h := Pipeline.Window.rect_emb_val_off win0_1 t (ix2 k l) a
  rw [idx1 t] at h
  match a with
  | 0 => exact h.trans (Nat.zero_add _)
  | 1 => exact h.trans (Nat.zero_add _)

theorem blk2 (t : Fin cfg0.N) (k : Fin 256) : iblk m c 2 t (ix2 0 k) = ag m c (ix1 k) := by
  blk_simp [iblk]
  refine (congrArg (V m c main_v29) (show _ = ix2 (0 : Fin 1) k from ?_)).trans ?_
  · blk_ext [idx2 t]
    all_goals rfl
  · show shapeCast S1x256 (ag m c) _ (ix2 0 k) = _
    simp only [pointwise]

theorem blk3 (t : Fin cfg0.N) (k : Fin 256) (j : Fin 2048) : iblk m c 3 t (ix2 k j) = au m c (ix2 k j) := by
  blk_simp [iblk]
  refine (congrArg (V m c main_v17) (show _ = ix2 k j from ?_)).trans rfl
  blk_ext [idx3 t]
  all_goals rfl

theorem blk4 (t : Fin cfg0.N) (i : Fin 1024) (l : Fin 128) (p : Fin 3072) (hp : p.val = (if t.val < 8 then t.val % 2 else 2) * 1024 + i.val) :
    iblk m c 4 t (ix2 i l) = V m c main_v28 (ix2 p l) := by
  blk_simp [iblk]
  refine congrArg (V m c main_v28) ?_
  blk_ext [idx4 t]
  all_goals first | exact hp.symm | rfl

/-- The first half of a row of the table, and the second. -/
theorem tab_left (t : Fin cfg0.N) (i : Fin 1024) (e : Fin 64) (i' : Fin 9216) (hi : i'.val = t.val * 1024 + i.val) :
    iblk m c 4 t (ix2 i (⟨e.val, by omega⟩ : Fin 128))
      = if i'.val < 8192 then acos m c (ix3 ⟨i'.val % 2048, by omega⟩ ⟨e.val / 32, by omega⟩ ⟨e.val % 16, by omega⟩) else (1 : EReal) := by
  have hb := i.isLt
  have ht := points t
  by_cases h : i'.val < 8192
  · have h8 : t.val < 8 := by omega
    rw [if_pos h]
    refine (blk4 m c t i _ ⟨i'.val % 2048, by omega⟩ ?_).trans ((v28_pos m c _ _ ⟨i'.val % 2048, by omega⟩ rfl).trans (v27_left m c _ e))
    rw [if_pos h8]
    show i'.val % 2048 = t.val % 2 * 1024 + i.val
    omega
  · have h8 : ¬t.val < 8 := by omega
    rw [if_neg h]
    refine (blk4 m c t i _ ⟨2048 + i.val, by omega⟩ ?_).trans ((v28_none m c _ _ i rfl).trans (v26_left m c i e))
    rw [if_neg h8]

theorem tab_right (t : Fin cfg0.N) (i : Fin 1024) (e : Fin 64) (i' : Fin 9216) (hi : i'.val = t.val * 1024 + i.val) :
    iblk m c 4 t (ix2 i (⟨64 + e.val, by omega⟩ : Fin 128))
      = if i'.val < 8192 then asin m c (ix3 ⟨i'.val % 2048, by omega⟩ ⟨e.val / 32, by omega⟩ ⟨e.val % 16, by omega⟩) else (0 : EReal) := by
  have hb := i.isLt
  have ht := points t
  by_cases h : i'.val < 8192
  · have h8 : t.val < 8 := by omega
    rw [if_pos h]
    refine (blk4 m c t i _ ⟨i'.val % 2048, by omega⟩ ?_).trans ((v28_pos m c _ _ ⟨i'.val % 2048, by omega⟩ rfl).trans (v27_right m c _ e))
    rw [if_pos h8]
    show i'.val % 2048 = t.val % 2 * 1024 + i.val
    omega
  · have h8 : ¬t.val < 8 := by omega
    rw [if_neg h]
    refine (blk4 m c t i _ ⟨2048 + i.val, by omega⟩ ?_).trans ((v28_none m c _ _ i rfl).trans (v26_right m c i e))
    rw [if_neg h8]

/-- What the scratch buffer holds after any point: the rows of the input weights and the partners. -/
def Held (w : Vec Ideal S384x2048 .bf16) : Prop := ∀ (k : Fin 384) (l : Fin 2048), w (ix2 k l) = V m c main_v16 (ix2 k l)

theorem held_first (t : Fin cfg0.N) : Held m c (k0_pay1 (F := Ideal) (iblk m c 1 t)) := fun k l => (pay1_apply _ k l).trans (blk1 m c t k l)

theorem held (n : ℕ) (hn : n < cfg0.N) : Held m c (outsAt0 m c n hn).2.2 := by
  induction n with
  | zero =>
    rw [outsAt0_A m c ⟨0, hn⟩ rfl]
    dsimp only
    rw [soutA]
    exact held_first m c ⟨0, hn⟩
  | succ n ih =>
    by_cases h0 : (n + 1) % 9 = 0
    · rw [outsAt0_A m c ⟨n + 1, hn⟩ h0]
      dsimp only
      rw [soutA]
      exact held_first m c ⟨n + 1, hn⟩
    · rw [outsAt0_B m c ⟨n + 1, hn⟩ h0]
      exact ih (Nat.lt_of_succ_lt hn)

/-- The products with the rows of the weights, … -/
theorem acc_plain (t : Fin cfg0.N) (w : Vec Ideal S384x2048 .bf16) (H : Held m c w) (i : Fin 1024) (i' : Fin 9216) (hi : i'.val = t.val * 1024 + i.val)
    (k : Fin 384) (q : Fin 320) (hk : k.val = q.val) : acc (iblk m c 0 t) w i k = Cert.KvPath.lat (ax m c) (aw m c) i' q :=
  Finset.sum_congr rfl fun l _ => congrArg₂ (fun a b : EReal => a * b) (blk0 m c t i l _ hi)
    ((H k l).trans ((v16_plain m c k l (hk.trans_lt q.isLt)).trans (congrArg (fun a => aw m c (ix3 0 l a)) (Fin.ext (congrArg (1536 + ·) hk)))))

/-- … and with the partners. -/
theorem acc_partner (t : Fin cfg0.N) (w : Vec Ideal S384x2048 .bf16) (H : Held m c w) (i : Fin 1024) (i' : Fin 9216) (hi : i'.val = t.val * 1024 + i.val)
    (e : Fin 64) : acc (iblk m c 0 t) w i ⟨320 + e.val, by omega⟩ = ∑ l : Fin 2048, ax m c (ix2 i' l) * Cert.KvPath.partner (aw m c) l e :=
  Finset.sum_congr rfl fun l _ => congrArg₂ (fun a b : EReal => a * b) (blk0 m c t i l _ hi) ((H _ l).trans (v16_partner m c _ l e rfl))

/-- A normalised row, from its entries. -/
theorem row_of (x : Vec Ideal S1024x2048 .bf16) (w : Vec Ideal S384x2048 .bf16) (g : Vec Ideal S1x256 .f32) (i : Fin 1024) (k : Fin 256)
    (f : Fin 256 → EReal) (b : EReal) (hl : ∀ q : Fin 256, acc x w i ⟨q.val, by omega⟩ = f q) (hg : g (ix2 0 k) = b) :
    row x w g i k = unit 0x43800000#32 f k * b := by
  unfold row
  rw [hg, funext hl]

/-- What a point writes to the first result, as the formula of the argument arrays. -/
theorem value (t : Fin cfg0.N) (w : Vec Ideal S384x2048 .bf16) (H : Held m c w) (i : Fin 1024) (j : Fin 2048) (i' : Fin 9216)
    (hi : i'.val = t.val * 1024 + i.val) :
    prod (iblk m c 0 t) w (iblk m c 2 t) (iblk m c 3 t) i j = Cert.KvPath.kv (ax m c) (aw m c) (ag m c) (au m c) i' j :=
  Finset.sum_congr rfl fun k _ => congrArg₂ (fun a b : EReal => a * b)
    (row_of _ w _ i k (fun q : Fin 256 => Cert.KvPath.lat (ax m c) (aw m c) i' ⟨q.val, by omega⟩) _
      (fun q => acc_plain m c t w H i i' hi _ _ rfl) (blk2 m c t k)) (blk3 m c t k j)

/-- What it writes to the second. -/
theorem turned (t : Fin cfg0.N) (w : Vec Ideal S384x2048 .bf16) (H : Held m c w) (i : Fin 1024) (e : Fin 64) (i' : Fin 9216)
    (hi : i'.val = t.val * 1024 + i.val) :
    rope (iblk m c 0 t) w (iblk m c 4 t) i e = Cert.KvPath.kkey (ax m c) (aw m c) (acos m c) (asin m c) i' e := by
  have h := congrArg₂ (fun a b : EReal => a + b)
    (congrArg₂ (fun a b : EReal => a * b) (acc_plain m c t w H i i' hi ⟨256 + e.val, by omega⟩ ⟨256 + e.val, by omega⟩ rfl) (tab_left m c t i e i' hi))
    (congrArg₂ (fun a b : EReal => a * b) (acc_partner m c t w H i i' hi e) (tab_right m c t i e i' hi))
  refine h.trans ?_
  unfold Cert.KvPath.kkey
  by_cases h8 : i'.val < 8192
  · rw [if_pos h8, if_pos h8, if_pos h8]
  · rw [if_neg h8, if_neg h8, if_neg h8]
    rw [mul_one, mul_zero, add_zero]

theorem point5 (t : Fin cfg0.N) (i : Fin 1024) (j : Fin 2048) (i' : Fin 9216) (j' : Fin 2048) (hi : i'.val = t.val * 1024 + i.val)
    (hj : j' = j) : (outsAt0 m c t.val t.isLt).1 (ix2 i j) = Cert.KvPath.kv (ax m c) (aw m c) (ag m c) (au m c) i' j' := by
  subst hj
  by_cases h0 : t.val % 9 = 0
  · rw [outsAt0_A m c t h0]
    dsimp only
    rw [outA5, pay3_apply]
    exact value m c t _ (held_first m c t) i j' i' hi
  · rw [outsAt0_B m c t h0]
    dsimp only
    rw [outB5, pay3_apply]
    exact value m c t _ (held m c _ (Nat.lt_of_le_of_lt (Nat.sub_le _ _) t.isLt)) i j' i' hi

theorem point6 (t : Fin cfg0.N) (i : Fin 1024) (e : Fin 64) (i' : Fin 9216) (e' : Fin 64) (hi : i'.val = t.val * 1024 + i.val)
    (he : e' = e) : (outsAt0 m c t.val t.isLt).2.1 (ix2 i e) = Cert.KvPath.kkey (ax m c) (aw m c) (acos m c) (asin m c) i' e' := by
  subst he
  by_cases h0 : t.val % 9 = 0
  · rw [outsAt0_A m c t h0]
    dsimp only
    rw [outA6, pay4_apply]
    exact turned m c t _ (held_first m c t) i e' i' hi
  · rw [outsAt0_B m c t h0]
    dsimp only
    rw [outB6, pay4_apply]
    exact turned m c t _ (held m c _ (Nat.lt_of_le_of_lt (Nat.sub_le _ _) t.isLt)) i e' i' hi

/-- The result arrays after the run. -/
theorem final5 : (dats m 0 c).arrAt 5 cfg0.N = Cert.KvPath.arr (ax m c) (aw m c) (ag m c) (au m c) := by
  refine (dats m 0 c).arrAt_eq_of_covers 5 _ (by decide +kernel) fun t hf y => ?_
  blk_simp
  rw [after0_5]
  have e : y = ix2 (y 0) (y 1) := by idx_ext
  have h0 : ((win0_5.blk t).view.emb y 0).val = t.val * 1024 + (y 0).val := by blk_simp [idx5 t]
  have h1 : ((win0_5.blk t).view.emb y 1) = y 1 := Fin.ext (by blk_simp [idx5 t])
  exact (congrArg (outsAt0 m c t.val t.isLt).1 e).trans
    (point5 m c t (y 0) (y 1) ((win0_5.blk t).view.emb y 0) ((win0_5.blk t).view.emb y 1) h0 h1)

theorem final6 : (dats m 0 c).arrAt 6 cfg0.N = Cert.KvPath.kkeys (ax m c) (aw m c) (acos m c) (asin m c) := by
  refine (dats m 0 c).arrAt_eq_of_covers 6 _ (by decide +kernel) fun t hf y => ?_
  blk_simp
  rw [after0_6]
  have e : y = ix2 (y 0) (y 1) := by idx_ext
  have h0 : ((win0_6.blk t).view.emb y 0).val = t.val * 1024 + (y 0).val := by blk_simp [idx6 t]
  have h1 : ((win0_6.blk t).view.emb y 1) = y 1 := Fin.ext (by blk_simp [idx6 t])
  exact (congrArg (outsAt0 m c t.val t.isLt).2.1 e).trans
    (point6 m c t (y 0) (y 1) ((win0_6.blk t).view.emb y 0) ((win0_6.blk t).view.emb y 1) h0 h1)

end Cert.Kernel10Ideal.KvPath

end
-- ==== Proof.KvPath.Reference.lean ====
/-  The keys' and values' reference: every element of its result arrays is the formula `KvPath.kv` or `KvPath.key`. -/
module

public import proofs.«01_k».proof.Proof.KvPath.Spec
public import proofs.«01_k».proof.Proof.Gen.Reference10Ideal.Read
public import Idealize.ShloMosaic.Lib.ValueIdxRank6

@[expose] public section

set_option maxRecDepth 16384

noncomputable section

namespace Cert.KvPath.Reference

open Cert.Reference10Ideal Cert.Reference10Ideal.Gen Cert.Reference10Ideal.Read Cert.Layer Idealize.ShloMosaic Idealize.ShloMosaic.TcCoe
open scoped BigOperators

variable (x : X) (w : W) (g : G) (u : U) (cos sin : T)

/-- The first product. -/
theorem lat_eq (i : Fin 9216) (k : Fin 320) : val_main_v3 (F := Ideal) x w (ix2 i k) = lat x w i k := by
  rw [val_main_v3_apply]
  refine Finset.sum_congr rfl fun l _ => ?_
  rw [val_main_v0_apply, val_main_v2_apply, val_main_v1_apply]
  refine congrArg₂ (· * ·) (congrArg x ?_) (congrArg w ?_)
  · exact funext fun a => match a with | 0 => rfl | 1 => rfl
  · exact funext fun a => match a with
      | 0 => rfl
      | 1 => Fin.ext (show (l.val * 5952 + (1536 + k.val)) / 5952 % 2048 = l.val by omega)
      | 2 => Fin.ext (show (l.val * 5952 + (1536 + k.val)) % 5952 = 1536 + k.val by omega)

/-- Its first 256 columns, and the rotary key's. -/
theorem v4_at (i : Fin 9216) (k : Fin 256) : val_main_v4 (F := Ideal) x w (ix2 i k) = lat x w i ⟨k.val, by omega⟩ := by
  have e : idx_main_v4 (ix2 i k) = ix2 i (⟨k.val, by omega⟩ : Fin 320) := funext fun a => match a with | 0 => rfl | 1 => rfl
  rw [val_main_v4_apply, e, lat_eq]

theorem v5_at (i : Fin 9216) (k : Fin 64) : val_main_v5 (F := Ideal) x w (ix2 i k) = lat x w i ⟨256 + k.val, by omega⟩ := by
  have e : idx_main_v5 (ix2 i k) = ix2 i (⟨256 + k.val, by omega⟩ : Fin 320) := funext fun a => match a with | 0 => rfl | 1 => rfl
  rw [val_main_v5_apply, e, lat_eq]

/-- The normalised row. -/
theorem row_eq (i : Fin 9216) (k : Fin 256) : val_main_v18 (F := Ideal) x w g (ix2 i k) = row x w g i k := by
  have es : ∀ q : Fin 256, val_main_v6 (F := Ideal) x w (idx_main_v7 (idx_main_v8 (idx_main_v14 (ix2 i k))) q)
      = lat x w i ⟨q.val, by omega⟩ * lat x w i ⟨q.val, by omega⟩ := fun q => by
    have eq : idx_main_v7 (idx_main_v8 (idx_main_v14 (ix2 i k))) q = ix2 i q := funext fun a => match a with | 0 => rfl | 1 => rfl
    rw [eq, val_main_v6_apply, v4_at]
    rfl
  have eg : idx_main_v16 (idx_main_v17 (ix2 i k)) = ix1 k := funext fun a => match a with | 0 => rfl
  rw [val_main_v18_apply, val_main_v17_apply, val_main_v16_apply, val_main_v15_apply, val_main_v14_apply, val_main_v13_apply,
    val_main_v12_apply, val_main_v11_apply, val_main_v10_apply, val_main_v9_apply, val_main_v8_apply, val_main_v7_apply,
    Finset.sum_congr rfl fun q _ => es q, v4_at, eg, val_main_cst_apply, val_main_cst_0_apply, val_main_cst_1_apply]
  simp only [Ideal.ofBits_def, Ideal.ofBits_zero_f32, zero_add]
  rfl

/-- The second product. -/
theorem kv_eq (i : Fin 9216) (j : Fin 2048) : val_main_v19 (F := Ideal) x w g u (ix2 i j) = kv x w g u i j := by
  rw [val_main_v19_apply]
  refine Finset.sum_congr rfl fun k _ => ?_
  refine congrArg₂ (· * ·) ((congrArg (val_main_v18 (F := Ideal) x w g) ?_).trans (row_eq x w g i k)) (congrArg u ?_)
  · exact funext fun a => match a with | 0 => rfl | 1 => rfl
  · exact funext fun a => match a with | 0 => rfl | 1 => rfl

/-- The first result array. -/
theorem result0 : val_main_v44 (F := Ideal) x w g u = arr x w g u := by
  funext y
  have e : y = ix2 (y 0) (y 1) := by idx_ext
  rw [val_main_v44_apply]
  exact (congrArg (val_main_v19 (F := Ideal) x w g u) e).trans (kv_eq x w g u (y 0) (y 1))

/-- The row that holds position `p` of batch `b`. -/
abbrev at_ (b : Fin 4) (p : Fin 2048) : Fin 9216 := ⟨2048 * b.val + p.val, by omega⟩

/-- The rotary keys of the batches. -/
theorem v21_at (b : Fin 4) (p : Fin 2048) (h : Fin 1) (e : Fin 64) :
    val_main_v21 (F := Ideal) x w (ix4 b p h e) = lat x w (at_ b p) ⟨256 + e.val, by omega⟩ := by
  have ec : val_main_v21 (F := Ideal) x w (ix4 b p h e) = val_main_v20 (F := Ideal) x w (ix2 ⟨2048 * b.val + p.val, by omega⟩ e) :=
    shapeCast_apply (s := S8192x64) (t := S4x2048x1x64) (val_main_v20 (F := Ideal) x w) shapeCasts_S8192x64_S4x2048x1x64 (ix4 b p h e)
      (ix2 ⟨2048 * b.val + p.val, by omega⟩ e) (by
      rw [Shape.rowMajor_val_two, Shape.rowMajor_val_four]
      show (2048 * b.val + p.val) * 64 + e.val = ((b.val * 2048 + p.val) * 1 + h.val) * 64 + e.val
      omega)
  have ei : idx_main_v20 (ix2 (⟨2048 * b.val + p.val, by omega⟩ : Fin 8192) e) = ix2 (at_ b p) e :=
    funext fun a => match a with | 0 => rfl | 1 => rfl
  rw [ec, val_main_v20_apply, ei, v5_at]

theorem v22_at (b : Fin 4) (p : Fin 2048) (h : Fin 1) (r s : Fin 2) (f : Fin 16) :
    val_main_v22 (F := Ideal) x w (ix6 b p h r s f) = lat x w (at_ b p) ⟨256 + (32 * r.val + 16 * s.val + f.val), by omega⟩ :=
  (shapeCast_apply (s := S4x2048x1x64) (t := S4x2048x1x2x2x16) (val_main_v21 (F := Ideal) x w) shapeCasts_S4x2048x1x64_S4x2048x1x2x2x16
    (ix6 b p h r s f) (ix4 b p h ⟨32 * r.val + 16 * s.val + f.val, by omega⟩) (by
    rw [Shape.rowMajor_val_four, Shape.rowMajor_val_six]
    show ((b.val * 2048 + p.val) * 1 + h.val) * 64 + (32 * r.val + 16 * s.val + f.val)
      = ((((b.val * 2048 + p.val) * 1 + h.val) * 2 + r.val) * 2 + s.val) * 16 + f.val
    omega)).trans (v21_at x w b p h _)

theorem v24_at (b : Fin 4) (p : Fin 2048) (h : Fin 1) (r : Fin 2) (f : Fin 16) :
    val_main_v24 (F := Ideal) x w (ix5 b p h r f) = lat x w (at_ b p) ⟨256 + (32 * r.val + 16 * 0 + f.val), by omega⟩ := by
  have e : val_main_v24 (F := Ideal) x w (ix5 b p h r f) = val_main_v23 (F := Ideal) x w (ix6 b p h r 0 f) :=
    shapeCast_apply (s := S4x2048x1x2x1x16) (t := S4x2048x1x2x16) (val_main_v23 (F := Ideal) x w) shapeCasts_S4x2048x1x2x1x16_S4x2048x1x2x16
      (ix5 b p h r f) (ix6 b p h r 0 f) (by
      rw [Shape.rowMajor_val_five, Shape.rowMajor_val_six]
      show ((((b.val * 2048 + p.val) * 1 + h.val) * 2 + r.val) * 1 + 0) * 16 + f.val
        = (((b.val * 2048 + p.val) * 1 + h.val) * 2 + r.val) * 16 + f.val
      omega)
  have ei : idx_main_v23 (ix6 b p h r 0 f) = ix6 b p h r 0 f :=
    funext fun a => match a with | 0 => rfl | 1 => rfl | 2 => rfl | 3 => rfl | 4 => rfl | 5 => rfl
  rw [e, val_main_v23_apply, ei, v22_at]
  rfl

theorem v26_at (b : Fin 4) (p : Fin 2048) (h : Fin 1) (r : Fin 2) (f : Fin 16) :
    val_main_v26 (F := Ideal) x w (ix5 b p h r f) = lat x w (at_ b p) ⟨256 + (32 * r.val + 16 * 1 + f.val), by omega⟩ := by
  have e : val_main_v26 (F := Ideal) x w (ix5 b p h r f) = val_main_v25 (F := Ideal) x w (ix6 b p h r 0 f) :=
    shapeCast_apply (s := S4x2048x1x2x1x16) (t := S4x2048x1x2x16) (val_main_v25 (F := Ideal) x w) shapeCasts_S4x2048x1x2x1x16_S4x2048x1x2x16
      (ix5 b p h r f) (ix6 b p h r 0 f) (by
      rw [Shape.rowMajor_val_five, Shape.rowMajor_val_six]
      show ((((b.val * 2048 + p.val) * 1 + h.val) * 2 + r.val) * 1 + 0) * 16 + f.val
        = (((b.val * 2048 + p.val) * 1 + h.val) * 2 + r.val) * 16 + f.val
      omega)
  have ei : idx_main_v25 (ix6 b p h r 0 f) = ix6 b p h r 1 f :=
    funext fun a => match a with | 0 => rfl | 1 => rfl | 2 => rfl | 3 => rfl | 4 => rfl | 5 => rfl
  rw [e, val_main_v25_apply, ei, v22_at]
  rfl

/-! The turned pair. -/

theorem v33_at (b : Fin 4) (p : Fin 2048) (h : Fin 1) (r : Fin 2) (f : Fin 16) :
    val_main_v33 (F := Ideal) x w cos sin (ix5 b p h r f)
      = lat x w (at_ b p) ⟨256 + (32 * r.val + 16 * 0 + f.val), by omega⟩ * cos (ix3 p r f)
        - lat x w (at_ b p) ⟨256 + (32 * r.val + 16 * 1 + f.val), by omega⟩ * sin (ix3 p r f) := by
  have ec : idx_main_v27 (idx_main_v29 (ix5 b p h r f)) = ix3 p r f := funext fun a => match a with | 0 => rfl | 1 => rfl | 2 => rfl
  have es : idx_main_v28 (idx_main_v31 (ix5 b p h r f)) = ix3 p r f := funext fun a => match a with | 0 => rfl | 1 => rfl | 2 => rfl
  rw [val_main_v33_apply, val_main_v32_apply, val_main_v31_apply, val_main_v30_apply, val_main_v29_apply, val_main_v28_apply,
    val_main_v27_apply, v24_at, v26_at, ec, es]
  rfl

theorem v38_at (b : Fin 4) (p : Fin 2048) (h : Fin 1) (r : Fin 2) (f : Fin 16) :
    val_main_v38 (F := Ideal) x w cos sin (ix5 b p h r f)
      = lat x w (at_ b p) ⟨256 + (32 * r.val + 16 * 1 + f.val), by omega⟩ * cos (ix3 p r f)
        + lat x w (at_ b p) ⟨256 + (32 * r.val + 16 * 0 + f.val), by omega⟩ * sin (ix3 p r f) := by
  have ec : idx_main_v27 (idx_main_v34 (ix5 b p h r f)) = ix3 p r f := funext fun a => match a with | 0 => rfl | 1 => rfl | 2 => rfl
  have es : idx_main_v28 (idx_main_v36 (ix5 b p h r f)) = ix3 p r f := funext fun a => match a with | 0 => rfl | 1 => rfl | 2 => rfl
  rw [val_main_v38_apply, val_main_v37_apply, val_main_v36_apply, val_main_v35_apply, val_main_v34_apply, val_main_v28_apply,
    val_main_v27_apply, v24_at, v26_at, ec, es]
  rfl

theorem v39_at (b : Fin 4) (p : Fin 2048) (h : Fin 1) (r : Fin 2) (f : Fin 16) :
    val_main_v39 (F := Ideal) x w cos sin (ix6 b p h r 0 f) = val_main_v33 (F := Ideal) x w cos sin (ix5 b p h r f) := by
  rw [val_main_v39_apply]
  exact congrArg _ (funext fun a => match a with | 0 => rfl | 1 => rfl | 2 => Subsingleton.elim (α := Fin 1) _ _ | 3 => rfl | 4 => rfl)

theorem v40_at (b : Fin 4) (p : Fin 2048) (h : Fin 1) (r : Fin 2) (f : Fin 16) :
    val_main_v40 (F := Ideal) x w cos sin (ix6 b p h r 0 f) = val_main_v38 (F := Ideal) x w cos sin (ix5 b p h r f) := by
  rw [val_main_v40_apply]
  exact congrArg _ (funext fun a => match a with | 0 => rfl | 1 => rfl | 2 => Subsingleton.elim (α := Fin 1) _ _ | 3 => rfl | 4 => rfl)

theorem v41_left (b : Fin 4) (p : Fin 2048) (h : Fin 1) (r : Fin 2) (f : Fin 16) :
    val_main_v41 (F := Ideal) x w cos sin (ix6 b p h r 0 f) = val_main_v33 (F := Ideal) x w cos sin (ix5 b p h r f) :=
  (concatenate_pair_apply_left (t := S4x2048x1x2x2x16) (s₁ := S4x2048x1x2x1x16) (s₂ := S4x2048x1x2x1x16) 4
    (val_main_v39 (F := Ideal) x w cos sin) (val_main_v40 (F := Ideal) x w cos sin)
    concatenates_S4x2048x1x2x1x16_S4x2048x1x2x1x16_S4x2048x1x2x2x16_d4 (ix6 b p h r 0 f) rfl (ix6 b p h r 0 f) (fun a => match a with
    | 0 => rfl
    | 1 => rfl
    | 2 => rfl
    | 3 => rfl
    | 4 => rfl
    | 5 => rfl)).trans (v39_at x w cos sin b p h r f)

theorem v41_right (b : Fin 4) (p : Fin 2048) (h : Fin 1) (r : Fin 2) (f : Fin 16) :
    val_main_v41 (F := Ideal) x w cos sin (ix6 b p h r 1 f) = val_main_v38 (F := Ideal) x w cos sin (ix5 b p h r f) :=
  (concatenate_pair_apply_right (t := S4x2048x1x2x2x16) (s₁ := S4x2048x1x2x1x16) (s₂ := S4x2048x1x2x1x16) 4
    (val_main_v39 (F := Ideal) x w cos sin) (val_main_v40 (F := Ideal) x w cos sin)
    concatenates_S4x2048x1x2x1x16_S4x2048x1x2x1x16_S4x2048x1x2x2x16_d4 (ix6 b p h r 1 f) rfl rfl (ix6 b p h r 0 f) (fun a ha => match a with
    | 0 => rfl
    | 1 => rfl
    | 2 => rfl
    | 3 => rfl
    | 4 => absurd rfl ha
    | 5 => rfl) rfl).trans (v40_at x w cos sin b p h r f)

/-- The rotary keys, turned. -/
theorem v42_at (b : Fin 4) (p : Fin 2048) (h : Fin 1) (e : Fin 64) :
    val_main_v42 (F := Ideal) x w cos sin (ix4 b p h e)
      = turn (fun e => lat x w (at_ b p) ⟨256 + e.val, by omega⟩) cos sin p e := by
  have hc : val_main_v42 (F := Ideal) x w cos sin (ix4 b p h e) = val_main_v41 (F := Ideal) x w cos sin
      (ix6 b p h ⟨e.val / 32, by omega⟩ ⟨e.val % 32 / 16, by omega⟩ ⟨e.val % 16, by omega⟩) :=
    shapeCast_apply (s := S4x2048x1x2x2x16) (t := S4x2048x1x64) (val_main_v41 (F := Ideal) x w cos sin)
      shapeCasts_S4x2048x1x2x2x16_S4x2048x1x64 (ix4 b p h e) _ (by
      rw [Shape.rowMajor_val_four, Shape.rowMajor_val_six]
      show ((((b.val * 2048 + p.val) * 1 + h.val) * 2 + e.val / 32) * 2 + e.val % 32 / 16) * 16 + e.val % 16
        = ((b.val * 2048 + p.val) * 1 + h.val) * 64 + e.val
      omega)
  have hp : ∀ (a b' : Fin 320), a = b' → lat x w (at_ b p) a = lat x w (at_ b p) b' := fun _ _ h => congrArg _ h
  rw [hc]
  unfold turn
  by_cases hs : e.val % 32 < 16
  · rw [dif_pos hs, show (⟨e.val % 32 / 16, by omega⟩ : Fin 2) = 0 from Fin.ext (show e.val % 32 / 16 = 0 by omega), v41_left, v33_at]
    refine congrArg₂ (fun a b => a * _ - b * _) (hp _ _ (Fin.ext ?_)) (hp _ _ (Fin.ext ?_))
    · show 256 + (32 * (e.val / 32) + 16 * 0 + e.val % 16) = 256 + e.val
      omega
    · show 256 + (32 * (e.val / 32) + 16 * 1 + e.val % 16) = 256 + (e.val + 16)
      omega
  · rw [dif_neg hs, show (⟨e.val % 32 / 16, by omega⟩ : Fin 2) = 1 from Fin.ext (show e.val % 32 / 16 = 1 by omega), v41_right, v38_at]
    refine congrArg₂ (fun a b => a * _ + b * _) (hp _ _ (Fin.ext ?_)) (hp _ _ (Fin.ext ?_))
    · show 256 + (32 * (e.val / 32) + 16 * 1 + e.val % 16) = 256 + e.val
      omega
    · show 256 + (32 * (e.val / 32) + 16 * 0 + e.val % 16) = 256 + (e.val - 16)
      omega

theorem v43_at (i : Fin 8192) (e : Fin 64) : val_main_v43 (F := Ideal) x w cos sin (ix2 i e)
    = turn (fun e => lat x w ⟨i.val, by omega⟩ ⟨256 + e.val, by omega⟩) cos sin ⟨i.val % 2048, by omega⟩ e := by
  have ec : val_main_v43 (F := Ideal) x w cos sin (ix2 i e)
      = val_main_v42 (F := Ideal) x w cos sin (ix4 ⟨i.val / 2048, by omega⟩ ⟨i.val % 2048, by omega⟩ 0 e) :=
    shapeCast_apply (s := S4x2048x1x64) (t := S8192x64) (val_main_v42 (F := Ideal) x w cos sin) shapeCasts_S4x2048x1x64_S8192x64 (ix2 i e) _ (by
      rw [Shape.rowMajor_val_two, Shape.rowMajor_val_four]
      show ((i.val / 2048 * 2048 + i.val % 2048) * 1 + 0) * 64 + e.val = i.val * 64 + e.val
      omega)
  have er : at_ ⟨i.val / 2048, by omega⟩ ⟨i.val % 2048, by omega⟩ = ⟨i.val, by omega⟩ := Fin.ext (by
    show 2048 * (i.val / 2048) + i.val % 2048 = i.val
    omega)
  rw [ec, v42_at, er]

/-- The rotary keys of the context. -/
theorem v45_at (i : Fin 1024) (e : Fin 64) :
    val_main_v45 (F := Ideal) x w (ix2 i e) = lat x w ⟨8192 + i.val, by omega⟩ ⟨256 + e.val, by omega⟩ := by
  have ei : idx_main_v45 (ix2 i e) = ix2 (⟨8192 + i.val, by omega⟩ : Fin 9216) e := funext fun a => match a with | 0 => rfl | 1 => rfl
  rw [val_main_v45_apply, ei, v5_at]

/-- The two one after the other. -/
theorem v46_left (i : Fin 9216) (e : Fin 64) (hi : i.val < 8192) :
    val_main_v46 (F := Ideal) x w cos sin (ix2 i e) = val_main_v43 (F := Ideal) x w cos sin (ix2 ⟨i.val, hi⟩ e) :=
  concatenate_pair_apply_left (t := S9216x64) (s₁ := S8192x64) (s₂ := S1024x64) 0
    (val_main_v43 (F := Ideal) x w cos sin) (val_main_v45 (F := Ideal) x w) concatenates_S8192x64_S1024x64_S9216x64_d0 (ix2 i e) rfl
    (ix2 ⟨i.val, hi⟩ e) (fun a => match a with
    | 0 => rfl
    | 1 => rfl)

theorem v46_right (i : Fin 9216) (e : Fin 64) (hi : ¬i.val < 8192) :
    val_main_v46 (F := Ideal) x w cos sin (ix2 i e) = val_main_v45 (F := Ideal) x w (ix2 ⟨i.val - 8192, by omega⟩ e) :=
  concatenate_pair_apply_right (t := S9216x64) (s₁ := S8192x64) (s₂ := S1024x64) 0
    (val_main_v43 (F := Ideal) x w cos sin) (val_main_v45 (F := Ideal) x w) concatenates_S8192x64_S1024x64_S9216x64_d0 (ix2 i e) rfl rfl
    (ix2 ⟨i.val - 8192, by omega⟩ e) (fun a ha => match a with
    | 0 => absurd rfl ha
    | 1 => rfl) (show i.val - 8192 + 8192 = i.val by omega)

/-- The second result array. -/
theorem result1 : val_main_v47 (F := Ideal) x w cos sin = keys x w cos sin := by
  funext y
  have e : y = ix2 (y 0) (y 1) := by idx_ext
  have h : ∀ (i : Fin 9216) (j : Fin 64), val_main_v47 (F := Ideal) x w cos sin (ix2 i j) = key x w cos sin i j := fun i j => by
    rw [val_main_v47_apply]
    unfold key
    by_cases hi : i.val < 8192
    · rw [if_pos hi, v46_left x w cos sin i j hi, v43_at]
      rfl
    · have er : (⟨8192 + (⟨i.val - 8192, by omega⟩ : Fin 1024).val, by omega⟩ : Fin 9216) = i := Fin.ext (by
        show 8192 + (i.val - 8192) = i.val
        omega)
      rw [if_neg hi, v46_right x w cos sin i j hi, v45_at, er]
      rfl
  exact (congrArg (val_main_v47 (F := Ideal) x w cos sin) e).trans (h (y 0) (y 1))

end Cert.KvPath.Reference

end
-- ==== Proof.KvPath.Finite.lean ====
/-  What the keys' precondition says: the rows of the batches and the rotary key's columns of the input weights are finite.  Then the
    kernel's form of the rotary key is the reference's. -/
module

public import proofs.«01_k».proof.Proof.KvPath.Spec
public import proofs.«01_k».proof.Proof.Att.Finite
public import proofs.«01_k».proof.Pre_finite_key_inputs

@[expose] public section

noncomputable section

namespace Cert.KvPath

open Idealize.ShloMosaic Cert.Layer
open scoped BigOperators

/-- The shape relations the predicate states. -/
theorem preFacts : Cert.Pre_finite_key_inputs.Facts where
  shapeCasts_S1x2048x5952_S2048x5952 := by decide
  slices_S2048x5952_S2048x64_0_1792 := by decide
  slices_S9216x2048_S8192x2048_0_0 := by decide
  bitsLt_bf16_f32 := by decide
  bcast_S_S8192x2048 := by decide
  bcast_S_S2048x64 := by decide

variable [Cert.Pre_finite_key_inputs.Facts]
open Cert.Pre_finite_key_inputs Cert.Pre_finite_key_inputs.Facts

variable (x : X) (w : W) (g : G) (u : U) (cos sin : T)

theorem x_fin (h : (fn (F := Ideal) x w g u cos sin).1 = fun _ => 1#1) (i : Fin 9216) (hi : i.val < 8192) (l : Fin 2048) :
    Softmax.Fin' (x (ix2 i l)) := by
  have e : extractStridedSlice S8192x2048 ![0, 0] x slices_S9216x2048_S8192x2048_0_0 (ix2 (⟨i.val, hi⟩ : Fin 8192) l) = x (ix2 i l) :=
    extractStridedSlice_apply ![0, 0] _ slices_S9216x2048_S8192x2048_0_0 (ix2 (⟨i.val, hi⟩ : Fin 8192) l) (ix2 i l) (fun a => by fin_cases a <;> simp)
  rw [← e]
  exact Att.fin_of_cmp (congrFun h (ix2 ⟨i.val, hi⟩ l))

theorem w_fin (h : (fn (F := Ideal) x w g u cos sin).2 = fun _ => 1#1) (l : Fin 2048) (k : Fin 64) :
    Softmax.Fin' (w (ix3 0 l ⟨1792 + k.val, by omega⟩)) := by
  have e : extractStridedSlice S2048x64 ![0, 1792] (shapeCast S2048x5952 w shapeCasts_S1x2048x5952_S2048x5952)
      slices_S2048x5952_S2048x64_0_1792 (ix2 l k) = w (ix3 0 l ⟨1792 + k.val, by omega⟩) := by
    rw [extractStridedSlice_apply ![0, 1792] _ slices_S2048x5952_S2048x64_0_1792 (ix2 l k)
      (ix2 l ⟨1792 + k.val, by omega⟩) (fun a => by fin_cases a <;> simp)]
    refine shapeCast_apply _ _ _ _ ?_
    rw [Shape.rowMajor_val_two, Shape.rowMajor_val_three]
    show (0 * 2048 + l.val) * 5952 + (1792 + k.val) = l.val * 5952 + (1792 + k.val)
    omega
  rw [← e]
  exact Att.fin_of_cmp (congrFun h (ix2 l k))

/-- Under the precondition the two forms of the rotary key agree. -/
theorem kkeys_eq (h0 : (fn (F := Ideal) x w g u cos sin).1 = fun _ => 1#1) (h1 : (fn (F := Ideal) x w g u cos sin).2 = fun _ => 1#1) :
    kkeys x w cos sin = keys x w cos sin :=
  funext fun y => kkey_eq x w cos sin (y 0) (y 1) (fun hi => x_fin x w g u cos sin h0 (y 0) hi) (w_fin x w g u cos sin h1)

end Cert.KvPath

end
-- ==== Proof.KvPath.Claims.lean ====
/-  The claims about the keys and values: the frames, and that kernel and reference end with the same arrays. -/
module

public import proofs.«01_k».proof.Defs
public import proofs.«01_k».proof.Proof.KvPath.Whole
public import proofs.«01_k».proof.Proof.KvPath.Reference
public import proofs.«01_k».proof.Proof.KvPath.Finite
public import proofs.«01_k».proof.Proof.Gen.Kernel10.Frame
public import proofs.«01_k».proof.Proof.Gen.Reference10Ideal.Run
public import Idealize.ShloMosaic.Lib.Quiescent

@[expose] public section

noncomputable section

namespace Cert.KvPath

open Idealize.ShloMosaic Idealize.SL.Sem

theorem frame : Cert.quiescent_Kernel10 := fun m ρ _ => Cert.Kernel10.Gen.frame m ρ

theorem frame_ideal : Cert.quiescent_Kernel10Ideal := fun m ρ _ => Cert.Kernel10Ideal.Gen.frame m ρ

theorem frame_ideal_pre [hPre_finite_key_inputs : Cert.Pre_finite_key_inputs.Facts] : Cert.quiescent_Kernel10Ideal_pre_finite_key_inputs :=
  fun m ρ _ => Cert.Kernel10Ideal.Gen.frame m ρ

theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run m ρ)

theorem frame_reference_pre [hPre_finite_key_inputs : Cert.Pre_finite_key_inputs.Facts] :
    Cert.quiescent_Reference10Ideal_pre_finite_key_inputs := fun m ρ _ => frame_reference m ρ trivial

/-- Kernel and reference, run from the same arguments, finite where the rotary key is formed, end with equal results. -/
theorem algebraic [hPre_finite_key_inputs : Cert.Pre_finite_key_inputs.Facts] :
    Cert.algebraic_Kernel10Ideal_Reference10Ideal_pre_finite_key_inputs := fun m ρ m' ρ' hpre hag =>
  ⟨fun c => arr (Cert.Kernel10Ideal.KvPath.ax m c) (Cert.Kernel10Ideal.KvPath.aw m c) (Cert.Kernel10Ideal.KvPath.ag m c)
      (Cert.Kernel10Ideal.KvPath.au m c),
    fun c => keys (Cert.Kernel10Ideal.KvPath.ax m c) (Cert.Kernel10Ideal.KvPath.aw m c) (Cert.Kernel10Ideal.KvPath.acos m c)
      (Cert.Kernel10Ideal.KvPath.asin m c),
    (θ_run Cert.Kernel10Ideal.defs _ _).mono (fun _ h c => ⟨(h c).1.trans (Cert.Kernel10Ideal.KvPath.final5 m c),
      (h c).2.1.trans ((Cert.Kernel10Ideal.KvPath.final6 m c).trans (kkeys_eq _ _ _ _ _ _ (hpre c).1 (hpre c).2)), (h c).2.2⟩)
      (Cert.Kernel10Ideal.Value.run_blocks m ρ),
    (θ_run Cert.Reference10Ideal.defs _ _).mono (fun _ h c =>
      ⟨(h c).1.trans ((Cert.Reference10Ideal.Read.val_main_v44_eq _ _ _ _).trans ((Reference.result0 _ _ _ _).trans
        (by rw [(hag c).1, (hag c).2.1, (hag c).2.2.1, (hag c).2.2.2.1]))),
       (h c).2.1.trans ((Cert.Reference10Ideal.Read.val_main_v47_eq _ _).trans ((Reference.result1 _ _ _ _).trans
        (by rw [(hag c).1, (hag c).2.1, (hag c).2.2.2.2.1, (hag c).2.2.2.2.2]))), (h c).2.2⟩)
      (Cert.Reference10Ideal.Value.run m' ρ')⟩

end Cert.KvPath

end
-- ==== Proof.Merge.Spec.lean ====
/-  The merge of the two branches as a formula over its argument arrays: what kernel and reference compute. -/
module

public import proofs.«01_k».proof.Proof.Layer.Common

@[expose] public section

noncomputable section

namespace Cert.Merge

open Idealize.ShloMosaic Cert.Layer

/-- Entry `i`, `j` of a block: the first gate times the gated product, plus the second gate times the attention's product. -/
def mix {R C : Nat} {f : FTy} (z : Arr R 1024 .f32) (o : Arr R 1024 .bf16) (g h : Arr R C .bf16) (wa wb wc : Arr 1024 C f) (i : Fin R) (j : Fin C) : EReal :=
  g (ix2 i j) * (dot z wa i j * sigm (dot z wb i j)) + h (ix2 i j) * dot o wc i j

/-- Element `i`, `j` of the result: the second halves of the gates and of the gated weights begin at column 2048. -/
def elem (z : Arr 8192 1024 .f32) (o : Arr 8192 1024 .bf16) (g : Arr 8192 4096 .bf16) (wg : Arr 1024 4096 .f32) (wo : Arr 1024 2048 .f32)
    (i : Fin 8192) (j : Fin 2048) : EReal :=
  g (ix2 i ⟨j.val, by omega⟩) * (dot z wg i ⟨j.val, by omega⟩ * sigm (dot z wg i ⟨2048 + j.val, by omega⟩))
    + g (ix2 i ⟨2048 + j.val, by omega⟩) * dot o wo i j

/-- The result array. -/
def arr (z : Arr 8192 1024 .f32) (o : Arr 8192 1024 .bf16) (g : Arr 8192 4096 .bf16) (wg : Arr 1024 4096 .f32) (wo : Arr 1024 2048 .f32) :
    Arr 8192 2048 .bf16 := fun y => elem z o g wg wo (y 0) (y 1)

end Cert.Merge

end
-- ==== Proof.Merge.Point.lean ====
/-  One grid point of the merge, read at an element.

    A grid point holds 512 rows and one tile of 1024 columns of each of the three weights.  At the first row block of a tile the
    three weight tiles are cast into scratch buffers; every row block multiplies by what the scratch holds, 256 rows at a time. -/
module

public import proofs.«01_k».proof.Proof.Merge.Spec
public import proofs.«01_k».proof.Proof.Gen.Kernel5Ideal.Frame

@[expose] public section

set_option maxRecDepth 16384

noncomputable section

namespace Cert.Kernel5Ideal.Merge

open Cert.Kernel5Ideal Cert.Kernel5Ideal.Gen Cert.Layer Cert.Merge Idealize.ShloMosaic Idealize.ShloMosaic.TcCoe
open scoped BigOperators

/-- What is stored for the first 256 rows, at an element. -/
theorem pay5_apply (z : Vec Ideal S256x1024 .f32) (wa wb : Vec Ideal S1024x1024 .bf16) (o : Vec Ideal S256x1024 .bf16) (wc : Vec Ideal S1024x1024 .bf16)
    (g h : Vec Ideal S256x1024 .bf16) (i : Fin 256) (j : Fin 1024) :
    k0_pay5 (F := Ideal) z wa wb o wc g h (ix2 i j) = mix (f := .bf16) z o g h wa wb wc i j := by
  unfold k0_pay5
  simp only [pointwise, zero_add]
  rfl

/-- What is stored for the last 256 rows, at an element. -/
theorem pay1_apply (z : Vec Ideal S256x1024 .f32) (wa wb : Vec Ideal S1024x1024 .bf16) (o : Vec Ideal S256x1024 .bf16) (wc : Vec Ideal S1024x1024 .bf16)
    (g h : Vec Ideal S256x1024 .bf16) (i : Fin 256) (j : Fin 1024) :
    k0_pay1 (F := Ideal) (k0_pay6 (F := Ideal) z) (k0_pay7 (F := Ideal) z wa) wb o wc g h (ix2 i j) = mix (f := .bf16) z o g h wa wb wc i j := by
  unfold k0_pay1 k0_pay7 k0_pay6
  simp only [pointwise, zero_add]
  rfl

/-- A cast weight tile, at an element. -/
theorem pay2_apply (w : Vec Ideal S1024x1024 .f32) (k j : Fin 1024) : k0_pay2 (F := Ideal) w (ix2 k j) = w (ix2 k j) := by
  unfold k0_pay2
  simp only [pointwise]

/-- The formula over a part of the rows. -/
theorem mix_part (z : Vec Ideal S512x1024 .f32) (o g h : Vec Ideal S512x1024 .bf16) (wa wb wc : Vec Ideal S1024x1024 .bf16) (n : Nat)
    (inb : ∀ a : Fin 2, ![n, 0] a + ![256, 1024] a ≤ ![512, 1024] a) (p : Fin 256) (i : Fin 512) (j : Fin 1024) (hi : i.val = n + p.val) :
    mix (f := .bf16) (part z ![n, 0] inb) (part o ![n, 0] inb) (part g ![n, 0] inb) (part h ![n, 0] inb) wa wb wc p j
      = mix (f := .bf16) z o g h wa wb wc i j := by
  have hz : ∀ w : Vec Ideal S1024x1024 .bf16, dot (e := .f32) (part z ![n, 0] inb) (f := .bf16) w p j = dot (e := .f32) z (f := .bf16) w i j := fun w =>
    Finset.sum_congr rfl fun k _ => congrArg (· * w (ix2 k j)) (part_apply z ![n, 0] inb p k i k hi (Nat.zero_add _).symm)
  have ho : ∀ w : Vec Ideal S1024x1024 .bf16, dot (e := .bf16) (part o ![n, 0] inb) (f := .bf16) w p j = dot (e := .bf16) o (f := .bf16) w i j := fun w =>
    Finset.sum_congr rfl fun k _ => congrArg (· * w (ix2 k j)) (part_apply o ![n, 0] inb p k i k hi (Nat.zero_add _).symm)
  unfold mix
  rw [hz, hz, ho]
  exact congrArg₂ (fun a b => a * _ + b * _) (part_apply g ![n, 0] inb p j i j hi (Nat.zero_add _).symm)
    (part_apply h ![n, 0] inb p j i j hi (Nat.zero_add _).symm)

theorem piece0 (z : Vec Ideal S512x1024 .f32) (o g h : Vec Ideal S512x1024 .bf16) (wa wb wc : Vec Ideal S1024x1024 .bf16) (n : Nat)
    (inb : ∀ a : Fin 2, ![n, 0] a + ![256, 1024] a ≤ ![512, 1024] a) (y : S256x1024.Idx) (i : Fin 512) (j : Fin 1024)
    (hi : i.val = n + (y 0).val) (hj : j.val = (y 1).val) :
    k0_pay5 (F := Ideal) (part z ![n, 0] inb) wa wb (part o ![n, 0] inb) wc (part g ![n, 0] inb) (part h ![n, 0] inb) y
      = mix (f := .bf16) z o g h wa wb wc i j := by
  have e : y = ix2 (y 0) (y 1) := by idx_ext
  have ej : j = y 1 := Fin.ext hj
  rw [e, ej]
  exact (pay5_apply _ wa wb _ wc _ _ (y 0) (y 1)).trans (mix_part z o g h wa wb wc n inb (y 0) i (y 1) hi)

theorem piece1 (z : Vec Ideal S512x1024 .f32) (o g h : Vec Ideal S512x1024 .bf16) (wa wb wc : Vec Ideal S1024x1024 .bf16) (n : Nat)
    (inb : ∀ a : Fin 2, ![n, 0] a + ![256, 1024] a ≤ ![512, 1024] a) (y : S256x1024.Idx) (i : Fin 512) (j : Fin 1024)
    (hi : i.val = n + (y 0).val) (hj : j.val = (y 1).val) :
    k0_pay1 (F := Ideal) (k0_pay6 (F := Ideal) (part z ![n, 0] inb)) (k0_pay7 (F := Ideal) (part z ![n, 0] inb) wa) wb (part o ![n, 0] inb) wc
      (part g ![n, 0] inb) (part h ![n, 0] inb) y = mix (f := .bf16) z o g h wa wb wc i j := by
  have e : y = ix2 (y 0) (y 1) := by idx_ext
  have ej : j = y 1 := Fin.ext hj
  rw [e, ej]
  exact (pay1_apply _ wa wb _ wc _ _ (y 0) (y 1)).trans (mix_part z o g h wa wb wc n inb (y 0) i (y 1) hi)

variable (x0 : Vec Ideal S512x1024 .f32) (x1 x2 x3 : Vec Ideal S512x1024 .bf16) (x4 x5 x6 : Vec Ideal S1024x1024 .f32)

set_option maxHeartbeats 1000000 in
/-- The block written at the first row block of a tile. -/
theorem outA (c : Dev nD) (t : Fin cfg0.N) (h) (i : Fin 512) (j : Fin 1024) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 (ix2 i j)
    = mix (f := .bf16) x0 x1 x2 x3 (k0_pay2 (F := Ideal) x4) (k0_pay2 (F := Ideal) x5) (k0_pay2 (F := Ideal) x6) i j := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [stored, stored, stored, whole x4, whole x5, whole x6]
  canon_tiles x e
  all_goals (replace e0 : i.val = _ := e0; replace e1 : j.val = _ := e1)
  · exact piece1 x0 x1 x2 x3 _ _ _ 256 _ x i j e0 e1
  · exact piece0 x0 x1 x2 x3 _ _ _ 0 _ x i j (e0.trans (Nat.zero_add _).symm) e1

/-! The scratch buffers after the first row block of a tile. -/

theorem soutA0 (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 = k0_pay2 (F := Ideal) x4 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6)]
  unfold kernelRun0_A; dsimp only; sl_unfold_words
  simp only [View.readAt_eq_ld, (hs0_4 t).read_unread]
  rw [stored_canon, whole x4]

theorem soutA1 (c : Dev nD) (t : Fin cfg0.N) (h) : sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 = k0_pay2 (F := Ideal) x5 := by
  unfold sout0_A_1
  rw [View.read_writes_eq_canon _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6)]
  unfold kernelRun0_A; dsimp only; sl_unfold_words
  simp only [View.readAt_eq_ld, (hs0_5 t).read_unread]
  rw [stored_canon, whole x5]
  rfl

theorem soutA2 (c : Dev nD) (t : Fin cfg0.N) (h) : sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 = k0_pay2 (F := Ideal) x6 := by
  unfold sout0_A_2
  rw [View.read_writes_eq_canon _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6)]
  unfold kernelRun0_A; dsimp only; sl_unfold_words
  simp only [View.readAt_eq_ld, (hs0_6 t).read_unread]
  rw [stored_canon, whole x6]
  rfl

set_option maxHeartbeats 1000000 in
/-- The block written at a later row block of a tile, from what the scratch buffers hold. -/
theorem outB (c : Dev nD) (t : Fin cfg0.N) (h) (wa wb wc : Vec Ideal S1024x1024 .bf16) (i : Fin 512) (j : Fin 1024) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 wa wb wc (ix2 i j) = mix (f := .bf16) x0 x1 x2 x3 wa wb wc i j := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) h x0 x1 x2 x3 x4 x5 x6 wa wb wc)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  rw [whole wa, whole wb, whole wc]
  canon_tiles x e
  all_goals (replace e0 : i.val = _ := e0; replace e1 : j.val = _ := e1)
  · exact piece1 x0 x1 x2 x3 _ _ _ 256 _ x i j e0 e1
  · exact piece0 x0 x1 x2 x3 _ _ _ 0 _ x i j (e0.trans (Nat.zero_add _).symm) e1

end Cert.Kernel5Ideal.Merge

end
-- ==== Proof.Merge.Whole.lean ====
/-  The merge: every element of the call's result array is the formula `Merge.elem`. -/
module

public import proofs.«01_k».proof.Proof.Merge.Point
public import proofs.«01_k».proof.Proof.Gen.Kernel5Ideal.Value
public import Idealize.ShloMosaic.Lib.Pipeline.ValueKit.Geometry

@[expose] public section

set_option maxRecDepth 16384

noncomputable section

namespace Cert.Kernel5Ideal.Merge

open Cert.Kernel5Ideal Cert.Kernel5Ideal.Gen Cert.Layer Cert.Merge Idealize.ShloMosaic Idealize.ShloMosaic.TcCoe
open Idealize.ShloMosaic.Pipeline (Dat)
open scoped BigOperators

theorem idx0 : ∀ t : Fin cfg0.N, win0_0.index t = ![t.val % 16, 0] :=
  (by decide +kernel : ∀ t : Fin grid0.N, win0_0.index t = ![t.val % 16, 0])
theorem idx1 : ∀ t : Fin cfg0.N, win0_1.index t = ![t.val % 16, 0] :=
  (by decide +kernel : ∀ t : Fin grid0.N, win0_1.index t = ![t.val % 16, 0])
theorem idx2 : ∀ t : Fin cfg0.N, win0_2.index t = ![t.val % 16, t.val / 16] :=
  (by decide +kernel : ∀ t : Fin grid0.N, win0_2.index t = ![t.val % 16, t.val / 16])
theorem idx3 : ∀ t : Fin cfg0.N, win0_3.index t = ![t.val % 16, 2 + t.val / 16] :=
  (by decide +kernel : ∀ t : Fin grid0.N, win0_3.index t = ![t.val % 16, 2 + t.val / 16])
theorem idx4 : ∀ t : Fin cfg0.N, win0_4.index t = ![0, t.val / 16] :=
  (by decide +kernel : ∀ t : Fin grid0.N, win0_4.index t = ![0, t.val / 16])
theorem idx5 : ∀ t : Fin cfg0.N, win0_5.index t = ![0, 2 + t.val / 16] :=
  (by decide +kernel : ∀ t : Fin grid0.N, win0_5.index t = ![0, 2 + t.val / 16])
theorem idx6 : ∀ t : Fin cfg0.N, win0_6.index t = ![0, t.val / 16] :=
  (by decide +kernel : ∀ t : Fin grid0.N, win0_6.index t = ![0, t.val / 16])
theorem idx7 : ∀ t : Fin cfg0.N, win0_7.index t = ![t.val % 16, t.val / 16] :=
  (by decide +kernel : ∀ t : Fin grid0.N, win0_7.index t = ![t.val % 16, t.val / 16])

variable (m : (ℓ : Loc nD τ sig) → Buf (Elt Ideal) ℓ) (c : Dev nD)

/-- The argument arrays on a device. -/
abbrev az : Arr 8192 1024 .f32 := m ((c : Thread nD τ).loc main_arg0)
abbrev ao : Arr 8192 1024 .bf16 := m ((c : Thread nD τ).loc main_arg1)
abbrev ag : Arr 8192 4096 .bf16 := m ((c : Thread nD τ).loc main_arg2)
abbrev awg : Arr 1024 4096 .f32 := m ((c : Thread nD τ).loc main_arg3)
abbrev awo : Arr 1024 2048 .f32 := m ((c : Thread nD τ).loc main_arg4)

theorem blk0 (t : Fin cfg0.N) (i : Fin 512) (j : Fin 1024) (i' : Fin 8192) (hi : i'.val = t.val % 16 * 512 + i.val) : iblk m c 0 t (ix2 i j) = az m c (ix2 i' j) := by
  blk_simp [iblk]
  refine congrArg (az m c) ?_
  blk_ext [idx0 t]
  all_goals first | exact hi.symm | rfl

theorem blk1 (t : Fin cfg0.N) (i : Fin 512) (j : Fin 1024) (i' : Fin 8192) (hi : i'.val = t.val % 16 * 512 + i.val) : iblk m c 1 t (ix2 i j) = ao m c (ix2 i' j) := by
  blk_simp [iblk]
  refine congrArg (ao m c) ?_
  blk_ext [idx1 t]
  all_goals first | exact hi.symm | rfl

theorem blk2 (t : Fin cfg0.N) (i : Fin 512) (j : Fin 1024) (i' : Fin 8192) (hi : i'.val = t.val % 16 * 512 + i.val) (j' : Fin 4096) (hj : j'.val = t.val / 16 * 1024 + j.val) : iblk m c 2 t (ix2 i j) = ag m c (ix2 i' j') := by
  blk_simp [iblk]
  refine congrArg (ag m c) ?_
  blk_ext [idx2 t]
  all_goals first | exact hi.symm | exact hj.symm | rfl

theorem blk3 (t : Fin cfg0.N) (i : Fin 512) (j : Fin 1024) (i' : Fin 8192) (hi : i'.val = t.val % 16 * 512 + i.val) (j' : Fin 4096) (hj : j'.val = (2 + t.val / 16) * 1024 + j.val) : iblk m c 3 t (ix2 i j) = ag m c (ix2 i' j') := by
  blk_simp [iblk]
  refine congrArg (ag m c) ?_
  blk_ext [idx3 t]
  all_goals first | exact hi.symm | exact hj.symm | rfl

theorem blk4 (t : Fin cfg0.N) (i : Fin 1024) (j : Fin 1024) (j' : Fin 4096) (hj : j'.val = t.val / 16 * 1024 + j.val) : iblk m c 4 t (ix2 i j) = awg m c (ix2 i j') := by
  blk_simp [iblk]
  refine congrArg (awg m c) ?_
  blk_ext [idx4 t]
  all_goals first | exact hj.symm | rfl

theorem blk5 (t : Fin cfg0.N) (i : Fin 1024) (j : Fin 1024) (j' : Fin 4096) (hj : j'.val = (2 + t.val / 16) * 1024 + j.val) : iblk m c 5 t (ix2 i j) = awg m c (ix2 i j') := by
  blk_simp [iblk]
  refine congrArg (awg m c) ?_
  blk_ext [idx5 t]
  all_goals first | exact hj.symm | rfl

theorem blk6 (t : Fin cfg0.N) (i : Fin 1024) (j : Fin 1024) (j' : Fin 2048) (hj : j'.val = t.val / 16 * 1024 + j.val) : iblk m c 6 t (ix2 i j) = awo m c (ix2 i j') := by
  blk_simp [iblk]
  refine congrArg (awo m c) ?_
  blk_ext [idx6 t]
  all_goals first | exact hj.symm | rfl

/-- What the three scratch buffers hold after a point: the tile's columns of the weights. -/
def Held (n : ℕ) (a b d : Vec Ideal S1024x1024 .bf16) : Prop :=
  ∀ (k j : Fin 1024) (ja jb : Fin 4096) (jc : Fin 2048), ja.val = n / 16 * 1024 + j.val → jb.val = (2 + n / 16) * 1024 + j.val →
    jc.val = n / 16 * 1024 + j.val →
    a (ix2 k j) = awg m c (ix2 k ja) ∧ b (ix2 k j) = awg m c (ix2 k jb) ∧ d (ix2 k j) = awo m c (ix2 k jc)

theorem held_first (t : Fin cfg0.N) : Held m c t.val (k0_pay2 (F := Ideal) (iblk m c 4 t)) (k0_pay2 (F := Ideal) (iblk m c 5 t)) (k0_pay2 (F := Ideal) (iblk m c 6 t)) :=
  fun k j ja jb jc ha hb hc => ⟨(pay2_apply _ k j).trans (blk4 m c t k j ja ha), (pay2_apply _ k j).trans (blk5 m c t k j jb hb),
    (pay2_apply _ k j).trans (blk6 m c t k j jc hc)⟩

theorem held (n : ℕ) (hn : n < cfg0.N) : Held m c n (outsAt0 m c n hn).2.1 (outsAt0 m c n hn).2.2.1 (outsAt0 m c n hn).2.2.2 := by
  induction n with
  | zero =>
    rw [outsAt0_A m c ⟨0, hn⟩ rfl]
    dsimp only
    rw [soutA0, soutA1, soutA2]
    exact held_first m c ⟨0, hn⟩
  | succ n ih =>
    by_cases h0 : (n + 1) % 16 = 0
    · rw [outsAt0_A m c ⟨n + 1, hn⟩ h0]
      dsimp only
      rw [soutA0, soutA1, soutA2]
      exact held_first m c ⟨n + 1, hn⟩
    · rw [outsAt0_B m c ⟨n + 1, hn⟩ h0]
      have e : (n + 1) / 16 = n / 16 := by omega
      intro k j ja jb jc ha hb hc
      rw [e] at ha hb hc
      exact ih (Nat.lt_of_succ_lt hn) k j ja jb jc ha hb hc

/-- What a point writes, as the formula of the argument arrays. -/
theorem point_eq (t : Fin cfg0.N) (i : Fin 512) (j : Fin 1024) (i' : Fin 8192) (j' : Fin 2048) (hi : i'.val = t.val % 16 * 512 + i.val)
    (hj : j'.val = t.val / 16 * 1024 + j.val) :
    (outsAt0 m c t.val t.isLt).1 (ix2 i j) = elem (az m c) (ao m c) (ag m c) (awg m c) (awo m c) i' j' := by
  have key : ∀ a b d : Vec Ideal S1024x1024 .bf16, Held m c t.val a b d →
      mix (f := .bf16) (iblk m c 0 t) (iblk m c 1 t) (iblk m c 2 t) (iblk m c 3 t) a b d i j = elem (az m c) (ao m c) (ag m c) (awg m c) (awo m c) i' j' :=
    fun a b d H => by
      have hj2 : 2048 + j'.val = (2 + t.val / 16) * 1024 + j.val := by omega
      have h := fun k => H k j ⟨j'.val, by omega⟩ ⟨2048 + j'.val, by omega⟩ j' hj hj2 hj
      have ea : dot (e := .f32) (iblk m c 0 t) (f := .bf16) a i j = dot (az m c) (awg m c) i' ⟨j'.val, by omega⟩ :=
        Finset.sum_congr rfl fun k _ => congrArg₂ (· * ·) (blk0 m c t i k i' hi) (h k).1
      have eb : dot (e := .f32) (iblk m c 0 t) (f := .bf16) b i j = dot (az m c) (awg m c) i' ⟨2048 + j'.val, by omega⟩ :=
        Finset.sum_congr rfl fun k _ => congrArg₂ (· * ·) (blk0 m c t i k i' hi) (h k).2.1
      have ed : dot (e := .bf16) (iblk m c 1 t) (f := .bf16) d i j = dot (ao m c) (awo m c) i' j' :=
        Finset.sum_congr rfl fun k _ => congrArg₂ (· * ·) (blk1 m c t i k i' hi) (h k).2.2
      unfold mix elem
      rw [ea, eb, ed]
      exact congrArg₂ (fun a b => a * _ + b * _) (blk2 m c t i j i' hi ⟨j'.val, by omega⟩ hj) (blk3 m c t i j i' hi ⟨2048 + j'.val, by omega⟩ hj2)
  by_cases h0 : t.val % 16 = 0
  · rw [outsAt0_A m c t h0]
    dsimp only
    rw [outA]
    exact key _ _ _ (held_first m c t)
  · rw [outsAt0_B m c t h0]
    dsimp only
    rw [outB]
    have hN : t.val - 1 < cfg0.N := Nat.lt_of_le_of_lt (Nat.sub_le _ _) t.isLt
    have e : (t.val - 1) / 16 = t.val / 16 := by omega
    have H := held m c (t.val - 1) hN
    unfold Held at H
    rw [e] at H
    exact key _ _ _ H

/-- The result array after the run. -/
theorem final : (dats m 0 c).arrAt 7 cfg0.N = arr (az m c) (ao m c) (ag m c) (awg m c) (awo m c) := by
  refine (dats m 0 c).arrAt_eq_of_covers 7 _ (by decide +kernel) fun t hf y => ?_
  blk_simp
  rw [after0_7]
  have e : y = ix2 (y 0) (y 1) := by idx_ext
  have h0 : ((win0_7.blk t).view.emb y 0).val = t.val % 16 * 512 + (y 0).val := by blk_simp [idx7 t]
  have h1 : ((win0_7.blk t).view.emb y 1).val = t.val / 16 * 1024 + (y 1).val := by blk_simp [idx7 t]
  exact (congrArg (outsAt0 m c t.val t.isLt).1 e).trans
    (point_eq m c t (y 0) (y 1) ((win0_7.blk t).view.emb y 0) ((win0_7.blk t).view.emb y 1) h0 h1)

end Cert.Kernel5Ideal.Merge

end
-- ==== Proof.Merge.Reference.lean ====
/-  The merge's reference: every element of its result array is the formula `Merge.elem`. -/
module

public import proofs.«01_k».proof.Proof.Merge.Spec
public import proofs.«01_k».proof.Proof.Gen.Reference5Ideal.Read

@[expose] public section

set_option maxRecDepth 16384

noncomputable section

namespace Cert.Merge.Reference

open Cert.Reference5Ideal Cert.Reference5Ideal.Gen Cert.Reference5Ideal.Read Cert.Layer Idealize.ShloMosaic Idealize.ShloMosaic.TcCoe
open scoped BigOperators

variable (z : Arr 8192 1024 .f32) (o : Arr 8192 1024 .bf16) (g : Arr 8192 4096 .bf16) (wg : Arr 1024 4096 .f32) (wo : Arr 1024 2048 .f32)

/-- The product with the gated weights. -/
theorem prod_eq (y : S8192x4096.Idx) : val_main_v0 (F := Ideal) z wg y = dot z wg (y 0) (y 1) := by
  rw [val_main_v0_apply]
  refine Finset.sum_congr rfl fun k _ => congrArg₂ (· * ·) (congrArg z ?_) (congrArg wg ?_)
  · exact funext fun a => match a with | 0 => rfl | 1 => rfl
  · exact funext fun a => match a with | 0 => rfl | 1 => rfl

/-- The product with the attention's weights. -/
theorem prod2_eq (i : Fin 8192) (j : Fin 2048) : val_main_v11 (F := Ideal) o wo (ix2 i j) = dot o wo i j := by
  rw [val_main_v11_apply]
  refine Finset.sum_congr rfl fun k _ => ?_
  rw [val_main_v10_apply]
  refine congrArg₂ (· * ·) (congrArg o ?_) (congrArg wo ?_)
  · exact funext fun a => match a with | 0 => rfl | 1 => rfl
  · exact funext fun a => match a with | 0 => rfl | 1 => rfl

/-- The reference's result array. -/
theorem result : val_main_v18 (F := Ideal) z o g wg wo = arr z o g wg wo := by
  funext y
  have e : y = ix2 (y 0) (y 1) := by idx_ext
  have h : ∀ (i : Fin 8192) (j : Fin 2048), val_main_v18 (F := Ideal) z o g wg wo (ix2 i j) = elem z o g wg wo i j := fun i j => by
    have e1 : idx_main_v13 (ix2 i j) = ix2 i ⟨j.val, by omega⟩ := funext fun a => match a with | 0 => rfl | 1 => rfl
    have e2 : idx_main_v14 (ix2 i j) = ix2 i ⟨2048 + j.val, by omega⟩ := funext fun a => match a with | 0 => rfl | 1 => rfl
    rw [val_main_v18_apply, val_main_v17_apply, val_main_v16_apply, val_main_v15_apply, val_main_v14_apply, val_main_v13_apply,
      val_main_v12_apply, val_main_v12_apply, val_main_v9_apply, val_main_v8_apply, val_main_v7_apply, val_main_v6_apply, val_main_v5_apply,
      val_main_v4_apply, val_main_v3_apply, val_main_v2_apply, val_main_v1_apply, prod_eq, prod_eq, prod2_eq,
      val_main_cst_apply, val_main_cst_0_apply, e1, e2]
    simp only [Ideal.ofBits_def, Ideal.ofBits_one_f32]
    rfl
  exact (congrArg (val_main_v18 (F := Ideal) z o g wg wo) e).trans (h (y 0) (y 1))

end Cert.Merge.Reference

end
-- ==== Proof.Merge.Claims.lean ====
/-  The claims about the merge: the three frames, and that kernel and reference end with the same array. -/
module

public import proofs.«01_k».proof.Defs
public import proofs.«01_k».proof.Proof.Merge.Whole
public import proofs.«01_k».proof.Proof.Merge.Reference
public import proofs.«01_k».proof.Proof.Gen.Kernel5.Frame
public import Idealize.ShloMosaic.Lib.Quiescent

@[expose] public section

noncomputable section

namespace Cert.Merge

open Idealize.ShloMosaic Idealize.SL.Sem

theorem frame : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- Kernel and reference, run from the same arguments, end with equal results. -/
theorem algebraic : Cert.algebraic_Kernel5Ideal_Reference5Ideal := fun m ρ m' ρ' _ hag =>
  ⟨fun c => arr (Cert.Kernel5Ideal.Merge.az m c) (Cert.Kernel5Ideal.Merge.ao m c) (Cert.Kernel5Ideal.Merge.ag m c) (Cert.Kernel5Ideal.Merge.awg m c) (Cert.Kernel5Ideal.Merge.awo m c),
    (θ_run Cert.Kernel5Ideal.defs _ _).mono (fun _ h c => ⟨(h c).1.trans (Cert.Kernel5Ideal.Merge.final m c), (h c).2⟩)
      (Cert.Kernel5Ideal.Value.run_blocks m ρ),
    (θ_run Cert.Reference5Ideal.defs _ _).mono (fun _ h c => ⟨(h c).1.trans ((Cert.Reference5Ideal.Read.val_main_v18_eq _ _ _ _ _).trans
      ((Reference.result _ _ _ _ _).trans (by rw [(hag c).1, (hag c).2.1, (hag c).2.2.1, (hag c).2.2.2.1, (hag c).2.2.2.2]))), (h c).2⟩)
      (Cert.Reference5Ideal.Value.run m' ρ')⟩

end Cert.Merge

end
-- ==== Proof.Mod.Spec.lean ====
/-  The modulation: an affine map of the conditioning vectors after their activation, as a formula. -/
module

public import proofs.«01_k».proof.Proof.Layer.Common

@[expose] public section

noncomputable section

namespace Cert.Mod

open Idealize.ShloMosaic Cert.Layer
open scoped BigOperators

/-- Element `i`, `j` of the modulation: the activation of `v` is `v` times its logistic function. -/
def elem (v : Arr 8 2048 .f32) (w : Arr 2048 12288 .f32) (b : Arr1 12288 .f32) (i : Fin 8) (j : Fin 12288) : EReal :=
  (∑ k : Fin 2048, v (ix2 i k) * sigm (v (ix2 i k)) * w (ix2 k j)) + b (ix1 j)

/-- The result array. -/
def arr (v : Arr 8 2048 .f32) (w : Arr 2048 12288 .f32) (b : Arr1 12288 .f32) : Arr 8 12288 .f32 := fun y => elem v w b (y 0) (y 1)

end Cert.Mod

end
-- ==== Proof.Mod.Whole.lean ====
/-  The modulation's call: a grid point holds 1536 columns of the weights, and every element of the result array is the
    formula `Mod.elem`. -/
module

public import proofs.«01_k».proof.Proof.Mod.Spec
public import proofs.«01_k».proof.Proof.Gen.Kernel11Ideal.Value
public import Idealize.ShloMosaic.Lib.Pipeline.ValueKit.Geometry

@[expose] public section

set_option maxRecDepth 16384

noncomputable section

namespace Cert.Kernel11Ideal.Mod

open Cert.Kernel11Ideal Cert.Kernel11Ideal.Gen Cert.Layer Idealize.ShloMosaic Idealize.ShloMosaic.TcCoe
open Idealize.ShloMosaic.Pipeline (Dat)
open scoped BigOperators

/-- What is stored, at an element. -/
theorem pay1_apply (v : Vec Ideal S8x2048 .f32) (w : Vec Ideal S2048x1536 .f32) (b : Vec Ideal S1x1536 .f32) (i : Fin 8) (j : Fin 1536) :
    k0_pay1 (F := Ideal) v w b (ix2 i j) = (∑ k : Fin 2048, v (ix2 i k) * sigm (v (ix2 i k)) * w (ix2 k j)) + b (ix2 0 j) := by
  unfold k0_pay1
  simp only [pointwise, zero_add]
  rfl

/-- The block a point writes, from the blocks it reads. -/
theorem out_eq (v : Vec Ideal S8x2048 .f32) (w : Vec Ideal S2048x1536 .f32) (b : Vec Ideal S1x1536 .f32) :
    out0_3 (F := Ideal) v w b = k0_pay1 (F := Ideal) v w b := by
  unfold out0_3
  rw [stored_canon, whole v, whole w, whole b]

theorem idx0 : ∀ t : Fin cfg0.N, win0_0.index t = ![0, 0] :=
  (by decide +kernel : ∀ t : Fin grid0.N, win0_0.index t = ![0, 0])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])
theorem idx3 : ∀ t : Fin cfg0.N, win0_3.index t = ![0, t.val] :=
  (by decide +kernel : ∀ t : Fin grid0.N, win0_3.index t = ![0, t.val])

variable (m : (ℓ : Loc nD τ sig) → Buf (Elt Ideal) ℓ) (c : Dev nD)

/-- The argument arrays on a device. -/
abbrev av : Arr 8 2048 .f32 := m ((c : Thread nD τ).loc main_arg0)
abbrev aw : Arr 2048 12288 .f32 := m ((c : Thread nD τ).loc main_arg1)
abbrev ab : Arr1 12288 .f32 := m ((c : Thread nD τ).loc main_arg2)

theorem blk0 (t : Fin cfg0.N) (i : Fin 8) (k : Fin 2048) : iblk m c 0 t (ix2 i k) = av m c (ix2 i k) := by
  blk_simp [iblk]
  refine congrArg (av m c) ?_
  blk_ext [idx0 t]
  all_goals rfl

theorem blk1 (t : Fin cfg0.N) (k : Fin 2048) (j : Fin 1536) (j' : Fin 12288) (hj : j'.val = t.val * 1536 + j.val) :
    iblk m c 1 t (ix2 k j) = aw m c (ix2 k j') := by
  blk_simp [iblk]
  refine congrArg (aw m c) ?_
  blk_ext [idx1 t]
  all_goals first | exact hj.symm | rfl

/-- The offsets, as the region finds them: the argument, reshaped to one row. -/
theorem blk2 (t : Fin cfg0.N) (j : Fin 1536) (j' : Fin 12288) (hj : j'.val = t.val * 1536 + j.val) :
    iblk m c 2 t (ix2 0 j) = ab m c (ix1 j') := by
  blk_simp [iblk]
  refine (congrArg (V m c main_v0) (show _ = ix2 (0 : Fin 1) j' from ?_)).trans ?_
  · blk_ext [idx2 t]
    all_goals first | exact hj.symm | rfl
  · show shapeCast S1x12288 (ab m c) _ (ix2 0 j') = _
    simp only [pointwise]

/-- What a point writes, as the formula of the argument arrays. -/
theorem point_eq (t : Fin cfg0.N) (i : Fin 8) (j : Fin 1536) (i' : Fin 8) (j' : Fin 12288) (hi : i' = i) (hj : j'.val = t.val * 1536 + j.val) :
    out0_3 (F := Ideal) (iblk m c 0 t) (iblk m c 1 t) (iblk m c 2 t) (ix2 i j) = Cert.Mod.elem (av m c) (aw m c) (ab m c) i' j' := by
  subst hi
  rw [out_eq, pay1_apply, blk2 m c t j j' hj]
  unfold Cert.Mod.elem
  refine congrArg (· + _) (Finset.sum_congr rfl fun k _ => ?_)
  rw [blk0 m c t i' k, blk1 m c t k j j' hj]

/-- The result array after the run. -/
theorem final : (dats m 0 c).arrAt 3 cfg0.N = Cert.Mod.arr (av m c) (aw m c) (ab m c) := by
  refine (dats m 0 c).arrAt_eq_of_covers 3 _ (by decide +kernel) fun t hf y => ?_
  blk_simp
  rw [after0_3]
  have e : y = ix2 (y 0) (y 1) := by idx_ext
  have h0 : ((win0_3.blk t).view.emb y 0) = y 0 := Fin.ext (by blk_simp [idx3 t])
  have h1 : ((win0_3.blk t).view.emb y 1).val = t.val * 1536 + (y 1).val := by blk_simp [idx3 t]
  exact (congrArg (out0_3 (F := Ideal) (iblk m c 0 t) (iblk m c 1 t) (iblk m c 2 t)) e).trans
    (point_eq m c t (y 0) (y 1) ((win0_3.blk t).view.emb y 0) ((win0_3.blk t).view.emb y 1) h0 h1)

end Cert.Kernel11Ideal.Mod

end
-- ==== Proof.Mod.Reference.lean ====
/-  The modulation's reference: every element of its result array is the formula `Mod.elem`. -/
module

public import proofs.«01_k».proof.Proof.Mod.Spec
public import proofs.«01_k».proof.Proof.Gen.Reference11Ideal.Read

@[expose] public section

set_option maxRecDepth 16384

noncomputable section

namespace Cert.Mod.Reference

open Cert.Reference11Ideal Cert.Reference11Ideal.Gen Cert.Reference11Ideal.Read Cert.Layer Idealize.ShloMosaic Idealize.ShloMosaic.TcCoe
open scoped BigOperators

variable (v : Arr 8 2048 .f32) (w : Arr 2048 12288 .f32) (b : Arr1 12288 .f32)

/-- The activation, at an element. -/
theorem act_eq (y) : val_main_v0 (F := Ideal) v y = v y * sigm (v y) := by
  rw [val_main_v0_apply, val_main_call0_v5_apply, val_main_call0_v4_apply, val_main_call0_v3_apply, val_main_call0_v2_apply,
    val_main_call0_v1_apply, val_main_call0_v0_apply, val_main_call0_cst_0_apply, val_main_call0_cst_apply]
  simp only [Ideal.ofBits_def, Ideal.ofBits_one_f32]
  rfl

/-- The reference's result array. -/
theorem result : val_main_v4 (F := Ideal) v w b = arr v w b := by
  funext y
  have e : y = ix2 (y 0) (y 1) := by idx_ext
  have h : ∀ (i : Fin 8) (j : Fin 12288), val_main_v4 (F := Ideal) v w b (ix2 i j) = elem v w b i j := fun i j => by
    rw [val_main_v4_apply, val_main_v3_apply, val_main_v2_apply, val_main_v1_apply]
    unfold elem
    refine congrArg₂ (fun p q : EReal => p + q) (Finset.sum_congr rfl fun k _ => ?_) (congrArg b ?_)
    · rw [act_eq]
      refine congrArg₂ (fun p q => v p * sigm (v p) * w q) ?_ ?_
      · exact funext fun a => match a with | 0 => rfl | 1 => rfl
      · exact funext fun a => match a with | 0 => rfl | 1 => rfl
    · exact funext fun a => match a with | 0 => rfl
  exact (congrArg (val_main_v4 (F := Ideal) v w b) e).trans (h (y 0) (y 1))

end Cert.Mod.Reference

end
-- ==== Proof.Mod.Claims.lean ====
/-  The claims about the modulation: the three frames, and that kernel and reference end with the same array. -/
module

public import proofs.«01_k».proof.Defs
public import proofs.«01_k».proof.Proof.Mod.Whole
public import proofs.«01_k».proof.Proof.Mod.Reference
public import proofs.«01_k».proof.Proof.Gen.Kernel11.Frame
public import Idealize.ShloMosaic.Lib.Quiescent

@[expose] public section

noncomputable section

namespace Cert.Mod

open Idealize.ShloMosaic Idealize.SL.Sem

theorem frame : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- Kernel and reference, run from the same arguments, end with equal results. -/
theorem algebraic : Cert.algebraic_Kernel11Ideal_Reference11Ideal := fun m ρ m' ρ' _ hag =>
  ⟨fun c => arr (Cert.Kernel11Ideal.Mod.av m c) (Cert.Kernel11Ideal.Mod.aw m c) (Cert.Kernel11Ideal.Mod.ab m c),
    (θ_run Cert.Kernel11Ideal.defs _ _).mono (fun _ h c => ⟨(h c).1.trans (Cert.Kernel11Ideal.Mod.final m c), (h c).2⟩)
      (Cert.Kernel11Ideal.Value.run_blocks m ρ),
    (θ_run Cert.Reference11Ideal.defs _ _).mono (fun _ h c => ⟨(h c).1.trans ((Cert.Reference11Ideal.Read.val_main_v4_eq _ _ _).trans
      ((Reference.result _ _ _).trans (by rw [(hag c).1, (hag c).2.1, (hag c).2.2]))), (h c).2⟩)
      (Cert.Reference11Ideal.Value.run m' ρ')⟩

end Cert.Mod

end
-- ==== Proof.OutProj.Spec.lean ====
/-  The output projection as a formula over its argument arrays: what kernel and reference compute. -/
module

public import proofs.«01_k».proof.Proof.Layer.Common

@[expose] public section

noncomputable section

namespace Cert.OutProj

open Idealize.ShloMosaic Cert.Layer

/-- A block's row of the residual sum. -/
def pre {R : Nat} {f : FTy} (x0 : Arr R 2048 .bf16) (w : Arr 2048 2048 f) (x2 : Arr R 2048 .f32) (x3 : Arr4 1 1 1 2048 .f32) (i : Fin R) (j : Fin 2048) : EReal :=
  x2 (ix2 i j) + x3 (ix4 0 0 0 j) * dot x0 w i j

/-- A row normalised, scaled by `g` and modulated by a scale and a shift. -/
def modulated (y : Fin 2048 → EReal) (g : Arr 1 2048 .f32) (sc sh : Arr4 1 1 1 2048 .f32) (j : Fin 2048) : EReal :=
  normed y j * g (ix2 0 j) * (1 + sc (ix4 0 0 0 j)) + sh (ix4 0 0 0 j)

/-- Row `i`, column `j` of the residual sum; the modulation is that of the row's batch. -/
def acc (x : Arr 8192 2048 .bf16) (w : Arr 2048 2048 .f32) (r : Arr 8192 2048 .f32) (m : Arr4 8 6 1 2048 .f32) (i : Fin 8192) (j : Fin 2048) : EReal :=
  r (ix2 i j) + m (ix4 ⟨i.val / 2048, by omega⟩ 2 0 j) * dot x w i j

/-- The sum normalised and modulated. -/
def out (x : Arr 8192 2048 .bf16) (w : Arr 2048 2048 .f32) (r : Arr 8192 2048 .f32) (m : Arr4 8 6 1 2048 .f32) (g : Arr1 2048 .f32) (i : Fin 8192) (j : Fin 2048) : EReal :=
  normed (fun k => acc x w r m i k) j * g (ix1 j) * (1 + m (ix4 ⟨i.val / 2048, by omega⟩ 4 0 j)) + m (ix4 ⟨i.val / 2048, by omega⟩ 3 0 j)

/-- The two result arrays. -/
def arr0 (x : Arr 8192 2048 .bf16) (w : Arr 2048 2048 .f32) (r : Arr 8192 2048 .f32) (m : Arr4 8 6 1 2048 .f32) : Arr 8192 2048 .f32 :=
  fun y => acc x w r m (y 0) (y 1)

def arr1 (x : Arr 8192 2048 .bf16) (w : Arr 2048 2048 .f32) (r : Arr 8192 2048 .f32) (m : Arr4 8 6 1 2048 .f32) (g : Arr1 2048 .f32) : Arr 8192 2048 .bf16 :=
  fun y => out x w r m g (y 0) (y 1)

end Cert.OutProj

end
-- ==== Proof.NormU.Spec.lean ====
/-  The first normalisation, with the recurrence's input projection, as a formula over its argument arrays: what kernel and
    reference compute.  The rows are those of the latents, then those of the context; a context row is modulated by entry 4. -/
module

public import proofs.«01_k».proof.Proof.OutProj.Spec

@[expose] public section

set_option maxRecDepth 16384

noncomputable section

namespace Cert.NormU

open Idealize.ShloMosaic Cert.Layer
open scoped BigOperators

/-- An array of three axes. -/
abbrev Arr3 (A R C : Nat) (e : FTy) := FVec Ideal ⟨3, ![A, R, C]⟩ e

/-- Row `i` of `x` times row `j` of `w`. -/
def dotT {R K C : Nat} {e f : FTy} (x : Arr R K e) (w : Arr C K f) (i : Fin R) (j : Fin C) : EReal :=
  ∑ k : Fin K, x (ix2 i k) * w (ix2 j k)

/-- Row `i` of the latents and the context, one after the other. -/
def row (x : Arr 8192 2048 .f32) (z : Arr 1024 2048 .f32) (i : Fin 9216) (j : Fin 2048) : EReal :=
  if h : i.val < 8192 then x (ix2 ⟨i.val, h⟩ j) else z (ix2 ⟨i.val - 8192, by omega⟩ j)

/-- The row normalised and modulated. -/
def out (x : Arr 8192 2048 .f32) (z : Arr 1024 2048 .f32) (g : Arr1 2048 .f32) (m : Arr4 8 6 1 2048 .f32) (i : Fin 9216) (j : Fin 2048) : EReal :=
  normed (row x z i) j * g (ix1 j) * (1 + m (ix4 ⟨i.val / 2048, by omega⟩ 1 0 j)) + m (ix4 ⟨i.val / 2048, by omega⟩ 0 0 j)

/-- The recurrence's input: the row times the first 1024 columns of the weights. -/
def proj (x : Arr 8192 2048 .f32) (z : Arr 1024 2048 .f32) (g : Arr1 2048 .f32) (m : Arr4 8 6 1 2048 .f32) (w : Arr3 1 2048 5952 .f32)
    (i : Fin 9216) (j : Fin 1024) : EReal :=
  ∑ k : Fin 2048, out x z g m i k * w (ix3 0 k ⟨j.val, by omega⟩)

/-- The two result arrays. -/
def arr0 (x : Arr 8192 2048 .f32) (z : Arr 1024 2048 .f32) (g : Arr1 2048 .f32) (m : Arr4 8 6 1 2048 .f32) : Arr 9216 2048 .bf16 :=
  fun y => out x z g m (y 0) (y 1)

def arr1 (x : Arr 8192 2048 .f32) (z : Arr 1024 2048 .f32) (g : Arr1 2048 .f32) (m : Arr4 8 6 1 2048 .f32) (w : Arr3 1 2048 5952 .f32) : Arr 9216 1024 .f32 :=
  fun y => proj x z g m w (y 0) (y 1)

end Cert.NormU

end
-- ==== Proof.NormU.Point.lean ====
/-  One grid point of the first normalisation, read at an element.

    A grid point holds 512 rows of the latents and 512 rows of the context, of which it takes the one or the other, and the
    first 1024 rows of the transposed weights.  The first point casts these into a scratch buffer; every point normalises and
    modulates its rows, 256 at a time, and multiplies them by what the scratch holds. -/
module

public import proofs.«01_k».proof.Proof.NormU.Spec
public import proofs.«01_k».proof.Proof.Gen.Kernel7Ideal.Frame

@[expose] public section

set_option maxRecDepth 16384

noncomputable section

namespace Cert.Kernel7Ideal.NormU

open Cert.Kernel7Ideal Cert.Kernel7Ideal.Gen Cert.Layer Cert.NormU Cert.OutProj Idealize.ShloMosaic Idealize.ShloMosaic.TcCoe
open scoped BigOperators

/-- Whether a point takes the latents' rows. -/
abbrev isLat (t : Fin cfg0.N) : BitVec 1 := Scalar.cmpi .slt (BitVec.ofNat 32 ((grid0.coords t) 0).val) 16#32

theorem isLat_lt : ∀ t : Fin cfg0.N, t.val < 16 → isLat t = 1#1 := (by decide +kernel : ∀ t : Fin grid0.N, t.val < 16 → _)
theorem isLat_ge : ∀ t : Fin cfg0.N, ¬ t.val < 16 → isLat t = 0#1 := (by decide +kernel : ∀ t : Fin grid0.N, ¬ t.val < 16 → _)

/-- A row of the chosen block, normalised and modulated. -/
def normRow {R : Nat} (b : BitVec 1) (x0 x1 : Arr R 2048 .f32) (g : Arr 1 2048 .f32) (sc sh : Arr4 1 1 1 2048 .f32) (i : Fin R) (j : Fin 2048) : EReal :=
  modulated (fun k => (if b = 1#1 then x0 else x1) (ix2 i k)) g sc sh j

/-! The payloads, at an element. -/

theorem pay5_apply (b : BitVec 1) (x0 x1 : Vec Ideal S256x2048 .f32) (g : Vec Ideal S1x2048 .f32) (sc sh : Vec Ideal S1x1x1x2048 .f32)
    (i : Fin 256) (j : Fin 2048) : k0_pay5 (F := Ideal) b x0 x1 g sc sh (ix2 i j) = normRow b x0 x1 g sc sh i j := by
  have e : Scalar.select b x0 x1 = if b = 1#1 then x0 else x1 := rfl
  unfold k0_pay5 normRow
  dsimp only
  rw [e]
  generalize (if b = 1#1 then x0 else x1) = y
  simp only [pointwise, zero_add, Ideal.ofBits_one_f32]
  rfl

theorem pay4_apply (x : Vec Ideal S256x2048 .bf16) (w : Vec Ideal S1024x2048 .bf16) (i : Fin 256) (j : Fin 1024) :
    k0_pay4 (F := Ideal) x w (ix2 i j) = dotT (e := .bf16) x (f := .bf16) w i j := by
  unfold k0_pay4
  simp only [pointwise, zero_add]
  rfl

/-- The cast weights, at an element. -/
theorem pay2_apply (w : Vec Ideal S1024x2048 .f32) (j : Fin 1024) (k : Fin 2048) : k0_pay2 (F := Ideal) w (ix2 j k) = w (ix2 j k) := by
  unfold k0_pay2
  simp only [pointwise]

/-- A row of a part of the rows is a row of the block. -/
theorem normRow_part (b : BitVec 1) (x0 x1 : Vec Ideal S512x2048 .f32) (g : Vec Ideal S1x2048 .f32) (sc sh : Vec Ideal S1x1x1x2048 .f32) (n : Nat)
    (inb : ∀ a : Fin 2, ![n, 0] a + ![256, 2048] a ≤ ![512, 2048] a) (p : Fin 256) (i : Fin 512) (j : Fin 2048) (hi : i.val = n + p.val) :
    normRow b (part x0 ![n, 0] inb) (part x1 ![n, 0] inb) g sc sh p j = normRow b x0 x1 g sc sh i j := by
  unfold normRow
  refine congrArg (fun f => modulated f g sc sh j) (funext fun k => ?_)
  by_cases hb : b = 1#1
  · rw [if_pos hb, if_pos hb]
    exact part_apply x0 ![n, 0] inb p k i k hi (Nat.zero_add _).symm
  · rw [if_neg hb, if_neg hb]
    exact part_apply x1 ![n, 0] inb p k i k hi (Nat.zero_add _).symm

/-! The stores' payloads, over parts of the rows. -/

theorem norm0 (b : BitVec 1) (x0 x1 : Vec Ideal S512x2048 .f32) (g : Vec Ideal S1x2048 .f32) (sc sh : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay5 (F := Ideal) b (part x0 ![n, 0] inb) (part x1 ![n, 0] inb) g sc sh y = normRow b x0 x1 g sc sh i j := by
  have e : y = ix2 (y 0) (y 1) := by idx_ext
  have ej : j = y 1 := Fin.ext hj
  rw [e, ej]
  exact (pay5_apply b _ _ g sc sh (y 0) (y 1)).trans (normRow_part b x0 x1 g sc sh n inb (y 0) i (y 1) hi)

theorem proj0 (b : BitVec 1) (x0 x1 : Vec Ideal S512x2048 .f32) (g : Vec Ideal S1x2048 .f32) (sc sh : Vec Ideal S1x1x1x2048 .f32) (w : Vec Ideal S1024x2048 .bf16) (n : Nat)
    (inb : ∀ a : Fin 2, ![n, 0] a + ![256, 2048] a ≤ ![512, 2048] a) (y : S256x1024.Idx) (i : Fin 512) (j : Fin 1024)
    (hi : i.val = n + (y 0).val) (hj : j.val = (y 1).val) :
    k0_pay4 (F := Ideal) (k0_pay5 (F := Ideal) b (part x0 ![n, 0] inb) (part x1 ![n, 0] inb) g sc sh) w y
      = ∑ k : Fin 2048, normRow b x0 x1 g sc sh i k * (show EReal from w (ix2 j k)) := by
  have e : y = ix2 (y 0) (y 1) := by idx_ext
  have ej : j = y 1 := Fin.ext hj
  rw [e, ej]
  exact (pay4_apply _ w (y 0) (y 1)).trans (Finset.sum_congr rfl fun k _ => congrArg (· * (show EReal from w (ix2 (y 1) k)))
    ((pay5_apply b _ _ g sc sh (y 0) k).trans (normRow_part b x0 x1 g sc sh n inb (y 0) i k hi)))

theorem norm1 (b : BitVec 1) (x0 x1 : Vec Ideal S512x2048 .f32) (g : Vec Ideal S1x2048 .f32) (sc sh : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay5 (F := Ideal) b (part x0 ![n, 0] inb) (part x1 ![n, 0] inb) g sc sh y = normRow b x0 x1 g sc sh i j := by
  have e : y = ix2 (y 0) (y 1) := by idx_ext
  have ej : j = y 1 := Fin.ext hj
  rw [e, ej]
  exact (pay5_apply b _ _ g sc sh (y 0) (y 1)).trans (normRow_part b x0 x1 g sc sh n inb (y 0) i (y 1) hi)

theorem proj1 (b : BitVec 1) (x0 x1 : Vec Ideal S512x2048 .f32) (g : Vec Ideal S1x2048 .f32) (sc sh : Vec Ideal S1x1x1x2048 .f32) (w : Vec Ideal S1024x2048 .bf16) (n : Nat)
    (inb : ∀ a : Fin 2, ![n, 0] a + ![256, 2048] a ≤ ![512, 2048] a) (y : S256x1024.Idx) (i : Fin 512) (j : Fin 1024)
    (hi : i.val = n + (y 0).val) (hj : j.val = (y 1).val) :
    k0_pay1 (F := Ideal) (k0_pay5 (F := Ideal) b (part x0 ![n, 0] inb) (part x1 ![n, 0] inb) g sc sh) w y
      = ∑ k : Fin 2048, normRow b x0 x1 g sc sh i k * (show EReal from w (ix2 j k)) := by
  have e : y = ix2 (y 0) (y 1) := by idx_ext
  have ej : j = y 1 := Fin.ext hj
  rw [e, ej]
  exact (pay4_apply _ w (y 0) (y 1)).trans (Finset.sum_congr rfl fun k _ => congrArg (· * (show EReal from w (ix2 (y 1) k)))
    ((pay5_apply b _ _ g sc sh (y 0) k).trans (normRow_part b x0 x1 g sc sh n inb (y 0) i k hi)))

variable (x0 x1 : Vec Ideal S512x2048 .f32) (x2 : Vec Ideal S1x2048 .f32) (x3 x4 : Vec Ideal S1x1x1x2048 .f32) (x5 : Vec Ideal S1024x2048 .f32)

/-! The two blocks written at the first point. -/

set_option maxHeartbeats 1000000 in
theorem outA6 (c : Dev nD) (t : Fin cfg0.N) (h) (i : Fin 512) (j : Fin 2048) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 (ix2 i j) = normRow (isLat t) x0 x1 x2 x3 x4 i j := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  rw [whole x2, whole4 x3, whole4 x4]
  canon_tiles x e
  all_goals (replace e0 : i.val = _ := e0; replace e1 : j.val = _ := e1)
  · exact norm1 (isLat t) x0 x1 x2 x3 x4 256 _ x i j e0 e1
  · exact norm0 (isLat t) x0 x1 x2 x3 x4 0 _ x i j (e0.trans (Nat.zero_add _).symm) e1

set_option maxHeartbeats 1000000 in
theorem outA7 (c : Dev nD) (t : Fin cfg0.N) (h) (i : Fin 512) (j : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 (ix2 i j) = ∑ k : Fin 2048, normRow (isLat t) x0 x1 x2 x3 x4 i k * (show EReal from (k0_pay2 (F := Ideal) x5) (ix2 j k)) := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  rw [stored, whole x5, whole x2, whole4 x3, whole4 x4]
  canon_tiles x e
  all_goals (replace e0 : i.val = _ := e0; replace e1 : j.val = _ := e1)
  · exact proj1 (isLat t) x0 x1 x2 x3 x4 _ 256 _ x i j e0 e1
  · exact proj0 (isLat t) x0 x1 x2 x3 x4 _ 0 _ x i j (e0.trans (Nat.zero_add _).symm) e1

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 = k0_pay2 (F := Ideal) x5 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5)]
  unfold kernelRun0_A; dsimp only; sl_unfold_words
  simp only [View.readAt_eq_ld, (hs0_5 t).read_unread]
  rw [stored_canon, whole x5]

/-! The two blocks written at a later point, from what the scratch buffer holds. -/

set_option maxHeartbeats 1000000 in
theorem outB6 (c : Dev nD) (t : Fin cfg0.N) (h) (s : Vec Ideal S1024x2048 .bf16) (i : Fin 512) (j : Fin 2048) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 s (ix2 i j) = normRow (isLat t) x0 x1 x2 x3 x4 i j := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 s)]
  unfold kernelRun0_B; dsimp only; sl_unfold_words
  simp only [View.readAt_eq_ld, (hs0_0 t).read_unread, (hs0_1 t).read_unread, (hs0_2 t).read_unread, (hs0_3 t).read_unread, (hs0_4 t).read_unread]
  rw [whole x2, whole4 x3, whole4 x4]
  canon_tiles x e
  all_goals (replace e0 : i.val = _ := e0; replace e1 : j.val = _ := e1)
  · exact norm1 (isLat t) x0 x1 x2 x3 x4 256 _ x i j e0 e1
  · exact norm0 (isLat t) x0 x1 x2 x3 x4 0 _ x i j (e0.trans (Nat.zero_add _).symm) e1

set_option maxHeartbeats 1000000 in
theorem outB7 (c : Dev nD) (t : Fin cfg0.N) (h) (s : Vec Ideal S1024x2048 .bf16) (i : Fin 512) (j : Fin 1024) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 s (ix2 i j) = ∑ k : Fin 2048, normRow (isLat t) x0 x1 x2 x3 x4 i k * (show EReal from s (ix2 j k)) := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h x0 x1 x2 x3 x4 x5 s)]
  unfold kernelRun0_B; dsimp only; sl_unfold_words
  simp only [View.readAt_eq_ld, (hs0_0 t).read_unread, (hs0_1 t).read_unread, (hs0_2 t).read_unread, (hs0_3 t).read_unread, (hs0_4 t).read_unread, (Memref.isWhole_whole _).read_unread]
  rw [whole s, whole x2, whole4 x3, whole4 x4]
  canon_tiles x e
  all_goals (replace e0 : i.val = _ := e0; replace e1 : j.val = _ := e1)
  · exact proj1 (isLat t) x0 x1 x2 x3 x4 _ 256 _ x i j e0 e1
  · exact proj0 (isLat t) x0 x1 x2 x3 x4 _ 0 _ x i j (e0.trans (Nat.zero_add _).symm) e1

end Cert.Kernel7Ideal.NormU

end
-- ==== Proof.NormU.Whole.lean ====
/-  The first normalisation: every element of the call's two result arrays is the formula. -/
module

public import proofs.«01_k».proof.Proof.NormU.Point
public import Idealize.ShloMosaic.Lib.Pipeline.ValueKit.Geometry
public import Idealize.ShloMosaic.Lib.Pipeline.Value

@[expose] public section

set_option maxRecDepth 16384

noncomputable section

namespace Cert.Kernel7Ideal.NormU

open Cert.Kernel7Ideal Cert.Kernel7Ideal.Gen Cert.Layer Cert.NormU Idealize.ShloMosaic Idealize.ShloMosaic.TcCoe Idealize.SL.Sem
open Cert.OutProj (modulated)
open Idealize.ShloMosaic.Pipeline (Dat)
open scoped BigOperators

theorem idx0 : ∀ t : Fin cfg0.N, win0_0.index t = ![min t.val 15, 0] :=
  (by decide +kernel : ∀ t : Fin grid0.N, win0_0.index t = ![min t.val 15, 0])
theorem idx1 : ∀ t : Fin cfg0.N, win0_1.index t = ![t.val - 16, 0] :=
  (by decide +kernel : ∀ t : Fin grid0.N, win0_1.index t = ![t.val - 16, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val / 4, 1, 0, 0] :=
  (by decide +kernel : ∀ t : Fin grid0.N, win0_3.index t = ![t.val / 4, 1, 0, 0])
theorem idx4 : ∀ t : Fin cfg0.N, win0_4.index t = ![t.val / 4, 0, 0, 0] :=
  (by decide +kernel : ∀ t : Fin grid0.N, win0_4.index t = ![t.val / 4, 0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

variable (m : (ℓ : Loc nD τ sig) → Buf (Elt Ideal) ℓ) (c : Dev nD)

/-- The argument arrays on a device. -/
abbrev ax : Arr 8192 2048 .f32 := m ((c : Thread nD τ).loc main_arg0)
abbrev az : Arr 1024 2048 .f32 := m ((c : Thread nD τ).loc main_arg1)
abbrev ag : Arr1 2048 .f32 := m ((c : Thread nD τ).loc main_arg2)
abbrev am : Arr4 8 6 1 2048 .f32 := m ((c : Thread nD τ).loc main_arg3)
abbrev aw : Arr3 1 2048 5952 .f32 := m ((c : Thread nD τ).loc main_arg4)

theorem blk0 (t : Fin cfg0.N) (ht : t.val < 16) (i : Fin 512) (j : Fin 2048) (i' : Fin 8192) (hi : i'.val = t.val * 512 + i.val) :
    iblk m c 0 t (ix2 i j) = ax m c (ix2 i' j) := by
  blk_simp [iblk]
  refine congrArg (ax m c) ?_
  have h15 : min t.val 15 = t.val := by omega
  blk_ext [idx0 t, h15]
  all_goals first | exact hi.symm | rfl

theorem blk1 (t : Fin cfg0.N) (i : Fin 512) (j : Fin 2048) (i' : Fin 1024) (hi : i'.val = (t.val - 16) * 512 + i.val) :
    iblk m c 1 t (ix2 i j) = az m c (ix2 i' j) := by
  blk_simp [iblk]
  refine congrArg (az m c) ?_
  blk_ext [idx1 t]
  all_goals first | exact hi.symm | rfl

/-- The scales of the normalisation, as the region finds them: the argument, reshaped. -/
theorem blk2 (t : Fin cfg0.N) (j : Fin 2048) : iblk m c 2 t (ix2 0 j) = ag m c (ix1 j) := by
  blk_simp [iblk]
  refine (congrArg (V m c main_v2) (show _ = ix2 (0 : Fin 1) j from ?_)).trans ?_
  · blk_ext [idx2 t]
    all_goals rfl
  · show shapeCast S1x2048 (ag m c) _ (ix2 0 j) = _
    simp only [pointwise]

theorem blk3 (t : Fin cfg0.N) (j : Fin 2048) (b : Fin 8) (hb : b.val = t.val / 4) : iblk m c 3 t (ix4 0 0 0 j) = am m c (ix4 b 1 0 j) := by
  blk_simp [iblk]
  refine congrArg (am m c) ?_
  blk_ext [idx3 t]
  all_goals first | exact hb.symm | rfl

theorem blk4 (t : Fin cfg0.N) (j : Fin 2048) (b : Fin 8) (hb : b.val = t.val / 4) : iblk m c 4 t (ix4 0 0 0 j) = am m c (ix4 b 0 0 j) := by
  blk_simp [iblk]
  refine congrArg (am m c) ?_
  blk_ext [idx4 t]
  all_goals first | exact hb.symm | rfl

/-- The weights, as the region finds them: the argument, transposed. -/
theorem blk5 (t : Fin cfg0.N) (j : Fin 1024) (k : Fin 2048) : X0_5 m c t (ix2 j k) = aw m c (ix3 0 k ⟨j.val, by omega⟩) := by
  unfold X0_5 Pipeline.Window.fill
  rw [dif_pos (moved0_5 t _)]
  blk_simp [iblk]
  refine (congrArg (V m c main_v1) (show _ = ix2 (⟨j.val, by omega⟩ : Fin 5952) k from ?_)).trans ?_
  · blk_ext [idx5 t]
    all_goals rfl
  · show transpose S5952x2048 [1, 0] (shapeCast S2048x5952 (aw m c) _) _ (ix2 _ k) = _
    simp only [pointwise]

/-- What the scratch buffer holds after any point: the weights' first columns, transposed. -/
def Held (w : Vec Ideal S1024x2048 .bf16) : Prop := ∀ (j : Fin 1024) (k : Fin 2048), w (ix2 j k) = aw m c (ix3 0 k ⟨j.val, by omega⟩)

theorem held_first (t : Fin cfg0.N) : Held m c (k0_pay2 (F := Ideal) (X0_5 m c t)) := fun j k => (pay2_apply _ j k).trans (blk5 m c t j k)

theorem held (n : ℕ) (hn : n < cfg0.N) : Held m c (outsAt0 m c n hn).2.2 := by
  induction n with
  | zero =>
    rw [outsAt0_A m c ⟨0, hn⟩ rfl]
    dsimp only
    rw [soutA]
    exact held_first m c _
  | succ n ih =>
    by_cases h0 : (n + 1) % 18 = 0
    · rw [outsAt0_A m c ⟨n + 1, hn⟩ h0]
      dsimp only
      rw [soutA]
      exact held_first m c _
    · rw [outsAt0_B m c ⟨n + 1, hn⟩ h0]
      exact ih (Nat.lt_of_succ_lt hn)

/-- A point's row, as the formula of the argument arrays. -/
theorem row_eq (t : Fin cfg0.N) (i : Fin 512) (k : Fin 2048) (i' : Fin 9216) (hi : i'.val = t.val * 512 + i.val) :
    (if isLat t = 1#1 then iblk m c 0 t else iblk m c 1 t) (ix2 i k) = row (ax m c) (az m c) i' k := by
  unfold row
  by_cases ht : t.val < 16
  · rw [if_pos (isLat_lt t ht), dif_pos (by omega : i'.val < 8192)]
    exact blk0 m c t ht i k _ hi
  · rw [if_neg (by rw [isLat_ge t ht]; decide), dif_neg (by omega : ¬ i'.val < 8192)]
    exact blk1 m c t i k _ (by show i'.val - 8192 = _; omega)

theorem norm_eq (t : Fin cfg0.N) (i : Fin 512) (j : Fin 2048) (i' : Fin 9216) (hi : i'.val = t.val * 512 + i.val) :
    normRow (isLat t) (iblk m c 0 t) (iblk m c 1 t) (iblk m c 2 t) (iblk m c 3 t) (iblk m c 4 t) i j = out (ax m c) (az m c) (ag m c) (am m c) i' j := by
  unfold normRow modulated out
  have hb : i'.val / 2048 = t.val / 4 := by omega
  rw [blk2 m c t j, blk3 m c t j ⟨i'.val / 2048, by omega⟩ hb, blk4 m c t j ⟨i'.val / 2048, by omega⟩ hb]
  exact congrArg (fun f => normed f j * _ * _ + _) (funext fun k => row_eq m c t i k i' hi)

theorem proj_eq (t : Fin cfg0.N) (w : Vec Ideal S1024x2048 .bf16) (H : Held m c w) (i : Fin 512) (j : Fin 1024) (i' : Fin 9216)
    (hi : i'.val = t.val * 512 + i.val) :
    (∑ k : Fin 2048, normRow (isLat t) (iblk m c 0 t) (iblk m c 1 t) (iblk m c 2 t) (iblk m c 3 t) (iblk m c 4 t) i k
      * (show EReal from w (ix2 j k))) = proj (ax m c) (az m c) (ag m c) (am m c) (aw m c) i' j :=
  Finset.sum_congr rfl fun k _ => congrArg₂ (· * ·) (norm_eq m c t i k i' hi) (H j k)

/-! What a point writes, as the formulas of the argument arrays. -/

theorem point6_eq (t : Fin cfg0.N) (i : Fin 512) (j : Fin 2048) (i' : Fin 9216) (hi : i'.val = t.val * 512 + i.val) :
    (outsAt0 m c t.val t.isLt).1 (ix2 i j) = out (ax m c) (az m c) (ag m c) (am m c) i' j := by
  by_cases h0 : t.val % 18 = 0
  · rw [outsAt0_A m c t h0]
    dsimp only
    rw [outA6]
    exact norm_eq m c t i j i' hi
  · rw [outsAt0_B m c t h0]
    dsimp only
    rw [outB6]
    exact norm_eq m c t i j i' hi

theorem point7_eq (t : Fin cfg0.N) (i : Fin 512) (j : Fin 1024) (i' : Fin 9216) (hi : i'.val = t.val * 512 + i.val) :
    (outsAt0 m c t.val t.isLt).2.1 (ix2 i j) = proj (ax m c) (az m c) (ag m c) (am m c) (aw m c) i' j := by
  by_cases h0 : t.val % 18 = 0
  · rw [outsAt0_A m c t h0]
    dsimp only
    rw [outA7]
    exact proj_eq m c t _ (held_first m c t) i j i' hi
  · rw [outsAt0_B m c t h0]
    dsimp only
    rw [outB7]
    exact proj_eq m c t _ (held m c (t.val - 1) _) i j i' hi

/-! The two result arrays after the run. -/

theorem final6 : (dats m 0 c).arrAt 6 cfg0.N = arr0 (ax m c) (az m c) (ag m c) (am m c) := by
  refine (dats m 0 c).arrAt_eq_of_covers 6 _ (by decide +kernel) fun t hf y => ?_
  blk_simp
  rw [after0_6]
  have e : y = ix2 (y 0) (y 1) := by idx_ext
  have h0 : ((win0_6.blk t).view.emb y 0).val = t.val * 512 + (y 0).val := by blk_simp [idx6 t]
  have h1 : ((win0_6.blk t).view.emb y 1) = y 1 := Fin.ext (by blk_simp [idx6 t])
  refine (congrArg (outsAt0 m c t.val t.isLt).1 e).trans ((point6_eq m c t (y 0) (y 1) ((win0_6.blk t).view.emb y 0) h0).trans ?_)
  unfold arr0
  rw [h1]

theorem final7 : (dats m 0 c).arrAt 7 cfg0.N = arr1 (ax m c) (az m c) (ag m c) (am m c) (aw m c) := by
  refine (dats m 0 c).arrAt_eq_of_covers 7 _ (by decide +kernel) fun t hf y => ?_
  blk_simp
  rw [after0_7]
  have e : y = ix2 (y 0) (y 1) := by idx_ext
  have h0 : ((win0_7.blk t).view.emb y 0).val = t.val * 512 + (y 0).val := by blk_simp [idx7 t]
  have h1 : ((win0_7.blk t).view.emb y 1) = y 1 := Fin.ext (by blk_simp [idx7 t])
  refine (congrArg (outsAt0 m c t.val t.isLt).2.1 e).trans ((point7_eq m c t (y 0) (y 1) ((win0_7.blk t).view.emb y 0) h0).trans ?_)
  unfold arr1
  rw [h1]

/-- The run: its results are the formulas, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = arr0 (ax m c) (az m c) (ag m c) (am m c)
      ∧ r.2.mem ((c : Thread nD τ).loc main_v3_1) = arr1 (ax m c) (az m c) (ag m c) (am m c) (aw m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩)
    (run_main m ρ)

end Cert.Kernel7Ideal.NormU

end
-- ==== Proof.NormU.Reference.lean ====
/-  The first normalisation's reference: its two result arrays are the formulas. -/
module

public import proofs.«01_k».proof.Proof.NormU.Spec
public import proofs.«01_k».proof.Proof.Gen.Reference7Ideal.Read
public import Idealize.ShloMosaic.Lib.Pipeline.Value

@[expose] public section

set_option maxRecDepth 16384

noncomputable section

namespace Cert.NormU.Reference

open Cert.Reference7Ideal Cert.Reference7Ideal.Gen Cert.Reference7Ideal.Read Cert.Layer Idealize.ShloMosaic Idealize.ShloMosaic.TcCoe
open scoped BigOperators

variable (x : Arr 8192 2048 .f32) (z : Arr 1024 2048 .f32) (g : Arr1 2048 .f32) (m : Arr4 8 6 1 2048 .f32) (w : Arr3 1 2048 5952 .f32)

/-- A latent row, at its batch, its place in the batch and a column. -/
theorem latent_row (b : Fin 4) (q : Fin 2048) (j : Fin 2048) (i : Fin 9216) (hi : i.val = b.val * 2048 + q.val) :
    val_main_v4 (F := Ideal) x (ix3 b q j) = row x z i j := by
  have e : idx_main_v4 (ix3 b q j) = ix2 ⟨i.val, by omega⟩ j := funext fun a => match a with
    | 0 => Fin.ext (show ((b.val * 2048 + q.val) * 2048 + j.val) / 2048 = i.val by omega)
    | 1 => Fin.ext (show ((b.val * 2048 + q.val) * 2048 + j.val) % 2048 = j.val by omega)
  unfold row
  rw [val_main_v4_apply, e, dif_pos (by omega : i.val < 8192)]

/-- A context row, at its batch, its place in the batch and a column. -/
theorem context_row (b : Fin 4) (q : Fin 256) (j : Fin 2048) (i : Fin 9216) (hi : i.val = 8192 + (b.val * 256 + q.val)) :
    val_main_v26 (F := Ideal) z (ix3 b q j) = row x z i j := by
  have e : idx_main_v26 (ix3 b q j) = ix2 ⟨i.val - 8192, by omega⟩ j := funext fun a => match a with
    | 0 => Fin.ext (show ((b.val * 256 + q.val) * 2048 + j.val) / 2048 = i.val - 8192 by omega)
    | 1 => Fin.ext (show ((b.val * 256 + q.val) * 2048 + j.val) % 2048 = j.val by omega)
  unfold row
  rw [val_main_v26_apply, e, dif_neg (by omega : ¬ i.val < 8192)]

/-- A latent row normalised and modulated. -/
theorem latent_eq (b : Fin 4) (q : Fin 2048) (j : Fin 2048) (i : Fin 9216) (hi : i.val = b.val * 2048 + q.val) :
    val_main_v25 (F := Ideal) x g m (ix3 b q j) = out x z g m i j := by
  have es : ∀ k : Fin 2048, val_main_v5 (F := Ideal) x (idx_main_v6 (idx_main_v7 (idx_main_v13 (ix3 b q j))) k) = row x z i k * row x z i k := fun k => by
    have ek : idx_main_v6 (idx_main_v7 (idx_main_v13 (ix3 b q j))) k = ix3 b q k := funext fun a => match a with | 0 => rfl | 1 => rfl | 2 => rfl
    rw [ek, val_main_v5_apply, latent_row x z b q k i hi]
    rfl
  have eg : idx_main_v15 (idx_main_v16 (ix3 b q j)) = ix1 j := funext fun a => match a with | 0 => rfl
  have e1 : idx_main_v2 (idx_main_v3 (idx_main_v18 (idx_main_v21 (ix3 b q j)))) = ix4 ⟨i.val / 2048, by omega⟩ 1 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  have e0 : idx_main_v0 (idx_main_v1 (idx_main_v23 (idx_main_v24 (ix3 b q j)))) = ix4 ⟨i.val / 2048, by omega⟩ 0 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  rw [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, latent_row x z b q j i hi, eg, Finset.sum_congr rfl fun k _ => es k, val_main_v3_apply, val_main_v2_apply, val_main_v1_apply, val_main_v0_apply, e1, e0, val_main_cst_apply,
    val_main_cst_0_apply, val_main_cst_1_apply, val_main_cst_2_apply]
  simp only [Ideal.ofBits_def, Ideal.ofBits_zero_f32, Ideal.ofBits_one_f32, zero_add]
  rfl

/-- A context row normalised and modulated. -/
theorem context_eq (b : Fin 4) (q : Fin 256) (j : Fin 2048) (i : Fin 9216) (hi : i.val = 8192 + (b.val * 256 + q.val)) :
    val_main_v51 (F := Ideal) z g m (ix3 b q j) = out x z g m i j := by
  have es : ∀ k : Fin 2048, val_main_v27 (F := Ideal) z (idx_main_v28 (idx_main_v29 (idx_main_v35 (ix3 b q j))) k) = row x z i k * row x z i k := fun k => by
    have ek : idx_main_v28 (idx_main_v29 (idx_main_v35 (ix3 b q j))) k = ix3 b q k := funext fun a => match a with | 0 => rfl | 1 => rfl | 2 => rfl
    rw [ek, val_main_v27_apply, context_row x z b q k i hi]
    rfl
  have eg : idx_main_v37 (idx_main_v38 (ix3 b q j)) = ix1 j := funext fun a => match a with | 0 => rfl
  have e1 : idx_main_v2 (idx_main_v3 (idx_main_v40 (idx_main_v41 (idx_main_v44 (idx_main_v45 (ix3 b q j)))))) = ix4 ⟨i.val / 2048, by omega⟩ 1 0 j := funext fun a => match a with
    | 0 => Fin.ext (show (((4 + 0) * 1 + 0) * 2048 + (0 * 2048 + j.val) % 2048) / 2048 = i.val / 2048 by omega)
    | 1 => rfl
    | 2 => rfl
    | 3 => Fin.ext (show (((4 + 0) * 1 + 0) * 2048 + (0 * 2048 + j.val) % 2048) % 2048 = j.val by omega)
  have e0 : idx_main_v0 (idx_main_v1 (idx_main_v47 (idx_main_v48 (idx_main_v49 (idx_main_v50 (ix3 b q j)))))) = ix4 ⟨i.val / 2048, by omega⟩ 0 0 j := funext fun a => match a with
    | 0 => Fin.ext (show (((4 + 0) * 1 + 0) * 2048 + (0 * 2048 + j.val) % 2048) / 2048 = i.val / 2048 by omega)
    | 1 => rfl
    | 2 => rfl
    | 3 => Fin.ext (show (((4 + 0) * 1 + 0) * 2048 + (0 * 2048 + j.val) % 2048) % 2048 = j.val by omega)
  rw [val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, context_row x z b q j i hi, eg, Finset.sum_congr rfl fun k _ => es k, val_main_v3_apply, val_main_v2_apply, val_main_v1_apply, val_main_v0_apply, e1, e0, val_main_cst_3_apply,
    val_main_cst_4_apply, val_main_cst_5_apply, val_main_cst_6_apply]
  simp only [Ideal.ofBits_def, Ideal.ofBits_zero_f32, Ideal.ofBits_one_f32, zero_add]
  rfl

/-- The rows, one after the other. -/
theorem rows_eq (i : Fin 9216) (j : Fin 2048) : val_main_v54 (F := Ideal) x z g m (ix2 i j) = out x z g m i j := by
  unfold val_main_v54
  by_cases h : i.val < 8192
  · refine (concatenate_pair_apply_left (s₁ := S8192x2048) (s₂ := S1024x2048) (t := S9216x2048) 0 _ _ _ (ix2 i j) rfl (ix2 ⟨i.val, h⟩ j)
      fun a => match a with | 0 => rfl | 1 => rfl).trans ?_
    have e : idx_main_v52 (ix2 ⟨i.val, h⟩ j) = ix3 ⟨i.val / 2048, by omega⟩ ⟨i.val % 2048, by omega⟩ j := funext fun a => match a with
      | 0 => Fin.ext (show (i.val * 2048 + j.val) / 4194304 = i.val / 2048 by omega)
      | 1 => Fin.ext (show (i.val * 2048 + j.val) / 2048 % 2048 = i.val % 2048 by omega)
      | 2 => Fin.ext (show (i.val * 2048 + j.val) % 2048 = j.val by omega)
    rw [val_main_v52_apply, e]
    exact latent_eq x z g m _ _ j i (by show i.val = i.val / 2048 * 2048 + i.val % 2048; omega)
  · refine (concatenate_pair_apply_right (s₁ := S8192x2048) (s₂ := S1024x2048) (t := S9216x2048) 0 _ _ _ (ix2 i j) rfl rfl (ix2 ⟨i.val - 8192, by omega⟩ j)
      (fun a => match a with | 0 => fun h0 => absurd rfl h0 | 1 => fun _ => rfl) (by show i.val - 8192 + 8192 = i.val; omega)).trans ?_
    have e : idx_main_v53 (ix2 ⟨i.val - 8192, by omega⟩ j) = ix3 ⟨(i.val - 8192) / 256, by omega⟩ ⟨(i.val - 8192) % 256, by omega⟩ j := funext fun a => match a with
      | 0 => Fin.ext (show ((i.val - 8192) * 2048 + j.val) / 524288 = (i.val - 8192) / 256 by omega)
      | 1 => Fin.ext (show ((i.val - 8192) * 2048 + j.val) / 2048 % 256 = (i.val - 8192) % 256 by omega)
      | 2 => Fin.ext (show ((i.val - 8192) * 2048 + j.val) % 2048 = j.val by omega)
    rw [val_main_v53_apply, e]
    exact context_eq x z g m _ _ j i (by show i.val = 8192 + ((i.val - 8192) / 256 * 256 + (i.val - 8192) % 256); omega)

/-! The reference's result arrays. -/

theorem result0 : val_main_v55 (F := Ideal) x z g m = arr0 x z g m := by
  funext y
  have e : y = ix2 (y 0) (y 1) := by idx_ext
  have h : ∀ (i : Fin 9216) (j : Fin 2048), val_main_v55 (F := Ideal) x z g m (ix2 i j) = out x z g m i j := fun i j => by
    rw [val_main_v55_apply, rows_eq]
    rfl
  exact (congrArg (val_main_v55 (F := Ideal) x z g m) e).trans (h (y 0) (y 1))

theorem result1 : val_main_v58 (F := Ideal) x z g m w = arr1 x z g m w := by
  funext y
  have e : y = ix2 (y 0) (y 1) := by idx_ext
  have h : ∀ (i : Fin 9216) (j : Fin 1024), val_main_v58 (F := Ideal) x z g m w (ix2 i j) = proj x z g m w i j := fun i j => by
    rw [val_main_v58_apply]
    refine Finset.sum_congr rfl fun k _ => ?_
    have el : lidx_main_v58 (ix2 i j) k = ix2 i k := funext fun a => match a with | 0 => rfl | 1 => rfl
    have er : idx_main_v56 (idx_main_v57 (ridx_main_v58 (ix2 i j) k)) = ix3 0 k ⟨j.val, by omega⟩ := funext fun a => match a with
      | 0 => rfl
      | 1 => Fin.ext (show (k.val * 5952 + j.val) / 5952 % 2048 = k.val by omega)
      | 2 => Fin.ext (show (k.val * 5952 + j.val) % 5952 = j.val by omega)
    rw [el, rows_eq, val_main_v57_apply, val_main_v56_apply, er]
  exact (congrArg (val_main_v58 (F := Ideal) x z g m w) e).trans (h (y 0) (y 1))

end Cert.NormU.Reference

end
-- ==== Proof.NormU.Claims.lean ====
/-  The claims about the first normalisation: the three frames, and that kernel and reference end with the same two arrays. -/
module

public import proofs.«01_k».proof.Defs
public import proofs.«01_k».proof.Proof.NormU.Whole
public import proofs.«01_k».proof.Proof.NormU.Reference
public import proofs.«01_k».proof.Proof.Gen.Kernel7.Frame
public import Idealize.ShloMosaic.Lib.Quiescent

@[expose] public section

noncomputable section

namespace Cert.NormU

open Idealize.ShloMosaic Idealize.SL.Sem

theorem frame : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

/-- Kernel and reference, run from the same arguments, end with equal results. -/
theorem algebraic : Cert.algebraic_Kernel7Ideal_Reference7Ideal := fun m ρ m' ρ' _ hag =>
  ⟨fun c => arr0 (Cert.Kernel7Ideal.NormU.ax m c) (Cert.Kernel7Ideal.NormU.az m c) (Cert.Kernel7Ideal.NormU.ag m c) (Cert.Kernel7Ideal.NormU.am m c),
    fun c => arr1 (Cert.Kernel7Ideal.NormU.ax m c) (Cert.Kernel7Ideal.NormU.az m c) (Cert.Kernel7Ideal.NormU.ag m c) (Cert.Kernel7Ideal.NormU.am m c) (Cert.Kernel7Ideal.NormU.aw m c),
    Cert.Kernel7Ideal.NormU.run m ρ,
    (θ_run Cert.Reference7Ideal.defs _ _).mono (fun _ h c => ⟨(h c).1.trans ((Cert.Reference7Ideal.Read.val_main_v55_eq _ _ _ _).trans
      ((Reference.result0 _ _ _ _).trans (by rw [(hag c).1, (hag c).2.1, (hag c).2.2.1, (hag c).2.2.2.1]))),
      (h c).2.1.trans ((Cert.Reference7Ideal.Read.val_main_v58_eq _ _ _ _ _).trans
      ((Reference.result1 _ _ _ _ _).trans (by rw [(hag c).1, (hag c).2.1, (hag c).2.2.1, (hag c).2.2.2.1, (hag c).2.2.2.2]))), (h c).2.2⟩)
      (Cert.Reference7Ideal.Value.run m' ρ')⟩

end Cert.NormU

end
-- ==== Proof.OutProj.Point.lean ====
/-  One grid point of the output projection, read at an element.

    A grid point holds 512 rows and the whole weights.  The first point casts the weights into a scratch buffer; every point
    multiplies by what the scratch holds, 256 rows at a time, writes the residual sum, and writes the sum normalised and modulated. -/
module

public import proofs.«01_k».proof.Proof.OutProj.Spec
public import proofs.«01_k».proof.Proof.Gen.Kernel6Ideal.Frame

@[expose] public section

set_option maxRecDepth 16384

noncomputable section

namespace Cert.Kernel6Ideal.OutProj

open Cert.Kernel6Ideal Cert.Kernel6Ideal.Gen Cert.Layer Cert.OutProj Idealize.ShloMosaic Idealize.ShloMosaic.TcCoe
open scoped BigOperators

/-! The payloads, at an element: the residual sum, and the sum normalised and modulated, for each 256 rows. -/

theorem pay3_apply (x2 : Vec Ideal S256x2048 .f32) (x3 : Vec Ideal S1x1x1x2048 .f32) (x0 : Vec Ideal S256x2048 .bf16) (w : Vec Ideal S2048x2048 .bf16)
    (i : Fin 256) (j : Fin 2048) : k0_pay3 (F := Ideal) x2 x3 x0 w (ix2 i j) = pre (f := .bf16) x0 w x2 x3 i j := by
  unfold k0_pay3
  simp only [pointwise, zero_add]
  rfl

theorem pay7_apply (x2 : Vec Ideal S256x2048 .f32) (x3 : Vec Ideal S1x1x1x2048 .f32) (x0 : Vec Ideal S256x2048 .bf16) (w : Vec Ideal S2048x2048 .bf16)
    (i : Fin 256) (j : Fin 2048) : k0_pay7 (F := Ideal) x2 x3 x0 w (ix2 i j) = pre (f := .bf16) x0 w x2 x3 i j :=
  pay3_apply x2 x3 x0 w i j

theorem pay6_apply (x2 : Vec Ideal S256x2048 .f32) (x3 : Vec Ideal S1x1x1x2048 .f32) (x0 : Vec Ideal S256x2048 .bf16) (w : Vec Ideal S2048x2048 .bf16)
    (x4 : Vec Ideal S1x2048 .f32) (x5 x6 : Vec Ideal S1x1x1x2048 .f32) (i : Fin 256) (j : Fin 2048) :
    k0_pay6 (F := Ideal) (k0_pay4 (F := Ideal) x2 x3 x0 w x4) (k0_pay5 (F := Ideal) x5) x6 (ix2 i j)
      = modulated (fun k => pre (f := .bf16) x0 w x2 x3 i k) x4 x5 x6 j := by
  unfold k0_pay6 k0_pay4 k0_pay5 k0_pay3
  simp only [pointwise, zero_add, Ideal.ofBits_one_f32]
  rfl

theorem pay1_apply (x2 : Vec Ideal S256x2048 .f32) (x3 : Vec Ideal S1x1x1x2048 .f32) (x0 : Vec Ideal S256x2048 .bf16) (w : Vec Ideal S2048x2048 .bf16)
    (x4 : Vec Ideal S1x2048 .f32) (x5 x6 : Vec Ideal S1x1x1x2048 .f32) (i : Fin 256) (j : Fin 2048) :
    k0_pay1 (F := Ideal) (k0_pay8 (F := Ideal) x2 x3 x0 w x4) x5 x6 (ix2 i j)
      = modulated (fun k => pre (f := .bf16) x0 w x2 x3 i k) x4 x5 x6 j := by
  unfold k0_pay1 k0_pay8 k0_pay7
  simp only [pointwise, zero_add, Ideal.ofBits_one_f32]
  rfl

/-- The cast weights, at an element. -/
theorem pay2_apply (w : Vec Ideal S2048x2048 .f32) (k j : Fin 2048) : k0_pay2 (F := Ideal) w (ix2 k j) = w (ix2 k j) := by
  unfold k0_pay2
  simp only [pointwise]

/-- The residual sum over a part of the rows. -/
theorem pre_part (x0 : Vec Ideal S512x2048 .bf16) (w : Vec Ideal S2048x2048 .bf16) (x2 : Vec Ideal S512x2048 .f32) (x3 : Vec Ideal S1x1x1x2048 .f32) (n : Nat)
    (inb : ∀ a : Fin 2, ![n, 0] a + ![256, 2048] a ≤ ![512, 2048] a) (p : Fin 256) (i : Fin 512) (j : Fin 2048) (hi : i.val = n + p.val) :
    pre (f := .bf16) (part x0 ![n, 0] inb) w (part x2 ![n, 0] inb) x3 p j = pre (f := .bf16) x0 w x2 x3 i j := by
  have hd : dot (e := .bf16) (part x0 ![n, 0] inb) (f := .bf16) w p j = dot (e := .bf16) x0 (f := .bf16) w i j :=
    Finset.sum_congr rfl fun k _ => congrArg (· * w (ix2 k j)) (part_apply x0 ![n, 0] inb p k i k hi (Nat.zero_add _).symm)
  unfold pre
  rw [hd]
  exact congrArg (· + _) (part_apply x2 ![n, 0] inb p j i j hi (Nat.zero_add _).symm)

/-! The stores' payloads, over parts of the rows. -/

theorem sum3 (x0 : Vec Ideal S512x2048 .bf16) (w : Vec Ideal S2048x2048 .bf16) (x2 : Vec Ideal S512x2048 .f32) (x3 : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay3 (F := Ideal) (part x2 ![n, 0] inb) x3 (part x0 ![n, 0] inb) w y = pre (f := .bf16) x0 w x2 x3 i j := by
  have e : y = ix2 (y 0) (y 1) := by idx_ext
  have ej : j = y 1 := Fin.ext hj
  rw [e, ej]
  exact (pay3_apply _ x3 _ w (y 0) (y 1)).trans (pre_part x0 w x2 x3 n inb (y 0) i (y 1) hi)

theorem sum7 (x0 : Vec Ideal S512x2048 .bf16) (w : Vec Ideal S2048x2048 .bf16) (x2 : Vec Ideal S512x2048 .f32) (x3 : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay7 (F := Ideal) (part x2 ![n, 0] inb) x3 (part x0 ![n, 0] inb) w y = pre (f := .bf16) x0 w x2 x3 i j := by
  have e : y = ix2 (y 0) (y 1) := by idx_ext
  have ej : j = y 1 := Fin.ext hj
  rw [e, ej]
  exact (pay7_apply _ x3 _ w (y 0) (y 1)).trans (pre_part x0 w x2 x3 n inb (y 0) i (y 1) hi)

theorem norm6 (x0 : Vec Ideal S512x2048 .bf16) (w : Vec Ideal S2048x2048 .bf16) (x2 : Vec Ideal S512x2048 .f32) (x3 : Vec Ideal S1x1x1x2048 .f32) (x4 : Vec Ideal S1x2048 .f32) (x5 x6 : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay6 (F := Ideal) (k0_pay4 (F := Ideal) (part x2 ![n, 0] inb) x3 (part x0 ![n, 0] inb) w x4) (k0_pay5 (F := Ideal) x5) x6 y = modulated (fun k => pre (f := .bf16) x0 w x2 x3 i k) x4 x5 x6 j := by
  have e : y = ix2 (y 0) (y 1) := by idx_ext
  have ej : j = y 1 := Fin.ext hj
  rw [e, ej]
  exact (pay6_apply _ x3 _ w x4 x5 x6 (y 0) (y 1)).trans
    (congrArg (fun f => modulated f x4 x5 x6 (y 1)) (funext fun k => pre_part x0 w x2 x3 n inb (y 0) i k hi))

theorem norm1 (x0 : Vec Ideal S512x2048 .bf16) (w : Vec Ideal S2048x2048 .bf16) (x2 : Vec Ideal S512x2048 .f32) (x3 : Vec Ideal S1x1x1x2048 .f32) (x4 : Vec Ideal S1x2048 .f32) (x5 x6 : Vec Ideal S1x1x1x2048 .f32) (n : Nat)
    (inb : ∀ a : Fin 2, ![n, 0] a + ![256, 2048] a ≤ ![512, 2048] a) (y : S256x2048.Idx) (i : Fin 512) (j : Fin 2048)
    (hi : i.val = n + (y 0).val) (hj : j.val = (y 1).val) :
    k0_pay1 (F := Ideal) (k0_pay8 (F := Ideal) (part x2 ![n, 0] inb) x3 (part x0 ![n, 0] inb) w x4) x5 x6 y = modulated (fun k => pre (f := .bf16) x0 w x2 x3 i k) x4 x5 x6 j := by
  have e : y = ix2 (y 0) (y 1) := by idx_ext
  have ej : j = y 1 := Fin.ext hj
  rw [e, ej]
  exact (pay1_apply _ x3 _ w x4 x5 x6 (y 0) (y 1)).trans
    (congrArg (fun f => modulated f x4 x5 x6 (y 1)) (funext fun k => pre_part x0 w x2 x3 n inb (y 0) i k hi))

variable (x0 : Vec Ideal S512x2048 .bf16) (x1 : Vec Ideal S2048x2048 .f32) (x2 : Vec Ideal S512x2048 .f32) (x3 : Vec Ideal S1x1x1x2048 .f32)
  (x4 : Vec Ideal S1x2048 .f32) (x5 x6 : Vec Ideal S1x1x1x2048 .f32)

/-! The two blocks written at the first point. -/

set_option maxHeartbeats 1000000 in
theorem outA7 (c : Dev nD) (t : Fin cfg0.N) (h) (i : Fin 512) (j : Fin 2048) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 (ix2 i j) = pre (f := .bf16) x0 (k0_pay2 (F := Ideal) x1) x2 x3 i j := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [stored, whole x1, whole4 x3]
  canon_tiles x e
  all_goals (replace e0 : i.val = _ := e0; replace e1 : j.val = _ := e1)
  · exact sum7 x0 _ x2 x3 256 _ x i j e0 e1
  · exact sum3 x0 _ x2 x3 0 _ x i j (e0.trans (Nat.zero_add _).symm) e1

set_option maxHeartbeats 1000000 in
theorem outA8 (c : Dev nD) (t : Fin cfg0.N) (h) (i : Fin 512) (j : Fin 2048) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 (ix2 i j) = modulated (fun k => pre (f := .bf16) x0 (k0_pay2 (F := Ideal) x1) x2 x3 i k) x4 x5 x6 j := by
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [stored, whole x1, whole4 x3, whole x4, whole4 x5, whole4 x6]
  canon_tiles x e
  all_goals (replace e0 : i.val = _ := e0; replace e1 : j.val = _ := e1)
  · exact norm1 x0 _ x2 x3 x4 x5 x6 256 _ x i j e0 e1
  · exact norm6 x0 _ x2 x3 x4 x5 x6 0 _ x i j (e0.trans (Nat.zero_add _).symm) e1

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 = k0_pay2 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6)]
  unfold kernelRun0_A; dsimp only; sl_unfold_words
  simp only [View.readAt_eq_ld, (hs0_1 t).read_unread]
  rw [stored_canon, whole x1]

/-! The two blocks written at a later point, from what the scratch buffer holds. -/

set_option maxHeartbeats 1000000 in
theorem outB7 (c : Dev nD) (t : Fin cfg0.N) (h) (s : Vec Ideal S2048x2048 .bf16) (i : Fin 512) (j : Fin 2048) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 s (ix2 i j) = pre (f := .bf16) x0 s x2 x3 i j := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 s)]
  unfold kernelRun0_B; dsimp only; sl_unfold_words
  simp only [View.readAt_eq_ld, (hs0_0 t).read_unread, (hs0_2 t).read_unread, (hs0_3 t).read_unread, (hs0_4 t).read_unread, (hs0_5 t).read_unread, (hs0_6 t).read_unread, (Memref.isWhole_whole _).read_unread]
  rw [whole s, whole4 x3]
  canon_tiles x e
  all_goals (replace e0 : i.val = _ := e0; replace e1 : j.val = _ := e1)
  · exact sum7 x0 _ x2 x3 256 _ x i j e0 e1
  · exact sum3 x0 _ x2 x3 0 _ x i j (e0.trans (Nat.zero_add _).symm) e1

set_option maxHeartbeats 1000000 in
theorem outB8 (c : Dev nD) (t : Fin cfg0.N) (h) (s : Vec Ideal S2048x2048 .bf16) (i : Fin 512) (j : Fin 2048) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 s (ix2 i j) = modulated (fun k => pre (f := .bf16) x0 s x2 x3 i k) x4 x5 x6 j := by
  unfold out0_B_8
  rw [View.read_writes_eq_canon _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h x0 x1 x2 x3 x4 x5 x6 s)]
  unfold kernelRun0_B; dsimp only; sl_unfold_words
  simp only [View.readAt_eq_ld, (hs0_0 t).read_unread, (hs0_2 t).read_unread, (hs0_3 t).read_unread, (hs0_4 t).read_unread, (hs0_5 t).read_unread, (hs0_6 t).read_unread, (Memref.isWhole_whole _).read_unread]
  rw [whole s, whole4 x3, whole x4, whole4 x5, whole4 x6]
  canon_tiles x e
  all_goals (replace e0 : i.val = _ := e0; replace e1 : j.val = _ := e1)
  · exact norm1 x0 _ x2 x3 x4 x5 x6 256 _ x i j e0 e1
  · exact norm6 x0 _ x2 x3 x4 x5 x6 0 _ x i j (e0.trans (Nat.zero_add _).symm) e1

end Cert.Kernel6Ideal.OutProj

end
-- ==== Proof.OutProj.Whole.lean ====
/-  The output projection: every element of the call's two result arrays is the formula. -/
module

public import proofs.«01_k».proof.Proof.OutProj.Point
public import proofs.«01_k».proof.Proof.Gen.Kernel6Ideal.Value
public import Idealize.ShloMosaic.Lib.Pipeline.ValueKit.Geometry

@[expose] public section

set_option maxRecDepth 16384

noncomputable section

namespace Cert.Kernel6Ideal.OutProj

open Cert.Kernel6Ideal Cert.Kernel6Ideal.Gen Cert.Layer Cert.OutProj Idealize.ShloMosaic Idealize.ShloMosaic.TcCoe
open Idealize.ShloMosaic.Pipeline (Dat)
open scoped BigOperators

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 4, 2, 0, 0] :=
  (by decide +kernel : ∀ t : Fin grid0.N, win0_3.index t = ![t.val / 4, 2, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 4, 4, 0, 0] :=
  (by decide +kernel : ∀ t : Fin grid0.N, win0_5.index t = ![t.val / 4, 4, 0, 0])
theorem idx6 : ∀ t : Fin cfg0.N, win0_6.index t = ![t.val / 4, 3, 0, 0] :=
  (by decide +kernel : ∀ t : Fin grid0.N, win0_6.index t = ![t.val / 4, 3, 0, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])

variable (m : (ℓ : Loc nD τ sig) → Buf (Elt Ideal) ℓ) (c : Dev nD)

/-- The argument arrays on a device. -/
abbrev ax : Arr 8192 2048 .bf16 := m ((c : Thread nD τ).loc main_arg0)
abbrev aw : Arr 2048 2048 .f32 := m ((c : Thread nD τ).loc main_arg1)
abbrev ar : Arr 8192 2048 .f32 := m ((c : Thread nD τ).loc main_arg2)
abbrev am : Arr4 8 6 1 2048 .f32 := m ((c : Thread nD τ).loc main_arg3)
abbrev ag : Arr1 2048 .f32 := m ((c : Thread nD τ).loc main_arg4)

theorem blk0 (t : Fin cfg0.N) (i : Fin 512) (j : Fin 2048) (i' : Fin 8192) (hi : i'.val = t.val * 512 + i.val) :
    iblk m c 0 t (ix2 i j) = ax m c (ix2 i' j) := by
  blk_simp [iblk]
  refine congrArg (ax m c) ?_
  blk_ext [idx0 t]
  all_goals first | exact hi.symm | rfl

theorem blk1 (t : Fin cfg0.N) (k j : Fin 2048) : iblk m c 1 t (ix2 k j) = aw m c (ix2 k j) := by
  blk_simp [iblk]
  refine congrArg (aw m c) ?_
  blk_ext [idx1 t]
  all_goals rfl

theorem blk2 (t : Fin cfg0.N) (i : Fin 512) (j : Fin 2048) (i' : Fin 8192) (hi : i'.val = t.val * 512 + i.val) :
    iblk m c 2 t (ix2 i j) = ar m c (ix2 i' j) := by
  blk_simp [iblk]
  refine congrArg (ar m c) ?_
  blk_ext [idx2 t]
  all_goals first | exact hi.symm | rfl

theorem blk3 (t : Fin cfg0.N) (j : Fin 2048) (b : Fin 8) (hb : b.val = t.val / 4) : iblk m c 3 t (ix4 0 0 0 j) = am m c (ix4 b 2 0 j) := by
  blk_simp [iblk]
  refine congrArg (am m c) ?_
  blk_ext [idx3 t]
  all_goals first | exact hb.symm | rfl

theorem blk5 (t : Fin cfg0.N) (j : Fin 2048) (b : Fin 8) (hb : b.val = t.val / 4) : iblk m c 5 t (ix4 0 0 0 j) = am m c (ix4 b 4 0 j) := by
  blk_simp [iblk]
  refine congrArg (am m c) ?_
  blk_ext [idx5 t]
  all_goals first | exact hb.symm | rfl

theorem blk6 (t : Fin cfg0.N) (j : Fin 2048) (b : Fin 8) (hb : b.val = t.val / 4) : iblk m c 6 t (ix4 0 0 0 j) = am m c (ix4 b 3 0 j) := by
  blk_simp [iblk]
  refine congrArg (am m c) ?_
  blk_ext [idx6 t]
  all_goals first | exact hb.symm | rfl

/-- The scales of the normalisation, as the region finds them: the argument, reshaped. -/
theorem blk4 (t : Fin cfg0.N) (j : Fin 2048) : iblk m c 4 t (ix2 0 j) = ag m c (ix1 j) := by
  blk_simp [iblk]
  refine (congrArg (V m c main_v0) (show _ = ix2 (0 : Fin 1) j from ?_)).trans ?_
  · blk_ext [idx4 t]
    all_goals rfl
  · show shapeCast S1x2048 (ag m c) _ (ix2 0 j) = _
    simp only [pointwise]

/-- What the scratch buffer holds after any point: the weights. -/
def Held (w : Vec Ideal S2048x2048 .bf16) : Prop := ∀ k j : Fin 2048, w (ix2 k j) = aw m c (ix2 k j)

theorem held_first (t : Fin cfg0.N) : Held m c (k0_pay2 (F := Ideal) (iblk m c 1 t)) := fun k j => (pay2_apply _ k j).trans (blk1 m c t k j)

theorem held (n : ℕ) (hn : n < cfg0.N) : Held m c (outsAt0 m c n hn).2.2 := by
  induction n with
  | zero =>
    rw [outsAt0_A m c ⟨0, hn⟩ rfl]
    dsimp only
    rw [soutA]
    exact held_first m c _
  | succ n ih =>
    by_cases h0 : (n + 1) % 16 = 0
    · rw [outsAt0_A m c ⟨n + 1, hn⟩ h0]
      dsimp only
      rw [soutA]
      exact held_first m c _
    · rw [outsAt0_B m c ⟨n + 1, hn⟩ h0]
      exact ih (Nat.lt_of_succ_lt hn)

/-- A row of a point's residual sum, as the formula of the argument arrays. -/
theorem pre_eq (t : Fin cfg0.N) (w : Vec Ideal S2048x2048 .bf16) (H : Held m c w) (i : Fin 512) (j : Fin 2048) (i' : Fin 8192)
    (hi : i'.val = t.val * 512 + i.val) :
    pre (f := .bf16) (iblk m c 0 t) w (iblk m c 2 t) (iblk m c 3 t) i j = acc (ax m c) (aw m c) (ar m c) (am m c) i' j := by
  unfold pre acc
  rw [blk2 m c t i j i' hi, blk3 m c t j ⟨i'.val / 2048, by omega⟩ (by show i'.val / 2048 = _; omega)]
  exact congrArg (fun s => ar m c (ix2 i' j) + am m c _ * s)
    (Finset.sum_congr rfl fun k _ => congrArg₂ (· * ·) (blk0 m c t i k i' hi) (H k j))

theorem post_eq (t : Fin cfg0.N) (w : Vec Ideal S2048x2048 .bf16) (H : Held m c w) (i : Fin 512) (j : Fin 2048) (i' : Fin 8192)
    (hi : i'.val = t.val * 512 + i.val) :
    modulated (fun k => pre (f := .bf16) (iblk m c 0 t) w (iblk m c 2 t) (iblk m c 3 t) i k) (iblk m c 4 t) (iblk m c 5 t) (iblk m c 6 t) j
      = out (ax m c) (aw m c) (ar m c) (am m c) (ag m c) i' j := by
  unfold modulated out
  have hb : i'.val / 2048 = t.val / 4 := by omega
  rw [blk4 m c t j, blk5 m c t j ⟨i'.val / 2048, by omega⟩ hb, blk6 m c t j ⟨i'.val / 2048, by omega⟩ hb]
  exact congrArg (fun f => normed f j * _ * _ + _) (funext fun k => pre_eq m c t w H i k i' hi)

/-- What a point writes, as the formulas of the argument arrays. -/
theorem point_eq (t : Fin cfg0.N) (i : Fin 512) (j : Fin 2048) (i' : Fin 8192) (hi : i'.val = t.val * 512 + i.val) :
    (outsAt0 m c t.val t.isLt).1 (ix2 i j) = acc (ax m c) (aw m c) (ar m c) (am m c) i' j
      ∧ (outsAt0 m c t.val t.isLt).2.1 (ix2 i j) = out (ax m c) (aw m c) (ar m c) (am m c) (ag m c) i' j := by
  by_cases h0 : t.val % 16 = 0
  · rw [outsAt0_A m c t h0]
    dsimp only
    rw [outA7, outA8]
    exact ⟨pre_eq m c t _ (held_first m c t) i j i' hi, post_eq m c t _ (held_first m c t) i j i' hi⟩
  · rw [outsAt0_B m c t h0]
    dsimp only
    rw [outB7, outB8]
    exact ⟨pre_eq m c t _ (held m c (t.val - 1) _) i j i' hi, post_eq m c t _ (held m c (t.val - 1) _) i j i' hi⟩

/-! The two result arrays after the run. -/

theorem final7 : (dats m 0 c).arrAt 7 cfg0.N = arr0 (ax m c) (aw m c) (ar m c) (am m c) := by
  refine (dats m 0 c).arrAt_eq_of_covers 7 _ (by decide +kernel) fun t hf y => ?_
  blk_simp
  rw [after0_7]
  have e : y = ix2 (y 0) (y 1) := by idx_ext
  have h0 : ((win0_7.blk t).view.emb y 0).val = t.val * 512 + (y 0).val := by blk_simp [idx7 t]
  have h1 : ((win0_7.blk t).view.emb y 1) = y 1 := Fin.ext (by blk_simp [idx7 t])
  refine (congrArg (outsAt0 m c t.val t.isLt).1 e).trans ((point_eq m c t (y 0) (y 1) ((win0_7.blk t).view.emb y 0) h0).1.trans ?_)
  unfold arr0
  rw [h1]

theorem final8 : (dats m 0 c).arrAt 8 cfg0.N = arr1 (ax m c) (aw m c) (ar m c) (am m c) (ag m c) := by
  refine (dats m 0 c).arrAt_eq_of_covers 8 _ (by decide +kernel) fun t hf y => ?_
  blk_simp
  rw [after0_8]
  have e : y = ix2 (y 0) (y 1) := by idx_ext
  have h0 : ((win0_8.blk t).view.emb y 0).val = t.val * 512 + (y 0).val := by blk_simp [idx8 t]
  have h1 : ((win0_8.blk t).view.emb y 1) = y 1 := Fin.ext (by blk_simp [idx8 t])
  refine (congrArg (outsAt0 m c t.val t.isLt).2.1 e).trans ((point_eq m c t (y 0) (y 1) ((win0_8.blk t).view.emb y 0) h0).2.trans ?_)
  unfold arr1
  rw [h1]

end Cert.Kernel6Ideal.OutProj

end
-- ==== Proof.OutProj.Reference.lean ====
/-  The output projection's reference: its two result arrays are the formulas. -/
module

public import proofs.«01_k».proof.Proof.OutProj.Spec
public import proofs.«01_k».proof.Proof.Gen.Reference6Ideal.Read

@[expose] public section

set_option maxRecDepth 16384

noncomputable section

namespace Cert.OutProj.Reference

open Cert.Reference6Ideal Cert.Reference6Ideal.Gen Cert.Reference6Ideal.Read Cert.Layer Idealize.ShloMosaic Idealize.ShloMosaic.TcCoe
open scoped BigOperators

variable (x : Arr 8192 2048 .bf16) (w : Arr 2048 2048 .f32) (r : Arr 8192 2048 .f32) (m : Arr4 8 6 1 2048 .f32) (g : Arr1 2048 .f32)

/-- The product. -/
theorem prod_eq (y : S8192x2048.Idx) : val_main_v8 (F := Ideal) x w y = dot x w (y 0) (y 1) := by
  rw [val_main_v8_apply]
  refine Finset.sum_congr rfl fun k _ => ?_
  rw [val_main_v7_apply]
  refine congrArg₂ (· * ·) (congrArg x ?_) (congrArg w ?_)
  · exact funext fun a => match a with | 0 => rfl | 1 => rfl
  · exact funext fun a => match a with | 0 => rfl | 1 => rfl

/-- The residual sum, at a batch, a row of the batch and a column. -/
theorem acc_eq (b : Fin 4) (q : Fin 2048) (j : Fin 2048) (i : Fin 8192) (hi : i.val = b.val * 2048 + q.val) :
    val_main_v12 (F := Ideal) x w r m (ix3 b q j) = acc x w r m i j := by
  rw [val_main_v12_apply, val_main_v11_apply, val_main_v10_apply, val_main_v9_apply, val_main_v6_apply, val_main_v1_apply,
    val_main_v0_apply, prod_eq]
  unfold acc
  have e : idx_main_v6 (ix3 b q j) = ix2 i j := funext fun a => match a with
    | 0 => Fin.ext (show ((b.val * 2048 + q.val) * 2048 + j.val) / 2048 = i.val by omega)
    | 1 => Fin.ext (show ((b.val * 2048 + q.val) * 2048 + j.val) % 2048 = j.val by omega)
  have e9 : idx_main_v9 (ix3 b q j) = ix2 i j := e
  have em : idx_main_v0 (idx_main_v1 (idx_main_v10 (ix3 b q j))) = ix4 ⟨i.val / 2048, by omega⟩ 2 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  rw [e, e9, em]
  rfl

/-- The sum normalised and modulated, at a batch, a row of the batch and a column. -/
theorem out_eq (b : Fin 4) (q : Fin 2048) (j : Fin 2048) (i : Fin 8192) (hi : i.val = b.val * 2048 + q.val) :
    val_main_v31 (F := Ideal) x w r m g (ix3 b q j) = out x w r m g i j := by
  have es : ∀ k : Fin 2048, val_main_v13 (F := Ideal) x w r m (idx_main_v14 (idx_main_v15 (idx_main_v21 (ix3 b q j))) k)
      = acc x w r m i k * acc x w r m i k := fun k => by
    have ek : idx_main_v14 (idx_main_v15 (idx_main_v21 (ix3 b q j))) k = ix3 b q k :=
      funext fun a => match a with | 0 => rfl | 1 => rfl | 2 => rfl
    rw [ek, val_main_v13_apply, acc_eq x w r m b q k i hi]
    rfl
  have eg : idx_main_v23 (idx_main_v24 (ix3 b q j)) = ix1 j := funext fun a => match a with | 0 => rfl
  have e5 : idx_main_v4 (idx_main_v5 (idx_main_v28 (ix3 b q j))) = ix4 ⟨i.val / 2048, by omega⟩ 4 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  have e3 : idx_main_v2 (idx_main_v3 (idx_main_v30 (ix3 b q j))) = ix4 ⟨i.val / 2048, by omega⟩ 3 0 j := funext fun a => match a with
    | 0 => Fin.ext (show ((b.val * 1 + 0) * 2048 + j.val) / 2048 = i.val / 2048 by omega)
    | 1 => rfl
    | 2 => rfl
    | 3 => Fin.ext (show ((b.val * 1 + 0) * 2048 + j.val) % 2048 = j.val by omega)
  rw [val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    acc_eq x w r m b q j i hi, eg, Finset.sum_congr rfl fun k _ => es k, val_main_v5_apply, val_main_v4_apply, val_main_v3_apply,
    val_main_v2_apply, e5, e3, val_main_cst_apply, val_main_cst_0_apply, val_main_cst_1_apply, val_main_cst_2_apply]
  simp only [Ideal.ofBits_def, Ideal.ofBits_zero_f32, Ideal.ofBits_one_f32, zero_add]
  rfl

/-- Row `i` of a result is row `i % 2048` of batch `i / 2048`. -/
theorem split (i : Fin 8192) (j : Fin 2048) : ∃ (b : Fin 4) (q : Fin 2048), i.val = b.val * 2048 + q.val
    ∧ idx_main_v32 (ix2 i j) = ix3 b q j ∧ idx_main_v33 (ix2 i j) = ix3 b q j := by
  have e : idx_main_v32 (ix2 i j) = ix3 ⟨i.val / 2048, by omega⟩ ⟨i.val % 2048, by omega⟩ j := funext fun a => match a with
    | 0 => Fin.ext (show (i.val * 2048 + j.val) / 4194304 = i.val / 2048 by omega)
    | 1 => Fin.ext (show (i.val * 2048 + j.val) / 2048 % 2048 = i.val % 2048 by omega)
    | 2 => Fin.ext (show (i.val * 2048 + j.val) % 2048 = j.val by omega)
  exact ⟨⟨i.val / 2048, by omega⟩, ⟨i.val % 2048, by omega⟩, by show i.val = i.val / 2048 * 2048 + i.val % 2048; omega, e, e⟩

/-! The reference's result arrays. -/

theorem result0 : val_main_v32 (F := Ideal) x w r m = arr0 x w r m := by
  funext y
  have e : y = ix2 (y 0) (y 1) := by idx_ext
  have h : ∀ (i : Fin 8192) (j : Fin 2048), val_main_v32 (F := Ideal) x w r m (ix2 i j) = acc x w r m i j := fun i j => by
    obtain ⟨b, q, hi, e0, -⟩ := split i j
    rw [val_main_v32_apply, e0]
    exact acc_eq x w r m b q j i hi
  exact (congrArg (val_main_v32 (F := Ideal) x w r m) e).trans (h (y 0) (y 1))

theorem result1 : val_main_v34 (F := Ideal) x w r m g = arr1 x w r m g := by
  funext y
  have e : y = ix2 (y 0) (y 1) := by idx_ext
  have h : ∀ (i : Fin 8192) (j : Fin 2048), val_main_v34 (F := Ideal) x w r m g (ix2 i j) = out x w r m g i j := fun i j => by
    obtain ⟨b, q, hi, -, e1⟩ := split i j
    rw [val_main_v34_apply, val_main_v33_apply, e1, out_eq x w r m g b q j i hi]
    rfl
  exact (congrArg (val_main_v34 (F := Ideal) x w r m g) e).trans (h (y 0) (y 1))

end Cert.OutProj.Reference

end
-- ==== Proof.OutProj.Claims.lean ====
/-  The claims about the output projection: the three frames, and that kernel and reference end with the same two arrays. -/
module

public import proofs.«01_k».proof.Defs
public import proofs.«01_k».proof.Proof.OutProj.Whole
public import proofs.«01_k».proof.Proof.OutProj.Reference
public import proofs.«01_k».proof.Proof.Gen.Kernel6.Frame
public import Idealize.ShloMosaic.Lib.Quiescent

@[expose] public section

noncomputable section

namespace Cert.OutProj

open Idealize.ShloMosaic Idealize.SL.Sem

theorem frame : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- Kernel and reference, run from the same arguments, end with equal results. -/
theorem algebraic : Cert.algebraic_Kernel6Ideal_Reference6Ideal := fun m ρ m' ρ' _ hag =>
  ⟨fun c => arr0 (Cert.Kernel6Ideal.OutProj.ax m c) (Cert.Kernel6Ideal.OutProj.aw m c) (Cert.Kernel6Ideal.OutProj.ar m c) (Cert.Kernel6Ideal.OutProj.am m c),
    fun c => arr1 (Cert.Kernel6Ideal.OutProj.ax m c) (Cert.Kernel6Ideal.OutProj.aw m c) (Cert.Kernel6Ideal.OutProj.ar m c) (Cert.Kernel6Ideal.OutProj.am m c) (Cert.Kernel6Ideal.OutProj.ag m c),
    (θ_run Cert.Kernel6Ideal.defs _ _).mono (fun _ h c => ⟨(h c).1.trans (Cert.Kernel6Ideal.OutProj.final7 m c), (h c).2.1.trans (Cert.Kernel6Ideal.OutProj.final8 m c), (h c).2.2⟩)
      (Cert.Kernel6Ideal.Value.run_blocks m ρ),
    (θ_run Cert.Reference6Ideal.defs _ _).mono (fun _ h c => ⟨(h c).1.trans ((Cert.Reference6Ideal.Read.val_main_v32_eq _ _ _ _).trans
      ((Reference.result0 _ _ _ _).trans (by rw [(hag c).1, (hag c).2.1, (hag c).2.2.1, (hag c).2.2.2.1]))),
      (h c).2.1.trans ((Cert.Reference6Ideal.Read.val_main_v34_eq _ _ _ _ _).trans
      ((Reference.result1 _ _ _ _ _).trans (by rw [(hag c).1, (hag c).2.1, (hag c).2.2.1, (hag c).2.2.2.1, (hag c).2.2.2.2]))), (h c).2.2⟩)
      (Cert.Reference6Ideal.Value.run m' ρ')⟩

end Cert.OutProj

end
-- ==== Proof.QPath.Point.lean ====
/-  One grid point of the queries' projection, read at an element.

    A grid point holds 1024 rows.  They are multiplied by the query columns of the input weights (cast into a scratch buffer at
    the first point), each row of the product is normalised, and multiplied by the expanded second weights: 1024 columns without
    a position, 512 with one, and 512 that hold the turned partner of each of those. -/
module

public import proofs.«01_k».proof.Proof.Layer.Latent
public import proofs.«01_k».proof.Proof.Gen.Kernel9Ideal.Frame

@[expose] public section

set_option maxRecDepth 16384

noncomputable section

namespace Cert.Kernel9Ideal.QPath

open Cert.Kernel9Ideal Cert.Kernel9Ideal.Gen Cert.Layer Idealize.ShloMosaic Idealize.ShloMosaic.TcCoe
open scoped BigOperators

/-- The constant that scales the scores. -/
abbrev sc : EReal := Ideal.ofBits .f32 0x3D93CD3A#32

/-- A normalised row of the first product, times the scales. -/
def row (x : Vec Ideal S1024x2048 .bf16) (w : Vec Ideal S512x2048 .bf16) (g : Vec Ideal S1x512 .f32) (i : Fin 1024) (k : Fin 512) : EReal :=
  unit 0x44000000#32 (fun k => ∑ l : Fin 2048, x (ix2 i l) * w (ix2 k l)) k * g (ix2 0 k)

/-- The second product, at an element. -/
def prod (x : Vec Ideal S1024x2048 .bf16) (w : Vec Ideal S512x2048 .bf16) (g : Vec Ideal S1x512 .f32) (u : Vec Ideal S512x2048 .bf16)
    (i : Fin 1024) (j : Fin 2048) : EReal := ∑ k : Fin 512, row x w g i k * u (ix2 k j)

/-- What a point writes, at an element. -/
def point (x : Vec Ideal S1024x2048 .bf16) (w : Vec Ideal S512x2048 .bf16) (g : Vec Ideal S1x512 .f32) (u : Vec Ideal S512x2048 .bf16)
    (cs sn : Vec Ideal S1024x128 .f32) (i : Fin 1024) (j : Fin 1536) : EReal :=
  if j.val < 1024 then prod x w g u i ⟨j.val, by omega⟩ * sc
  else prod x w g u i ⟨j.val, by omega⟩ * (cs (ix2 i ⟨j.val % 128, by omega⟩) * sc)
    + prod x w g u i ⟨j.val + 512, by omega⟩ * (sn (ix2 i ⟨j.val % 128, by omega⟩) * sc)

theorem pay7_apply (x : Vec Ideal S1024x2048 .bf16) (w : Vec Ideal S512x2048 .bf16) (g : Vec Ideal S1x512 .f32) (u : Vec Ideal S512x2048 .bf16)
    (i : Fin 1024) (j : Fin 2048) : k0_pay7 (F := Ideal) x w g u (ix2 i j) = prod x w g u i j := by
  unfold k0_pay7
  simp only [pointwise, zero_add]
  rfl

theorem pay8_apply (x : Vec Ideal S1024x2048 .bf16) (w : Vec Ideal S512x2048 .bf16) (g : Vec Ideal S1x512 .f32) (u : Vec Ideal S512x2048 .bf16)
    (i j : Fin 1024) : k0_pay8 (F := Ideal) x w g u (ix2 i j) = k0_pay7 (F := Ideal) x w g u (ix2 i ⟨0 + j.val, by omega⟩) * sc := by
  unfold k0_pay8
  generalize k0_pay7 (F := Ideal) x w g u = v
  simp only [pointwise]
  exact congrArg (fun a => v a * _) (by idx_ext)

theorem pay9_apply (cs : Vec Ideal S1024x128 .f32) (i : Fin 1024) (l : Fin 128) : k0_pay9 (F := Ideal) cs (ix2 i l) = cs (ix2 i l) * sc := by
  unfold k0_pay9
  simp only [pointwise]

theorem pay1_apply (sn : Vec Ideal S1024x128 .f32) (i : Fin 1024) (l : Fin 128) : k0_pay1 (F := Ideal) sn (ix2 i l) = sn (ix2 i l) * sc := by
  unfold k0_pay1
  simp only [pointwise]

/-- The cast weights, at an element. -/
theorem pay6_apply (w : Vec Ideal S512x2048 .f32) (k : Fin 512) (l : Fin 2048) : k0_pay6 (F := Ideal) w (ix2 k l) = w (ix2 k l) := by
  unfold k0_pay6
  simp only [pointwise]

theorem pay2_apply (v : Vec Ideal S1024x2048 .f32) (cs sn : Vec Ideal S1024x128 .f32) (i : Fin 1024) (l : Fin 128) :
    k0_pay2 (F := Ideal) v cs sn (ix2 i l) = v (ix2 i ⟨1024 + 0 + l.val, by omega⟩) * cs (ix2 i l)
      + v (ix2 i ⟨1536 + 0 + l.val, by omega⟩) * k0_pay1 (F := Ideal) sn (ix2 i l) := by
  unfold k0_pay2
  simp only [pointwise]
  exact congrArg₂ (fun a b => v a * _ + v b * _) (by idx_ext) (by idx_ext)

theorem pay3_apply (v : Vec Ideal S1024x2048 .f32) (cs sn : Vec Ideal S1024x128 .f32) (i : Fin 1024) (l : Fin 128) :
    k0_pay3 (F := Ideal) v cs sn (ix2 i l) = v (ix2 i ⟨1024 + 128 + l.val, by omega⟩) * cs (ix2 i l)
      + v (ix2 i ⟨1536 + 128 + l.val, by omega⟩) * k0_pay1 (F := Ideal) sn (ix2 i l) := by
  unfold k0_pay3
  simp only [pointwise]
  exact congrArg₂ (fun a b => v a * _ + v b * _) (by idx_ext) (by idx_ext)

theorem pay4_apply (v : Vec Ideal S1024x2048 .f32) (cs sn : Vec Ideal S1024x128 .f32) (i : Fin 1024) (l : Fin 128) :
    k0_pay4 (F := Ideal) v cs sn (ix2 i l) = v (ix2 i ⟨1024 + 256 + l.val, by omega⟩) * cs (ix2 i l)
      + v (ix2 i ⟨1536 + 256 + l.val, by omega⟩) * k0_pay1 (F := Ideal) sn (ix2 i l) := by
  unfold k0_pay4
  simp only [pointwise]
  exact congrArg₂ (fun a b => v a * _ + v b * _) (by idx_ext) (by idx_ext)

theorem pay5_apply (v : Vec Ideal S1024x2048 .f32) (cs sn : Vec Ideal S1024x128 .f32) (i : Fin 1024) (l : Fin 128) :
    k0_pay5 (F := Ideal) v cs sn (ix2 i l) = v (ix2 i ⟨1024 + 384 + l.val, by omega⟩) * cs (ix2 i l)
      + v (ix2 i ⟨1536 + 384 + l.val, by omega⟩) * k0_pay1 (F := Ideal) sn (ix2 i l) := by
  unfold k0_pay5
  simp only [pointwise]
  exact congrArg₂ (fun a b => v a * _ + v b * _) (by idx_ext) (by idx_ext)

variable (x0 : Vec Ideal S1024x2048 .bf16) (x1 : Vec Ideal S512x2048 .f32) (x2 : Vec Ideal S1x512 .f32) (x3 : Vec Ideal S512x2048 .bf16)
  (x4 x5 : Vec Ideal S1024x128 .f32)

/-- The columns without a position. -/
theorem piece_plain (w : Vec Ideal S512x2048 .bf16) (y : S1024x1024.Idx) (i : Fin 1024) (j : Fin 1536) (e0 : i.val = 0 + (y 0).val) (e1 : j.val = 0 + (y 1).val) :
    k0_pay8 (F := Ideal) x0 w x2 x3 y = point x0 w x2 x3 x4 x5 i j := by
  have hy : (y 1).val < 1024 := (y 1).isLt
  have e : y = ix2 (y 0 : Fin 1024) (y 1 : Fin 1024) := by idx_ext
  have h : k0_pay8 (F := Ideal) x0 w x2 x3 y = prod x0 w x2 x3 (y 0 : Fin 1024) ⟨0 + (y 1).val, by omega⟩ * sc :=
    (congrArg (k0_pay8 (F := Ideal) x0 w x2 x3) e).trans ((pay8_apply x0 w x2 x3 (y 0) (y 1)).trans (congrArg (· * sc) (pay7_apply x0 w x2 x3 _ _)))
  rw [h]
  unfold point
  rw [if_pos (by omega), show y 0 = i from Fin.ext (by omega)]
  exact congrArg (prod x0 w x2 x3 i · * sc) (Fin.ext e1.symm)

/-- 128 columns with a position. -/
theorem piece_rope (w : Vec Ideal S512x2048 .bf16) (off : Nat) (hoff : off + 128 ≤ 512 ∧ off % 128 = 0)
    (p : Vec Ideal S1024x128 .f32 → Vec Ideal S1024x128 .f32 → Vec Ideal S1024x128 .bf16)
    (hp : ∀ (cs sn : Vec Ideal S1024x128 .f32) (i : Fin 1024) (l : Fin 128), p cs sn (ix2 i l) =
      k0_pay7 (F := Ideal) x0 w x2 x3 (ix2 i ⟨1024 + off + l.val, by omega⟩) * cs (ix2 i l)
      + k0_pay7 (F := Ideal) x0 w x2 x3 (ix2 i ⟨1536 + off + l.val, by omega⟩) * k0_pay1 (F := Ideal) sn (ix2 i l))
    (y : S1024x128.Idx) (i : Fin 1024) (j : Fin 1536) (e0 : i.val = 0 + (y 0).val) (e1 : j.val = 1024 + off + (y 1).val) :
    p (k0_pay9 (F := Ideal) x4) x5 y = point x0 w x2 x3 x4 x5 i j := by
  have hy : (y 1).val < 128 := (y 1).isLt
  have e : y = ix2 (y 0 : Fin 1024) (y 1 : Fin 128) := by idx_ext
  refine (congrArg (p (k0_pay9 (F := Ideal) x4) x5) e).trans ((hp (k0_pay9 (F := Ideal) x4) x5 (y 0) (y 1)).trans ?_)
  have ei : (y 0 : Fin 1024) = i := Fin.ext (by omega)
  have ej : (y 1 : Fin 128) = ⟨j.val % 128, by omega⟩ := Fin.ext (show _ = j.val % 128 by omega)
  refine (congrArg₂ (· + ·) (congrArg₂ (· * ·) (pay7_apply x0 w x2 x3 _ _) (pay9_apply x4 _ _)) (congrArg₂ (· * ·) (pay7_apply x0 w x2 x3 _ _) (pay1_apply x5 _ _))).trans ?_
  unfold point
  rw [if_neg (by omega)]
  exact congrArg₂ (· + ·)
    (congrArg₂ (· * ·) (congrArg₂ (prod x0 w x2 x3) ei (Fin.ext e1.symm)) (congrArg (· * sc) (congrArg₂ (fun a b => x4 (ix2 a b)) ei ej)))
    (congrArg₂ (· * ·) (congrArg₂ (prod x0 w x2 x3) ei (Fin.ext (show 1536 + off + (y 1).val = j.val + 512 by omega))) (congrArg (· * sc) (congrArg₂ (fun a b => x5 (ix2 a b)) ei ej)))

set_option maxHeartbeats 1000000 in
/-- The block written at the first point. -/
theorem outA (c : Dev nD) (t : Fin cfg0.N) (h) (i : Fin 1024) (j : Fin 1536) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5 (ix2 i j)
    = point x0 (k0_pay6 (F := Ideal) x1) x2 x3 x4 x5 i j := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread]
  rw [stored, whole x0, whole x1, whole x2, whole x3, whole x4, whole x5]
  canon_tiles x e using (View.cover_of_tiledBy _ ![1024, 128] (by sl_kernel_rfl) _)
  all_goals (replace e0 : i.val = 0 + _ := e0.trans (Nat.zero_add _).symm; replace e1 : j.val = _ := e1)
  · exact piece_rope x0 x2 x3 x4 x5 (k0_pay6 (F := Ideal) x1) 384 (by omega) (k0_pay5 (F := Ideal) (k0_pay7 (F := Ideal) x0 (k0_pay6 (F := Ideal) x1) x2 x3)) (pay5_apply _) x i j e0 e1
  · exact piece_rope x0 x2 x3 x4 x5 (k0_pay6 (F := Ideal) x1) 256 (by omega) (k0_pay4 (F := Ideal) (k0_pay7 (F := Ideal) x0 (k0_pay6 (F := Ideal) x1) x2 x3)) (pay4_apply _) x i j e0 e1
  · exact piece_rope x0 x2 x3 x4 x5 (k0_pay6 (F := Ideal) x1) 128 (by omega) (k0_pay3 (F := Ideal) (k0_pay7 (F := Ideal) x0 (k0_pay6 (F := Ideal) x1) x2 x3)) (pay3_apply _) x i j e0 e1
  · exact piece_rope x0 x2 x3 x4 x5 (k0_pay6 (F := Ideal) x1) 0 (by omega) (k0_pay2 (F := Ideal) (k0_pay7 (F := Ideal) x0 (k0_pay6 (F := Ideal) x1) x2 x3)) (pay2_apply _) x i j e0 e1
  · exact piece_plain x0 x2 x3 x4 x5 (k0_pay6 (F := Ideal) x1) x i j e0 (e1.trans (Nat.zero_add _).symm)

/-- The scratch buffer after the first point. -/
theorem soutA (c : Dev nD) (t : Fin cfg0.N) (h) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5 = k0_pay6 (F := Ideal) x1 := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5)]
  unfold kernelRun0_A; dsimp only; sl_unfold_words
  simp only [View.readAt_eq_ld, (hs0_1 t).read_unread]
  rw [stored_canon, whole x1]

set_option maxHeartbeats 1000000 in
/-- The block written at a later point, from what the scratch buffer holds. -/
theorem outB (c : Dev nD) (t : Fin cfg0.N) (h) (s : Vec Ideal S512x2048 .bf16) (i : Fin 1024) (j : Fin 1536) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5 s (ix2 i j)
    = point x0 s x2 x3 x4 x5 i j := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h x0 x1 x2 x3 x4 x5 s)]
  unfold kernelRun0_B; dsimp only; sl_unfold_words
  simp only [View.readAt_eq_ld, (hs0_0 t).read_unread, (hs0_2 t).read_unread, (hs0_3 t).read_unread, (hs0_4 t).read_unread, (hs0_5 t).read_unread, (Memref.isWhole_whole _).read_unread]
  rw [whole s, whole x0, whole x2, whole x3, whole x4, whole x5]
  canon_tiles x e using (View.cover_of_tiledBy _ ![1024, 128] (by sl_kernel_rfl) _)
  all_goals (replace e0 : i.val = 0 + _ := e0.trans (Nat.zero_add _).symm; replace e1 : j.val = _ := e1)
  · exact piece_rope x0 x2 x3 x4 x5 s 384 (by omega) (k0_pay5 (F := Ideal) (k0_pay7 (F := Ideal) x0 s x2 x3)) (pay5_apply _) x i j e0 e1
  · exact piece_rope x0 x2 x3 x4 x5 s 256 (by omega) (k0_pay4 (F := Ideal) (k0_pay7 (F := Ideal) x0 s x2 x3)) (pay4_apply _) x i j e0 e1
  · exact piece_rope x0 x2 x3 x4 x5 s 128 (by omega) (k0_pay3 (F := Ideal) (k0_pay7 (F := Ideal) x0 s x2 x3)) (pay3_apply _) x i j e0 e1
  · exact piece_rope x0 x2 x3 x4 x5 s 0 (by omega) (k0_pay2 (F := Ideal) (k0_pay7 (F := Ideal) x0 s x2 x3)) (pay2_apply _) x i j e0 e1
  · exact piece_plain x0 x2 x3 x4 x5 s x i j e0 (e1.trans (Nat.zero_add _).symm)

end Cert.Kernel9Ideal.QPath

end
-- ==== Proof.QPath.Spec.lean ====
/-  The queries as formulas over the normalised rows and the weights: the reference's form, the kernel's, and that they agree. -/
module

public import proofs.«01_k».proof.Proof.Layer.Latent
public import proofs.«01_k».proof.Proof.Layer.Real

@[expose] public section

noncomputable section

namespace Cert.QPath

open Idealize.ShloMosaic Cert.Layer
open scoped BigOperators

abbrev X := Arr 9216 2048 .bf16
abbrev W := Arr3 1 2048 5952 .f32
abbrev G := Arr1 512 .f32
abbrev U := Arr 512 1536 .f32
abbrev T := Arr3 2048 2 16 .f32

/-- The constant that scales the scores. -/
abbrev sc : EReal := Ideal.ofBits .f32 0x3D93CD3A#32

variable (x : X) (w : W) (g : G) (u : U) (cos sin : T)

/-- Entry `k` of a row's latent: the queries' columns of the weights begin at 1024. -/
def lat (i : Fin 8192) (k : Fin 512) : EReal := ∑ l : Fin 2048, x (ix2 ⟨i.val, by omega⟩ l) * w (ix3 0 l ⟨1024 + k.val, by omega⟩)

/-- The latent normalised, times the scales. -/
def row (i : Fin 8192) (k : Fin 512) : EReal := unit 0x44000000#32 (lat x w i) k * g (ix1 k)

/-- The latent's image under the second weights. -/
def proj (i : Fin 8192) (j : Fin 1536) : EReal := ∑ k : Fin 512, row x w g i k * u (ix2 k j)

/-- Element `i`, `j` of the queries.  A head has 192 entries, 128 without a position and 64 with one; the result holds first the
    heads' entries without a position, then those with one, turned. -/
def elem (i : Fin 8192) (j : Fin 1536) : EReal :=
  if hj : j.val < 1024 then proj x w g u i ⟨192 * (j.val / 128) + j.val % 128, by omega⟩ * sc
  else turn (fun e => proj x w g u i ⟨192 * ((j.val - 1024) / 64) + 128 + e.val, by omega⟩) cos sin ⟨i.val % 2048, by omega⟩
    ⟨(j.val - 1024) % 64, by omega⟩ * sc

/-- The partner of entry `e` of head `h` in the second weights, with the sign it is turned by. -/
def partner (k : Fin 512) (h : Fin 8) (e : Fin 64) : EReal :=
  if hs : e.val % 32 < 16 then -u (ix2 k ⟨192 * h.val + 128 + (e.val + 16), by omega⟩)
  else u (ix2 k ⟨192 * h.val + 128 + (e.val - 16), by omega⟩)

/-- Element `i`, `j` as the kernel forms it: the partners are columns of the weights, and the scale is in the angles. -/
def kelem (i : Fin 8192) (j : Fin 1536) : EReal :=
  if hj : j.val < 1024 then proj x w g u i ⟨192 * (j.val / 128) + j.val % 128, by omega⟩ * sc
  else proj x w g u i ⟨192 * ((j.val - 1024) / 64) + 128 + (j.val - 1024) % 64, by omega⟩
      * (cos (ix3 ⟨i.val % 2048, by omega⟩ ⟨(j.val - 1024) % 64 / 32, by omega⟩ ⟨(j.val - 1024) % 64 % 16, by omega⟩) * sc)
    + (∑ k : Fin 512, row x w g i k * partner u k ⟨(j.val - 1024) / 64, by omega⟩ ⟨(j.val - 1024) % 64, by omega⟩)
      * (sin (ix3 ⟨i.val % 2048, by omega⟩ ⟨(j.val - 1024) % 64 / 32, by omega⟩ ⟨(j.val - 1024) % 64 % 16, by omega⟩) * sc)

/-- The two result arrays. -/
def arr : Arr 8192 1536 .bf16 := fun y => elem x w g u cos sin (y 0) (y 1)
def karr : Arr 8192 1536 .bf16 := fun y => kelem x w g u cos sin (y 0) (y 1)

/-- Where the latent and the weights of the entries with a position are finite, the kernel's form is the reference's. -/
theorem kelem_eq (i : Fin 8192) (j : Fin 1536) (hr : ∀ k, Softmax.Fin' (row x w g i k))
    (hu : ∀ (k : Fin 512) (h : Fin 8) (e : Fin 64), Softmax.Fin' (u (ix2 k ⟨192 * h.val + 128 + e.val, by omega⟩))) :
    kelem x w g u cos sin i j = elem x w g u cos sin i j := by
  have hs : ∀ (h : Fin 8) (e : Fin 64), (∑ k : Fin 512, row x w g i k * partner u k h e)
      = if he : e.val % 32 < 16 then -proj x w g u i ⟨192 * h.val + 128 + (e.val + 16), by omega⟩
        else proj x w g u i ⟨192 * h.val + 128 + (e.val - 16), by omega⟩ := fun h e => by
    unfold proj partner
    by_cases he : e.val % 32 < 16
    · rw [dif_pos he, ← sum_neg _ fun k => (hr k).mul (hu k h ⟨e.val + 16, by omega⟩)]
      exact Finset.sum_congr rfl fun k _ => by rw [dif_pos he, mul_neg]
    · rw [dif_neg he]
      exact Finset.sum_congr rfl fun k _ => by rw [dif_neg he]
  unfold kelem elem
  by_cases hj : j.val < 1024
  · rw [dif_pos hj, dif_pos hj]
  · rw [dif_neg hj, dif_neg hj, hs]
    unfold turn
    by_cases he : (j.val - 1024) % 64 % 32 < 16
    · rw [dif_pos he, dif_pos he]
      exact scaled_sub _ _ _ _ _ sc_nonneg sc_ne_top
    · rw [dif_neg he, dif_neg he]
      exact scaled_add _ _ _ _ _ sc_nonneg sc_ne_top

end Cert.QPath

end
-- ==== Proof.QPath.Host.lean ====
/-  What the host prepares for the queries' call: the second weights with their columns in the order of the result and with the
    turned partners added, and the tables of the angles. -/
module

public import proofs.«01_k».proof.Proof.QPath.Spec
public import proofs.«01_k».proof.Proof.Gen.Kernel9Ideal.Frame
public import Idealize.ShloMosaic.Lib.Pipeline.Value

@[expose] public section

set_option maxRecDepth 16384

noncomputable section

namespace Cert.Kernel9Ideal.QPath

open Cert.Kernel9Ideal Cert.Kernel9Ideal.Gen Cert.Layer Idealize.ShloMosaic Idealize.ShloMosaic.TcCoe
open scoped BigOperators

variable (m : (ℓ : Loc nD τ sig) → Buf (Elt Ideal) ℓ) (c : Dev nD)

/-- The argument arrays on a device. -/
abbrev ax : Cert.QPath.X := m ((c : Thread nD τ).loc main_arg0)
abbrev aw : Cert.QPath.W := m ((c : Thread nD τ).loc main_arg1)
abbrev ag : Cert.QPath.G := m ((c : Thread nD τ).loc main_arg2)
abbrev au : Cert.QPath.U := m ((c : Thread nD τ).loc main_arg3)
abbrev acos : Cert.QPath.T := m ((c : Thread nD τ).loc main_arg4)
abbrev asin : Cert.QPath.T := m ((c : Thread nD τ).loc main_arg5)

/-! ### The second weights -/

theorem v2_at (k : Fin 512) (h : Fin 8) (e : Fin 192) :
    V m c main_v2 (ix3 k h e) = au m c (ix2 k ⟨192 * h.val + e.val, by omega⟩) :=
  (shapeCast_apply (s := S512x1536) (t := S512x8x192) (au m c) _ (ix3 k h e) (ix2 k ⟨192 * h.val + e.val, by omega⟩) (by
    rw [Shape.rowMajor_val_two, Shape.rowMajor_val_three]
    show k.val * 1536 + (192 * h.val + e.val) = (k.val * 8 + h.val) * 192 + e.val
    omega))

theorem v3_at (k : Fin 512) (h : Fin 8) (e : Fin 64) :
    V m c main_v3 (ix3 k h e) = au m c (ix2 k ⟨192 * h.val + 128 + e.val, by omega⟩) :=
  (extractStridedSlice_apply (s := S512x8x192) (t := S512x8x64) _ (V m c main_v2) slices_S512x8x192_S512x8x64_0_0_128 (ix3 k h e) (ix3 k h ⟨128 + e.val, by omega⟩) (fun a => match a with
    | 0 => (Nat.zero_add _).symm
    | 1 => (Nat.zero_add _).symm
    | 2 => rfl)).trans ((v2_at m c k h _).trans (congrArg (fun j => au m c (ix2 k j)) (Fin.ext (Nat.add_assoc _ _ _).symm)))

/-- The columns with a position. -/
theorem v4_at (k j : Fin 512) : V m c main_v4 (ix2 k j) = au m c (ix2 k ⟨192 * (j.val / 64) + 128 + j.val % 64, by omega⟩) :=
  (shapeCast_apply (s := S512x8x64) (t := S512x512) (V m c main_v3) _ _ (ix3 k ⟨j.val / 64, by omega⟩ ⟨j.val % 64, by omega⟩) (by
    rw [Shape.rowMajor_val_three, Shape.rowMajor_val_two]
    show (k.val * 8 + j.val / 64) * 64 + j.val % 64 = k.val * 512 + j.val
    omega)).trans (v3_at m c k _ _)

/-- The columns without one. -/
theorem v6_at (k : Fin 512) (j : Fin 1024) : V m c main_v6 (ix2 k j) = au m c (ix2 k ⟨192 * (j.val / 128) + j.val % 128, by omega⟩) :=
  (shapeCast_apply (s := S512x8x128) (t := S512x1024) (V m c main_v5) _ _ (ix3 k ⟨j.val / 128, by omega⟩ ⟨j.val % 128, by omega⟩) (by
    rw [Shape.rowMajor_val_three, Shape.rowMajor_val_two]
    show (k.val * 8 + j.val / 128) * 128 + j.val % 128 = k.val * 1024 + j.val
    omega)).trans
  ((extractStridedSlice_apply (s := S512x8x192) (t := S512x8x128) _ (V m c main_v2) slices_S512x8x192_S512x8x128_0_0_0 _ (ix3 k ⟨j.val / 128, by omega⟩ ⟨j.val % 128, by omega⟩) (fun a => match a with
    | 0 => (Nat.zero_add _).symm
    | 1 => (Nat.zero_add _).symm
    | 2 => (Nat.zero_add _).symm)).trans (v2_at m c k _ _))

/-- The columns with a position, by head, group, half and place. -/
theorem v7_at (k : Fin 512) (h : Fin 8) (g s : Fin 2) (f : Fin 16) :
    V m c main_v7 (ix5 k h g s f) = au m c (ix2 k ⟨192 * h.val + 128 + (32 * g.val + 16 * s.val + f.val), by omega⟩) :=
  (shapeCast_apply (s := S512x512) (t := S512x8x2x2x16) (V m c main_v4) _ _ (ix2 k ⟨64 * h.val + 32 * g.val + 16 * s.val + f.val, by omega⟩) (by
    rw [Shape.rowMajor_val_two, Shape.rowMajor_val_five]
    show k.val * 512 + (64 * h.val + 32 * g.val + 16 * s.val + f.val) = (((k.val * 8 + h.val) * 2 + g.val) * 2 + s.val) * 16 + f.val
    omega)).trans ((v4_at m c k _).trans (congrArg (fun j => au m c (ix2 k j)) (Fin.ext (by
      show 192 * ((64 * h.val + 32 * g.val + 16 * s.val + f.val) / 64) + 128 + (64 * h.val + 32 * g.val + 16 * s.val + f.val) % 64 = _
      have := h.isLt; have := g.isLt; have := s.isLt; have := f.isLt
      show _ = 192 * h.val + 128 + (32 * g.val + 16 * s.val + f.val)
      omega))))

/-- The second half of each group, and the first. -/
theorem v9_at (k : Fin 512) (h : Fin 8) (g : Fin 2) (f : Fin 16) :
    V m c main_v9 (ix4 k h g f) = au m c (ix2 k ⟨192 * h.val + 128 + (32 * g.val + 16 * 1 + f.val), by omega⟩) :=
  (shapeCast_apply (s := S512x8x2x1x16) (t := S512x8x2x16) (V m c main_v8) _ _ (ix5 k h g 0 f) (by
    rw [Shape.rowMajor_val_five, Shape.rowMajor_val_four]
    show (((k.val * 8 + h.val) * 2 + g.val) * 1 + 0) * 16 + f.val = ((k.val * 8 + h.val) * 2 + g.val) * 16 + f.val
    omega)).trans
  ((extractStridedSlice_apply (s := S512x8x2x2x16) (t := S512x8x2x1x16) _ (V m c main_v7) slices_S512x8x2x2x16_S512x8x2x1x16_0_0_0_1_0 _ (ix5 k h g 1 f) (fun a => match a with
    | 0 => (Nat.zero_add _).symm
    | 1 => (Nat.zero_add _).symm
    | 2 => (Nat.zero_add _).symm
    | 3 => rfl
    | 4 => (Nat.zero_add _).symm)).trans (v7_at m c k h g 1 f))

theorem v12_at (k : Fin 512) (h : Fin 8) (g : Fin 2) (f : Fin 16) :
    V m c main_v12 (ix4 k h g f) = au m c (ix2 k ⟨192 * h.val + 128 + (32 * g.val + 16 * 0 + f.val), by omega⟩) :=
  (shapeCast_apply (s := S512x8x2x1x16) (t := S512x8x2x16) (V m c main_v11) _ _ (ix5 k h g 0 f) (by
    rw [Shape.rowMajor_val_five, Shape.rowMajor_val_four]
    show (((k.val * 8 + h.val) * 2 + g.val) * 1 + 0) * 16 + f.val = ((k.val * 8 + h.val) * 2 + g.val) * 16 + f.val
    omega)).trans
  ((extractStridedSlice_apply (s := S512x8x2x2x16) (t := S512x8x2x1x16) _ (V m c main_v7) slices_S512x8x2x2x16_S512x8x2x1x16_0_0_0_0_0 _ (ix5 k h g 0 f) (fun a => match a with
    | 0 => (Nat.zero_add _).symm
    | 1 => (Nat.zero_add _).symm
    | 2 => (Nat.zero_add _).symm
    | 3 => rfl
    | 4 => (Nat.zero_add _).symm)).trans (v7_at m c k h g 0 f))

theorem v13_at (k : Fin 512) (h : Fin 8) (g : Fin 2) (f : Fin 16) :
    V m c main_v13 (ix5 k h g 0 f) = -au m c (ix2 k ⟨192 * h.val + 128 + (32 * g.val + 16 * 1 + f.val), by omega⟩) :=
  (broadcastInDim_apply (s := S512x8x2x16) (t := S512x8x2x1x16) _ bcast_S512x8x2x16_S512x8x2x1x16_0_1_2_4 (V m c main_v10) _ (ix4 k h g f) (fun a => match a with
    | 0 => rfl
    | 1 => rfl
    | 2 => rfl
    | 3 => rfl)).trans (congrArg (fun z : EReal => -z) (v9_at m c k h g f))

theorem v14_at (k : Fin 512) (h : Fin 8) (g : Fin 2) (f : Fin 16) :
    V m c main_v14 (ix5 k h g 0 f) = au m c (ix2 k ⟨192 * h.val + 128 + (32 * g.val + 16 * 0 + f.val), by omega⟩) :=
  (broadcastInDim_apply (s := S512x8x2x16) (t := S512x8x2x1x16) _ bcast_S512x8x2x16_S512x8x2x1x16_0_1_2_4 (V m c main_v12) _ (ix4 k h g f) (fun a => match a with
    | 0 => rfl
    | 1 => rfl
    | 2 => rfl
    | 3 => rfl)).trans (v12_at m c k h g f)

theorem v15_left (k : Fin 512) (h : Fin 8) (g : Fin 2) (f : Fin 16) :
    V m c main_v15 (ix5 k h g 0 f) = -au m c (ix2 k ⟨192 * h.val + 128 + (32 * g.val + 16 * 1 + f.val), by omega⟩) :=
  (concatenate_pair_apply_left (t := S512x8x2x2x16) (s₁ := S512x8x2x1x16) (s₂ := S512x8x2x1x16) 3 (V m c main_v13) (V m c main_v14) concatenates_S512x8x2x1x16_S512x8x2x1x16_S512x8x2x2x16_d3 (ix5 k h g 0 f) rfl
    (ix5 k h g 0 f) (fun b => match b with
    | 0 => rfl
    | 1 => rfl
    | 2 => rfl
    | 3 => rfl
    | 4 => rfl)).trans (v13_at m c k h g f)

theorem v15_right (k : Fin 512) (h : Fin 8) (g : Fin 2) (f : Fin 16) :
    V m c main_v15 (ix5 k h g 1 f) = au m c (ix2 k ⟨192 * h.val + 128 + (32 * g.val + 16 * 0 + f.val), by omega⟩) :=
  (concatenate_pair_apply_right (t := S512x8x2x2x16) (s₁ := S512x8x2x1x16) (s₂ := S512x8x2x1x16) 3 (V m c main_v13) (V m c main_v14) concatenates_S512x8x2x1x16_S512x8x2x1x16_S512x8x2x2x16_d3 (ix5 k h g 1 f) rfl rfl
    (ix5 k h g 0 f) (fun b hb => match b with
    | 0 => rfl
    | 1 => rfl
    | 2 => rfl
    | 3 => absurd rfl hb
    | 4 => rfl) rfl).trans (v14_at m c k h g f)

/-- The partners. -/
theorem v16_at (k j : Fin 512) : V m c main_v16 (ix2 k j) = Cert.QPath.partner (au m c) k ⟨j.val / 64, by omega⟩ ⟨j.val % 64, by omega⟩ := by
  have e : V m c main_v16 (ix2 k j) = V m c main_v15
      (ix5 k ⟨j.val / 64, by omega⟩ ⟨j.val % 64 / 32, by omega⟩ ⟨j.val % 32 / 16, by omega⟩ ⟨j.val % 16, by omega⟩) :=
    shapeCast_apply (s := S512x8x2x2x16) (t := S512x512) (V m c main_v15) _ _ _ (by
      rw [Shape.rowMajor_val_five, Shape.rowMajor_val_two]
      show (((k.val * 8 + j.val / 64) * 2 + j.val % 64 / 32) * 2 + j.val % 32 / 16) * 16 + j.val % 16 = k.val * 512 + j.val
      omega)
  rw [e]
  unfold Cert.QPath.partner
  by_cases hs : j.val % 64 % 32 < 16
  · rw [dif_pos hs, show (⟨j.val % 32 / 16, by omega⟩ : Fin 2) = 0 from Fin.ext (show j.val % 32 / 16 = 0 by omega), v15_left]
    refine congrArg (fun x => -au m c (ix2 k x)) (Fin.ext ?_)
    show 192 * (j.val / 64) + 128 + (32 * (j.val % 64 / 32) + 16 * 1 + j.val % 16) = 192 * (j.val / 64) + 128 + (j.val % 64 + 16)
    omega
  · rw [dif_neg hs, show (⟨j.val % 32 / 16, by omega⟩ : Fin 2) = 1 from Fin.ext (show j.val % 32 / 16 = 1 by omega), v15_right]
    refine congrArg (fun x => au m c (ix2 k x)) (Fin.ext ?_)
    show 192 * (j.val / 64) + 128 + (32 * (j.val % 64 / 32) + 16 * 0 + j.val % 16) = 192 * (j.val / 64) + 128 + (j.val % 64 - 16)
    omega

/-! The three pieces of a row of 2048 entries. -/

theorem piece0 (a : S512x1024.Idx → EReal) (b d : S512x512.Idx → EReal) (k : Fin 512) (j : Fin 2048) (hj : j.val < 1024) :
    concatenate S512x2048 1 [⟨S512x1024, a⟩, ⟨S512x512, b⟩, ⟨S512x512, d⟩] concatenates_S512x1024_S512x512_S512x512_S512x2048_d1 (ix2 k j)
      = a (ix2 k ⟨j.val, hj⟩) :=
  concatenate_apply_piece (t := S512x2048) 1 [⟨S512x1024, a⟩, ⟨S512x512, b⟩, ⟨S512x512, d⟩] _ (ix2 k j)
    0 (show 0 < 3 by decide) S512x1024 a rfl rfl 0 rfl (ix2 k ⟨j.val, hj⟩) (fun b hb => match b with
    | 0 => rfl
    | 1 => absurd rfl hb) (Nat.zero_add _)

theorem piece1 (a : S512x1024.Idx → EReal) (b d : S512x512.Idx → EReal) (k : Fin 512) (j : Fin 2048) (i : Fin 512) (hi : j.val = 1024 + i.val) :
    concatenate S512x2048 1 [⟨S512x1024, a⟩, ⟨S512x512, b⟩, ⟨S512x512, d⟩] concatenates_S512x1024_S512x512_S512x512_S512x2048_d1 (ix2 k j)
      = b (ix2 k i) :=
  concatenate_apply_piece (t := S512x2048) 1 [⟨S512x1024, a⟩, ⟨S512x512, b⟩, ⟨S512x512, d⟩] _ (ix2 k j)
    1 (show 1 < 3 by decide) S512x512 b rfl rfl 1024 rfl (ix2 k i) (fun b hb => match b with
    | 0 => rfl
    | 1 => absurd rfl hb) hi.symm

theorem piece2 (a : S512x1024.Idx → EReal) (b d : S512x512.Idx → EReal) (k : Fin 512) (j : Fin 2048) (i : Fin 512) (hi : j.val = 1536 + i.val) :
    concatenate S512x2048 1 [⟨S512x1024, a⟩, ⟨S512x512, b⟩, ⟨S512x512, d⟩] concatenates_S512x1024_S512x512_S512x512_S512x2048_d1 (ix2 k j)
      = d (ix2 k i) :=
  concatenate_apply_piece (t := S512x2048) 1 [⟨S512x1024, a⟩, ⟨S512x512, b⟩, ⟨S512x512, d⟩] _ (ix2 k j)
    2 (show 2 < 3 by decide) S512x512 d rfl rfl 1536 rfl (ix2 k i) (fun b hb => match b with
    | 0 => rfl
    | 1 => absurd rfl hb) hi.symm

set_option maxHeartbeats 4000000 in
theorem v18_eq : V m c main_v18 = concatenate S512x2048 1 [⟨S512x1024, V m c main_v6⟩, ⟨S512x512, V m c main_v4⟩, ⟨S512x512, V m c main_v16⟩]
    concatenates_S512x1024_S512x512_S512x512_S512x2048_d1 := rfl

/-- The expanded weights: first the columns without a position, … -/
theorem v18_plain (k : Fin 512) (j : Fin 2048) (hj : j.val < 1024) :
    V m c main_v18 (ix2 k j) = au m c (ix2 k ⟨192 * (j.val / 128) + j.val % 128, by omega⟩) :=
  (congrFun (v18_eq m c) (ix2 k j)).trans ((piece0 _ _ _ k j hj).trans (v6_at m c k ⟨j.val, hj⟩))

/-- … then those with one, … -/
theorem v18_rope (k : Fin 512) (j : Fin 2048) (i : Fin 512) (hi : j.val = 1024 + i.val) :
    V m c main_v18 (ix2 k j) = au m c (ix2 k ⟨192 * (i.val / 64) + 128 + i.val % 64, by omega⟩) :=
  (congrFun (v18_eq m c) (ix2 k j)).trans ((piece1 _ _ _ k j i hi).trans (v4_at m c k i))

/-- … then the partners of those. -/
theorem v18_partner (k : Fin 512) (j : Fin 2048) (i : Fin 512) (hi : j.val = 1536 + i.val) :
    V m c main_v18 (ix2 k j) = Cert.QPath.partner (au m c) k ⟨i.val / 64, by omega⟩ ⟨i.val % 64, by omega⟩ :=
  (congrFun (v18_eq m c) (ix2 k j)).trans ((piece2 _ _ _ k j i hi).trans (v16_at m c k i))

/-! ### The angles -/

theorem v21_at (p : Fin 2048) (e : Fin 64) : V m c main_v21 (ix2 p e) = acos m c (ix3 p ⟨e.val / 32, by omega⟩ ⟨e.val % 16, by omega⟩) :=
  (shapeCast_apply (s := S2048x2x2x16) (t := S2048x64) (V m c main_v20) _ _ (ix4 p ⟨e.val / 32, by omega⟩ ⟨e.val % 32 / 16, by omega⟩ ⟨e.val % 16, by omega⟩) (by
    rw [Shape.rowMajor_val_four, Shape.rowMajor_val_two]
    show ((p.val * 2 + e.val / 32) * 2 + e.val % 32 / 16) * 16 + e.val % 16 = p.val * 64 + e.val
    omega)).trans
  ((broadcastInDim_apply (s := S2048x2x1x16) (t := S2048x2x2x16) _ bcast_S2048x2x1x16_S2048x2x2x16_0_1_2_3 (V m c main_v19) _ (ix4 p ⟨e.val / 32, by omega⟩ 0 ⟨e.val % 16, by omega⟩) (fun a => match a with
    | 0 => rfl
    | 1 => rfl
    | 2 => rfl
    | 3 => rfl)).trans
  (broadcastInDim_apply (s := S2048x2x16) (t := S2048x2x1x16) _ bcast_S2048x2x16_S2048x2x1x16_0_1_3 (acos m c) _ (ix3 p ⟨e.val / 32, by omega⟩ ⟨e.val % 16, by omega⟩) (fun a => match a with
    | 0 => rfl
    | 1 => rfl
    | 2 => rfl)))

theorem v24_at (p : Fin 2048) (e : Fin 64) : V m c main_v24 (ix2 p e) = asin m c (ix3 p ⟨e.val / 32, by omega⟩ ⟨e.val % 16, by omega⟩) :=
  (shapeCast_apply (s := S2048x2x2x16) (t := S2048x64) (V m c main_v23) _ _ (ix4 p ⟨e.val / 32, by omega⟩ ⟨e.val % 32 / 16, by omega⟩ ⟨e.val % 16, by omega⟩) (by
    rw [Shape.rowMajor_val_four, Shape.rowMajor_val_two]
    show ((p.val * 2 + e.val / 32) * 2 + e.val % 32 / 16) * 16 + e.val % 16 = p.val * 64 + e.val
    omega)).trans
  ((broadcastInDim_apply (s := S2048x2x1x16) (t := S2048x2x2x16) _ bcast_S2048x2x1x16_S2048x2x2x16_0_1_2_3 (V m c main_v22) _ (ix4 p ⟨e.val / 32, by omega⟩ 0 ⟨e.val % 16, by omega⟩) (fun a => match a with
    | 0 => rfl
    | 1 => rfl
    | 2 => rfl
    | 3 => rfl)).trans
  (broadcastInDim_apply (s := S2048x2x16) (t := S2048x2x1x16) _ bcast_S2048x2x16_S2048x2x1x16_0_1_3 (asin m c) _ (ix3 p ⟨e.val / 32, by omega⟩ ⟨e.val % 16, by omega⟩) (fun a => match a with
    | 0 => rfl
    | 1 => rfl
    | 2 => rfl)))

/-- The table of cosines, repeated for the two heads of a column block. -/
theorem v27_at (p : Fin 2048) (l : Fin 128) : V m c main_v27 (ix2 p l) = acos m c (ix3 p ⟨l.val % 64 / 32, by omega⟩ ⟨l.val % 64 % 16, by omega⟩) :=
  (shapeCast_apply (s := S1x2048x2x64) (t := S2048x128) (V m c main_v26) _ _ (ix4 0 p ⟨l.val / 64, by omega⟩ ⟨l.val % 64, by omega⟩) (by
    rw [Shape.rowMajor_val_four, Shape.rowMajor_val_two]
    show ((0 * 2048 + p.val) * 2 + l.val / 64) * 64 + l.val % 64 = p.val * 128 + l.val
    omega)).trans
  ((broadcastInDim_apply (s := S1x2048x1x64) (t := S1x2048x2x64) _ bcast_S1x2048x1x64_S1x2048x2x64_0_1_2_3 (V m c main_v25) _ (ix4 0 p 0 ⟨l.val % 64, by omega⟩) (fun a => match a with
    | 0 => rfl
    | 1 => rfl
    | 2 => rfl
    | 3 => rfl)).trans
  ((shapeCast_apply (s := S2048x64) (t := S1x2048x1x64) (V m c main_v21) _ _ (ix2 p ⟨l.val % 64, by omega⟩) (by
    rw [Shape.rowMajor_val_four, Shape.rowMajor_val_two]
    show p.val * 64 + l.val % 64 = ((0 * 2048 + p.val) * 1 + 0) * 64 + l.val % 64
    omega)).trans (v21_at m c p _)))

theorem v30_at (p : Fin 2048) (l : Fin 128) : V m c main_v30 (ix2 p l) = asin m c (ix3 p ⟨l.val % 64 / 32, by omega⟩ ⟨l.val % 64 % 16, by omega⟩) :=
  (shapeCast_apply (s := S1x2048x2x64) (t := S2048x128) (V m c main_v29) _ _ (ix4 0 p ⟨l.val / 64, by omega⟩ ⟨l.val % 64, by omega⟩) (by
    rw [Shape.rowMajor_val_four, Shape.rowMajor_val_two]
    show ((0 * 2048 + p.val) * 2 + l.val / 64) * 64 + l.val % 64 = p.val * 128 + l.val
    omega)).trans
  ((broadcastInDim_apply (s := S1x2048x1x64) (t := S1x2048x2x64) _ bcast_S1x2048x1x64_S1x2048x2x64_0_1_2_3 (V m c main_v28) _ (ix4 0 p 0 ⟨l.val % 64, by omega⟩) (fun a => match a with
    | 0 => rfl
    | 1 => rfl
    | 2 => rfl
    | 3 => rfl)).trans
  ((shapeCast_apply (s := S2048x64) (t := S1x2048x1x64) (V m c main_v24) _ _ (ix2 p ⟨l.val % 64, by omega⟩) (by
    rw [Shape.rowMajor_val_four, Shape.rowMajor_val_two]
    show p.val * 64 + l.val % 64 = ((0 * 2048 + p.val) * 1 + 0) * 64 + l.val % 64
    omega)).trans (v24_at m c p _)))

end Cert.Kernel9Ideal.QPath

end
-- ==== Proof.QPath.Whole.lean ====
/-  The queries' call: every element of its result array is the formula `QPath.kelem`. -/
module

public import proofs.«01_k».proof.Proof.QPath.Point
public import proofs.«01_k».proof.Proof.QPath.Host
public import proofs.«01_k».proof.Proof.Gen.Kernel9Ideal.Value
public import Idealize.ShloMosaic.Lib.Pipeline.ValueKit.Geometry

@[expose] public section

set_option maxRecDepth 16384

noncomputable section

namespace Cert.Kernel9Ideal.QPath

open Cert.Kernel9Ideal Cert.Kernel9Ideal.Gen Cert.Layer Idealize.ShloMosaic Idealize.ShloMosaic.TcCoe
open Idealize.ShloMosaic.Pipeline (Dat)
open scoped BigOperators

theorem idx0 : ∀ t : Fin cfg0.N, win0_0.index t = ![t.val, 0] :=
  (by decide +kernel : ∀ t : Fin grid0.N, win0_0.index t = ![t.val, 0])
theorem idx1 : ∀ t : Fin cfg0.N, win0_1.index t = ![1024, 0] :=
  (by decide +kernel : ∀ t : Fin grid0.N, win0_1.index t = ![1024, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val % 2, 0] :=
  (by decide +kernel : ∀ t : Fin grid0.N, win0_4.index t = ![t.val % 2, 0])
theorem idx5 : ∀ t : Fin cfg0.N, win0_5.index t = ![t.val % 2, 0] :=
  (by decide +kernel : ∀ t : Fin grid0.N, win0_5.index t = ![t.val % 2, 0])
theorem idx6 : ∀ t : Fin cfg0.N, win0_6.index t = ![t.val, 0] :=
  (by decide +kernel : ∀ t : Fin grid0.N, win0_6.index t = ![t.val, 0])

variable (m : (ℓ : Loc nD τ sig) → Buf (Elt Ideal) ℓ) (c : Dev nD)

theorem blk0 (t : Fin cfg0.N) (i : Fin 1024) (l : Fin 2048) (i' : Fin 9216) (hi : i'.val = t.val * 1024 + i.val) :
    iblk m c 0 t (ix2 i l) = ax m c (ix2 i' l) := by
  blk_simp [iblk]
  refine congrArg (ax m c) ?_
  blk_ext [idx0 t]
  all_goals first | exact hi.symm | rfl

/-- The input weights as the region finds them: one matrix, transposed. -/
theorem weights (r : Fin 5952) (l : Fin 2048) : V m c main_v1 (ix2 r l) = aw m c (ix3 0 l r) := by
  show transpose S5952x2048 [1, 0] (shapeCast S2048x5952 (aw m c) _) _ (ix2 r l) = _
  simp only [pointwise]

theorem blk1 (t : Fin cfg0.N) (k : Fin 512) (l : Fin 2048) : iblk m c 1 t (ix2 k l) = aw m c (ix3 0 l ⟨1024 + k.val, by omega⟩) := by
  blk_simp [iblk]
  refine (congrArg (V m c main_v1) (show _ = ix2 (⟨1024 + k.val, by omega⟩ : Fin 5952) l from ?_)).trans (weights m c _ l)
  refine funext fun a => Fin.ext ?_
  have h := Pipeline.Window.rect_emb_val_off win0_1 t (ix2 k l) a
  rw [idx1 t] at h
  match a with
  | 0 => exact h
  | 1 => exact h.trans (Nat.zero_add _)

theorem blk2 (t : Fin cfg0.N) (k : Fin 512) : iblk m c 2 t (ix2 0 k) = ag m c (ix1 k) := by
  blk_simp [iblk]
  refine (congrArg (V m c main_v31) (show _ = ix2 (0 : Fin 1) k from ?_)).trans ?_
  · blk_ext [idx2 t]
    all_goals rfl
  · show shapeCast S1x512 (ag m c) _ (ix2 0 k) = _
    simp only [pointwise]

theorem blk3 (t : Fin cfg0.N) (k : Fin 512) (j : Fin 2048) : iblk m c 3 t (ix2 k j) = V m c main_v18 (ix2 k j) := by
  blk_simp [iblk]
  refine congrArg (V m c main_v18) ?_
  blk_ext [idx3 t]
  all_goals rfl

theorem blk4 (t : Fin cfg0.N) (i : Fin 1024) (l : Fin 128) (p : Fin 2048) (hp : p.val = t.val % 2 * 1024 + i.val) :
    iblk m c 4 t (ix2 i l) = V m c main_v27 (ix2 p l) := by
  blk_simp [iblk]
  refine congrArg (V m c main_v27) ?_
  blk_ext [idx4 t]
  all_goals first | exact hp.symm | rfl

theorem blk5 (t : Fin cfg0.N) (i : Fin 1024) (l : Fin 128) (p : Fin 2048) (hp : p.val = t.val % 2 * 1024 + i.val) :
    iblk m c 5 t (ix2 i l) = V m c main_v30 (ix2 p l) := by
  blk_simp [iblk]
  refine congrArg (V m c main_v30) ?_
  blk_ext [idx5 t]
  all_goals first | exact hp.symm | rfl

/-- What the scratch buffer holds after any point: the queries' columns of the input weights. -/
def Held (w : Vec Ideal S512x2048 .bf16) : Prop := ∀ (k : Fin 512) (l : Fin 2048), w (ix2 k l) = aw m c (ix3 0 l ⟨1024 + k.val, by omega⟩)

theorem held_first (t : Fin cfg0.N) : Held m c (k0_pay6 (F := Ideal) (iblk m c 1 t)) := fun k l => (pay6_apply _ k l).trans (blk1 m c t k l)

theorem held (n : ℕ) (hn : n < cfg0.N) : Held m c (outsAt0 m c n hn).2 := by
  induction n with
  | zero =>
    rw [outsAt0_A m c ⟨0, hn⟩ rfl]
    dsimp only
    rw [soutA]
    exact held_first m c ⟨0, hn⟩
  | succ n ih =>
    by_cases h0 : (n + 1) % 8 = 0
    · rw [outsAt0_A m c ⟨n + 1, hn⟩ h0]
      dsimp only
      rw [soutA]
      exact held_first m c ⟨n + 1, hn⟩
    · rw [outsAt0_B m c ⟨n + 1, hn⟩ h0]
      exact ih (Nat.lt_of_succ_lt hn)

/-- A normalised row, from its entries. -/
theorem row_of (x : Vec Ideal S1024x2048 .bf16) (w : Vec Ideal S512x2048 .bf16) (g : Vec Ideal S1x512 .f32) (i : Fin 1024) (k : Fin 512)
    (f : Fin 512 → EReal) (b : EReal) (hl : ∀ k, (∑ l : Fin 2048, x (ix2 i l) * w (ix2 k l)) = f k) (hg : g (ix2 0 k) = b) :
    row x w g i k = unit 0x44000000#32 f k * b := by
  unfold row
  rw [hg, funext hl]

/-- A normalised row, from the argument arrays. -/
theorem row_eq (t : Fin cfg0.N) (w : Vec Ideal S512x2048 .bf16) (H : Held m c w) (i : Fin 1024) (i' : Fin 8192) (hi : i'.val = t.val * 1024 + i.val)
    (k : Fin 512) : row (iblk m c 0 t) w (iblk m c 2 t) i k = Cert.QPath.row (ax m c) (aw m c) (ag m c) i' k :=
  row_of _ w _ i k (Cert.QPath.lat (ax m c) (aw m c) i') _
    (fun k => Finset.sum_congr rfl fun l _ => congrArg₂ (fun a b : EReal => a * b) (blk0 m c t i l _ hi) (H k l)) (blk2 m c t k)

/-- What a point writes, as the formula of the argument arrays. -/
theorem key (t : Fin cfg0.N) (w : Vec Ideal S512x2048 .bf16) (H : Held m c w) (i : Fin 1024) (j : Fin 1536) (i' : Fin 8192)
    (hi : i'.val = t.val * 1024 + i.val) :
    point (iblk m c 0 t) w (iblk m c 2 t) (iblk m c 3 t) (iblk m c 4 t) (iblk m c 5 t) i j
      = Cert.QPath.kelem (ax m c) (aw m c) (ag m c) (au m c) (acos m c) (asin m c) i' j := by
  have hp : (⟨i'.val % 2048, by omega⟩ : Fin 2048).val = t.val % 2 * 1024 + i.val := by
    show i'.val % 2048 = _
    have := i.isLt
    omega
  have hprod : ∀ (j : Fin 2048) (f : Fin 512 → EReal), (∀ k, V m c main_v18 (ix2 k j) = f k) →
      prod (iblk m c 0 t) w (iblk m c 2 t) (iblk m c 3 t) i j = ∑ k : Fin 512, Cert.QPath.row (ax m c) (aw m c) (ag m c) i' k * f k :=
    fun j f hf => Finset.sum_congr rfl fun k _ => congrArg₂ (· * ·) (row_eq m c t w H i i' hi k) ((blk3 m c t k j).trans (hf k))
  unfold point Cert.QPath.kelem
  by_cases hj : j.val < 1024
  · rw [if_pos hj, dif_pos hj]
    exact congrArg (· * sc) (hprod _ _ fun k => v18_plain m c k ⟨j.val, by omega⟩ hj)
  · rw [if_neg hj, dif_neg hj]
    have hr : (⟨j.val, by omega⟩ : Fin 2048).val = 1024 + (⟨j.val - 1024, by omega⟩ : Fin 512).val := by
      show j.val = 1024 + (j.val - 1024)
      omega
    have hs : (⟨j.val + 512, by omega⟩ : Fin 2048).val = 1536 + (⟨j.val - 1024, by omega⟩ : Fin 512).val := by
      show j.val + 512 = 1536 + (j.val - 1024)
      omega
    have hl : j.val % 128 % 64 = (j.val - 1024) % 64 := by omega
    have ha : ∀ T : Cert.QPath.T, T (ix3 ⟨i'.val % 2048, by omega⟩ ⟨j.val % 128 % 64 / 32, by omega⟩ ⟨j.val % 128 % 64 % 16, by omega⟩)
        = T (ix3 ⟨i'.val % 2048, by omega⟩ ⟨(j.val - 1024) % 64 / 32, by omega⟩ ⟨(j.val - 1024) % 64 % 16, by omega⟩) := fun T =>
      congrArg₂ (fun a b => T (ix3 _ a b)) (Fin.ext (congrArg (· / 32) hl)) (Fin.ext (congrArg (· % 16) hl))
    exact congrArg₂ (· + ·)
      (congrArg₂ (· * ·) (hprod _ _ fun k => v18_rope m c k _ _ hr)
        (congrArg (· * sc) ((blk4 m c t i ⟨j.val % 128, by omega⟩ _ hp).trans ((v27_at m c _ _).trans (ha (acos m c))))))
      (congrArg₂ (· * ·) (hprod _ _ fun k => v18_partner m c k _ _ hs)
        (congrArg (· * sc) ((blk5 m c t i ⟨j.val % 128, by omega⟩ _ hp).trans ((v30_at m c _ _).trans (ha (asin m c))))))

theorem point_eq (t : Fin cfg0.N) (i : Fin 1024) (j : Fin 1536) (i' : Fin 8192) (j' : Fin 1536) (hi : i'.val = t.val * 1024 + i.val)
    (hj : j' = j) : (outsAt0 m c t.val t.isLt).1 (ix2 i j)
      = Cert.QPath.kelem (ax m c) (aw m c) (ag m c) (au m c) (acos m c) (asin m c) i' j' := by
  subst hj
  by_cases h0 : t.val % 8 = 0
  · rw [outsAt0_A m c t h0]
    dsimp only
    rw [outA]
    exact key m c t _ (held_first m c t) i j' i' hi
  · rw [outsAt0_B m c t h0]
    dsimp only
    rw [outB]
    exact key m c t _ (held m c _ (Nat.lt_of_le_of_lt (Nat.sub_le _ _) t.isLt)) i j' i' hi

/-- The result array after the run. -/
theorem final : (dats m 0 c).arrAt 6 cfg0.N = Cert.QPath.karr (ax m c) (aw m c) (ag m c) (au m c) (acos m c) (asin m c) := by
  refine (dats m 0 c).arrAt_eq_of_covers 6 _ (by decide +kernel) fun t hf y => ?_
  blk_simp
  rw [after0_6]
  have e : y = ix2 (y 0) (y 1) := by idx_ext
  have h0 : ((win0_6.blk t).view.emb y 0).val = t.val * 1024 + (y 0).val := by blk_simp [idx6 t]
  have h1 : ((win0_6.blk t).view.emb y 1) = y 1 := Fin.ext (by blk_simp [idx6 t])
  exact (congrArg (outsAt0 m c t.val t.isLt).1 e).trans
    (point_eq m c t (y 0) (y 1) ((win0_6.blk t).view.emb y 0) ((win0_6.blk t).view.emb y 1) h0 h1)

end Cert.Kernel9Ideal.QPath

end
-- ==== Proof.QPath.Reference.lean ====
/-  The queries' reference: every element of its result array is the formula `QPath.elem`. -/
module

public import proofs.«01_k».proof.Proof.QPath.Spec
public import proofs.«01_k».proof.Proof.Gen.Reference9Ideal.Read
public import Idealize.ShloMosaic.Lib.ValueIdxRank6

@[expose] public section

set_option maxRecDepth 16384

noncomputable section

namespace Cert.QPath.Reference

open Cert.Reference9Ideal Cert.Reference9Ideal.Gen Cert.Reference9Ideal.Read Cert.Layer Idealize.ShloMosaic Idealize.ShloMosaic.TcCoe
open scoped BigOperators

variable (x : X) (w : W) (g : G) (u : U) (cos sin : T)

/-- The first product. -/
theorem lat_eq (i : Fin 8192) (k : Fin 512) : val_main_v4 (F := Ideal) x w (ix2 i k) = lat x w i k := by
  rw [val_main_v4_apply]
  refine Finset.sum_congr rfl fun l _ => ?_
  rw [val_main_v1_apply, val_main_v0_apply, val_main_v3_apply, val_main_v2_apply]
  refine congrArg₂ (· * ·) (congrArg x ?_) (congrArg w ?_)
  · exact funext fun a => match a with | 0 => rfl | 1 => rfl
  · exact funext fun a => match a with
      | 0 => rfl
      | 1 => Fin.ext (show (l.val * 5952 + (1024 + k.val)) / 5952 % 2048 = l.val by omega)
      | 2 => Fin.ext (show (l.val * 5952 + (1024 + k.val)) % 5952 = 1024 + k.val by omega)

/-- The normalised row. -/
theorem row_eq (i : Fin 8192) (k : Fin 512) : val_main_v17 (F := Ideal) x w g (ix2 i k) = row x w g i k := by
  have es : ∀ q : Fin 512, val_main_v5 (F := Ideal) x w (idx_main_v6 (idx_main_v7 (idx_main_v13 (ix2 i k))) q) = lat x w i q * lat x w i q := fun q => by
    have eq : idx_main_v6 (idx_main_v7 (idx_main_v13 (ix2 i k))) q = ix2 i q := funext fun a => match a with | 0 => rfl | 1 => rfl
    rw [eq, val_main_v5_apply, lat_eq]
    rfl
  have eg : idx_main_v15 (idx_main_v16 (ix2 i k)) = ix1 k := funext fun a => match a with | 0 => rfl
  rw [val_main_v17_apply, val_main_v16_apply, val_main_v15_apply, val_main_v14_apply, val_main_v13_apply, val_main_v12_apply,
    val_main_v11_apply, val_main_v10_apply, val_main_v9_apply, val_main_v8_apply, val_main_v7_apply, val_main_v6_apply,
    Finset.sum_congr rfl fun q _ => es q, lat_eq, eg, val_main_cst_apply, val_main_cst_0_apply, val_main_cst_1_apply]
  simp only [Ideal.ofBits_def, Ideal.ofBits_zero_f32, zero_add]
  rfl

/-- The second product. -/
theorem proj_eq (i : Fin 8192) (j : Fin 1536) : val_main_v18 (F := Ideal) x w g u (ix2 i j) = proj x w g u i j := by
  rw [val_main_v18_apply]
  refine Finset.sum_congr rfl fun k _ => ?_
  refine congrArg₂ (· * ·) ((congrArg (val_main_v17 (F := Ideal) x w g) ?_).trans (row_eq x w g i k)) (congrArg u ?_)
  · exact funext fun a => match a with | 0 => rfl | 1 => rfl
  · exact funext fun a => match a with | 0 => rfl | 1 => rfl

/-- The row of the result that holds position `p` of batch `b`. -/
abbrev at_ (b : Fin 4) (p : Fin 2048) : Fin 8192 := ⟨2048 * b.val + p.val, by omega⟩

theorem v19_at (b : Fin 4) (p : Fin 2048) (h : Fin 8) (e : Fin 192) :
    val_main_v19 (F := Ideal) x w g u (ix4 b p h e) = proj x w g u (at_ b p) ⟨192 * h.val + e.val, by omega⟩ :=
  (shapeCast_apply (s := S8192x1536) (t := S4x2048x8x192) (val_main_v18 (F := Ideal) x w g u) _ (ix4 b p h e)
    (ix2 (at_ b p) ⟨192 * h.val + e.val, by omega⟩) (by
    rw [Shape.rowMajor_val_two, Shape.rowMajor_val_four]
    show (2048 * b.val + p.val) * 1536 + (192 * h.val + e.val) = ((b.val * 2048 + p.val) * 8 + h.val) * 192 + e.val
    omega)).trans (proj_eq x w g u _ _)

/-- The entries without a position. -/
theorem v20_at (b : Fin 4) (p : Fin 2048) (h : Fin 8) (e : Fin 128) :
    val_main_v20 (F := Ideal) x w g u (ix4 b p h e) = proj x w g u (at_ b p) ⟨192 * h.val + e.val, by omega⟩ := by
  rw [val_main_v20_apply]
  exact (congrArg (val_main_v19 (F := Ideal) x w g u) (show _ = ix4 b p h (⟨e.val, by omega⟩ : Fin 192) from
    funext fun a => match a with | 0 => rfl | 1 => rfl | 2 => rfl | 3 => rfl)).trans (v19_at x w g u b p h _)

/-- The entries with one. -/
theorem v21_at (b : Fin 4) (p : Fin 2048) (h : Fin 8) (e : Fin 64) :
    val_main_v21 (F := Ideal) x w g u (ix4 b p h e) = proj x w g u (at_ b p) ⟨192 * h.val + 128 + e.val, by omega⟩ := by
  rw [val_main_v21_apply]
  exact (congrArg (val_main_v19 (F := Ideal) x w g u) (show _ = ix4 b p h (⟨128 + e.val, by omega⟩ : Fin 192) from
    funext fun a => match a with | 0 => rfl | 1 => rfl | 2 => rfl | 3 => rfl)).trans ((v19_at x w g u b p h _).trans
      (congrArg (proj x w g u _) (Fin.ext (Nat.add_assoc _ _ _).symm)))

theorem v22_at (b : Fin 4) (p : Fin 2048) (h : Fin 8) (r s : Fin 2) (f : Fin 16) :
    val_main_v22 (F := Ideal) x w g u (ix6 b p h r s f)
      = proj x w g u (at_ b p) ⟨192 * h.val + 128 + (32 * r.val + 16 * s.val + f.val), by omega⟩ :=
  (shapeCast_apply (s := S4x2048x8x64) (t := S4x2048x8x2x2x16) (val_main_v21 (F := Ideal) x w g u) shapeCasts_S4x2048x8x64_S4x2048x8x2x2x16
    (ix6 b p h r s f) (ix4 b p h ⟨32 * r.val + 16 * s.val + f.val, by omega⟩) (by
    rw [Shape.rowMajor_val_four, Shape.rowMajor_val_six]
    show ((b.val * 2048 + p.val) * 8 + h.val) * 64 + (32 * r.val + 16 * s.val + f.val)
      = ((((b.val * 2048 + p.val) * 8 + h.val) * 2 + r.val) * 2 + s.val) * 16 + f.val
    omega)).trans (v21_at x w g u b p h _)

theorem v24_at (b : Fin 4) (p : Fin 2048) (h : Fin 8) (r : Fin 2) (f : Fin 16) :
    val_main_v24 (F := Ideal) x w g u (ix5 b p h r f)
      = proj x w g u (at_ b p) ⟨192 * h.val + 128 + (32 * r.val + 16 * 0 + f.val), by omega⟩ := by
  have e : val_main_v24 (F := Ideal) x w g u (ix5 b p h r f) = val_main_v23 (F := Ideal) x w g u (ix6 b p h r 0 f) :=
    shapeCast_apply (s := S4x2048x8x2x1x16) (t := S4x2048x8x2x16) (val_main_v23 (F := Ideal) x w g u) shapeCasts_S4x2048x8x2x1x16_S4x2048x8x2x16
      (ix5 b p h r f) (ix6 b p h r 0 f) (by
      rw [Shape.rowMajor_val_five, Shape.rowMajor_val_six]
      show ((((b.val * 2048 + p.val) * 8 + h.val) * 2 + r.val) * 1 + 0) * 16 + f.val
        = (((b.val * 2048 + p.val) * 8 + h.val) * 2 + r.val) * 16 + f.val
      omega)
  have ei : idx_main_v23 (ix6 b p h r 0 f) = ix6 b p h r 0 f :=
    funext fun a => match a with | 0 => rfl | 1 => rfl | 2 => rfl | 3 => rfl | 4 => rfl | 5 => rfl
  rw [e, val_main_v23_apply, ei, v22_at]
  rfl

theorem v26_at (b : Fin 4) (p : Fin 2048) (h : Fin 8) (r : Fin 2) (f : Fin 16) :
    val_main_v26 (F := Ideal) x w g u (ix5 b p h r f)
      = proj x w g u (at_ b p) ⟨192 * h.val + 128 + (32 * r.val + 16 * 1 + f.val), by omega⟩ := by
  have e : val_main_v26 (F := Ideal) x w g u (ix5 b p h r f) = val_main_v25 (F := Ideal) x w g u (ix6 b p h r 0 f) :=
    shapeCast_apply (s := S4x2048x8x2x1x16) (t := S4x2048x8x2x16) (val_main_v25 (F := Ideal) x w g u) shapeCasts_S4x2048x8x2x1x16_S4x2048x8x2x16
      (ix5 b p h r f) (ix6 b p h r 0 f) (by
      rw [Shape.rowMajor_val_five, Shape.rowMajor_val_six]
      show ((((b.val * 2048 + p.val) * 8 + h.val) * 2 + r.val) * 1 + 0) * 16 + f.val
        = (((b.val * 2048 + p.val) * 8 + h.val) * 2 + r.val) * 16 + f.val
      omega)
  have ei : idx_main_v25 (ix6 b p h r 0 f) = ix6 b p h r 1 f :=
    funext fun a => match a with | 0 => rfl | 1 => rfl | 2 => rfl | 3 => rfl | 4 => rfl | 5 => rfl
  rw [e, val_main_v25_apply, ei, v22_at]
  rfl

/-! The turned pair. -/

theorem v33_at (b : Fin 4) (p : Fin 2048) (h : Fin 8) (r : Fin 2) (f : Fin 16) :
    val_main_v33 (F := Ideal) x w g u cos sin (ix5 b p h r f)
      = proj x w g u (at_ b p) ⟨192 * h.val + 128 + (32 * r.val + 16 * 0 + f.val), by omega⟩ * cos (ix3 p r f)
        - proj x w g u (at_ b p) ⟨192 * h.val + 128 + (32 * r.val + 16 * 1 + f.val), by omega⟩ * sin (ix3 p r f) := by
  have ec : idx_main_v27 (idx_main_v29 (ix5 b p h r f)) = ix3 p r f := funext fun a => match a with | 0 => rfl | 1 => rfl | 2 => rfl
  have es : idx_main_v28 (idx_main_v31 (ix5 b p h r f)) = ix3 p r f := funext fun a => match a with | 0 => rfl | 1 => rfl | 2 => rfl
  rw [val_main_v33_apply, val_main_v32_apply, val_main_v31_apply, val_main_v30_apply, val_main_v29_apply, val_main_v28_apply,
    val_main_v27_apply, v24_at, v26_at, ec, es]
  rfl

theorem v38_at (b : Fin 4) (p : Fin 2048) (h : Fin 8) (r : Fin 2) (f : Fin 16) :
    val_main_v38 (F := Ideal) x w g u cos sin (ix5 b p h r f)
      = proj x w g u (at_ b p) ⟨192 * h.val + 128 + (32 * r.val + 16 * 1 + f.val), by omega⟩ * cos (ix3 p r f)
        + proj x w g u (at_ b p) ⟨192 * h.val + 128 + (32 * r.val + 16 * 0 + f.val), by omega⟩ * sin (ix3 p r f) := by
  have ec : idx_main_v27 (idx_main_v34 (ix5 b p h r f)) = ix3 p r f := funext fun a => match a with | 0 => rfl | 1 => rfl | 2 => rfl
  have es : idx_main_v28 (idx_main_v36 (ix5 b p h r f)) = ix3 p r f := funext fun a => match a with | 0 => rfl | 1 => rfl | 2 => rfl
  rw [val_main_v38_apply, val_main_v37_apply, val_main_v36_apply, val_main_v35_apply, val_main_v34_apply, val_main_v28_apply,
    val_main_v27_apply, v24_at, v26_at, ec, es]
  rfl

theorem v39_at (b : Fin 4) (p : Fin 2048) (h : Fin 8) (r : Fin 2) (f : Fin 16) :
    val_main_v39 (F := Ideal) x w g u cos sin (ix6 b p h r 0 f) = val_main_v33 (F := Ideal) x w g u cos sin (ix5 b p h r f) := by
  rw [val_main_v39_apply]
  exact congrArg _ (funext fun a => match a with | 0 => rfl | 1 => rfl | 2 => rfl | 3 => rfl | 4 => rfl)

theorem v40_at (b : Fin 4) (p : Fin 2048) (h : Fin 8) (r : Fin 2) (f : Fin 16) :
    val_main_v40 (F := Ideal) x w g u cos sin (ix6 b p h r 0 f) = val_main_v38 (F := Ideal) x w g u cos sin (ix5 b p h r f) := by
  rw [val_main_v40_apply]
  exact congrArg _ (funext fun a => match a with | 0 => rfl | 1 => rfl | 2 => rfl | 3 => rfl | 4 => rfl)

theorem v41_left (b : Fin 4) (p : Fin 2048) (h : Fin 8) (r : Fin 2) (f : Fin 16) :
    val_main_v41 (F := Ideal) x w g u cos sin (ix6 b p h r 0 f) = val_main_v33 (F := Ideal) x w g u cos sin (ix5 b p h r f) :=
  (concatenate_pair_apply_left (t := S4x2048x8x2x2x16) (s₁ := S4x2048x8x2x1x16) (s₂ := S4x2048x8x2x1x16) 4
    (val_main_v39 (F := Ideal) x w g u cos sin) (val_main_v40 (F := Ideal) x w g u cos sin)
    concatenates_S4x2048x8x2x1x16_S4x2048x8x2x1x16_S4x2048x8x2x2x16_d4 (ix6 b p h r 0 f) rfl (ix6 b p h r 0 f) (fun a => match a with
    | 0 => rfl
    | 1 => rfl
    | 2 => rfl
    | 3 => rfl
    | 4 => rfl
    | 5 => rfl)).trans (v39_at x w g u cos sin b p h r f)

theorem v41_right (b : Fin 4) (p : Fin 2048) (h : Fin 8) (r : Fin 2) (f : Fin 16) :
    val_main_v41 (F := Ideal) x w g u cos sin (ix6 b p h r 1 f) = val_main_v38 (F := Ideal) x w g u cos sin (ix5 b p h r f) :=
  (concatenate_pair_apply_right (t := S4x2048x8x2x2x16) (s₁ := S4x2048x8x2x1x16) (s₂ := S4x2048x8x2x1x16) 4
    (val_main_v39 (F := Ideal) x w g u cos sin) (val_main_v40 (F := Ideal) x w g u cos sin)
    concatenates_S4x2048x8x2x1x16_S4x2048x8x2x1x16_S4x2048x8x2x2x16_d4 (ix6 b p h r 1 f) rfl rfl (ix6 b p h r 0 f) (fun a ha => match a with
    | 0 => rfl
    | 1 => rfl
    | 2 => rfl
    | 3 => rfl
    | 4 => absurd rfl ha
    | 5 => rfl) rfl).trans (v40_at x w g u cos sin b p h r f)

/-- The entries with a position, turned. -/
theorem v42_at (b : Fin 4) (p : Fin 2048) (h : Fin 8) (e : Fin 64) :
    val_main_v42 (F := Ideal) x w g u cos sin (ix4 b p h e)
      = turn (fun e => proj x w g u (at_ b p) ⟨192 * h.val + 128 + e.val, by omega⟩) cos sin p e := by
  have hc : val_main_v42 (F := Ideal) x w g u cos sin (ix4 b p h e) = val_main_v41 (F := Ideal) x w g u cos sin
      (ix6 b p h ⟨e.val / 32, by omega⟩ ⟨e.val % 32 / 16, by omega⟩ ⟨e.val % 16, by omega⟩) :=
    shapeCast_apply (s := S4x2048x8x2x2x16) (t := S4x2048x8x64) (val_main_v41 (F := Ideal) x w g u cos sin)
      shapeCasts_S4x2048x8x2x2x16_S4x2048x8x64 (ix4 b p h e) _ (by
      rw [Shape.rowMajor_val_four, Shape.rowMajor_val_six]
      show ((((b.val * 2048 + p.val) * 8 + h.val) * 2 + e.val / 32) * 2 + e.val % 32 / 16) * 16 + e.val % 16
        = ((b.val * 2048 + p.val) * 8 + h.val) * 64 + e.val
      omega)
  have hp : ∀ (a b' : Fin 1536), a = b' → proj x w g u (at_ b p) a = proj x w g u (at_ b p) b' := fun _ _ h => congrArg _ h
  rw [hc]
  unfold turn
  by_cases hs : e.val % 32 < 16
  · rw [dif_pos hs, show (⟨e.val % 32 / 16, by omega⟩ : Fin 2) = 0 from Fin.ext (show e.val % 32 / 16 = 0 by omega), v41_left, v33_at]
    refine congrArg₂ (fun a b => a * _ - b * _) (hp _ _ (Fin.ext ?_)) (hp _ _ (Fin.ext ?_))
    · show 192 * h.val + 128 + (32 * (e.val / 32) + 16 * 0 + e.val % 16) = 192 * h.val + 128 + e.val
      omega
    · show 192 * h.val + 128 + (32 * (e.val / 32) + 16 * 1 + e.val % 16) = 192 * h.val + 128 + (e.val + 16)
      omega
  · rw [dif_neg hs, show (⟨e.val % 32 / 16, by omega⟩ : Fin 2) = 1 from Fin.ext (show e.val % 32 / 16 = 1 by omega), v41_right, v38_at]
    refine congrArg₂ (fun a b => a * _ + b * _) (hp _ _ (Fin.ext ?_)) (hp _ _ (Fin.ext ?_))
    · show 192 * h.val + 128 + (32 * (e.val / 32) + 16 * 1 + e.val % 16) = 192 * h.val + 128 + e.val
      omega
    · show 192 * h.val + 128 + (32 * (e.val / 32) + 16 * 0 + e.val % 16) = 192 * h.val + 128 + (e.val - 16)
      omega

/-- A row of the result is its position of its batch. -/
theorem at_split (i : Fin 8192) : at_ ⟨i.val / 2048, by omega⟩ ⟨i.val % 2048, by omega⟩ = i := Fin.ext (by
  show 2048 * (i.val / 2048) + i.val % 2048 = i.val
  omega)

theorem v43_at (i : Fin 8192) (j : Fin 1024) : val_main_v43 (F := Ideal) x w g u (ix2 i j)
    = proj x w g u i ⟨192 * (j.val / 128) + j.val % 128, by omega⟩ :=
  (shapeCast_apply (s := S4x2048x8x128) (t := S8192x1024) (val_main_v20 (F := Ideal) x w g u) shapeCasts_S4x2048x8x128_S8192x1024 (ix2 i j)
    (ix4 ⟨i.val / 2048, by omega⟩ ⟨i.val % 2048, by omega⟩ ⟨j.val / 128, by omega⟩ ⟨j.val % 128, by omega⟩) (by
    rw [Shape.rowMajor_val_two, Shape.rowMajor_val_four]
    show ((i.val / 2048 * 2048 + i.val % 2048) * 8 + j.val / 128) * 128 + j.val % 128 = i.val * 1024 + j.val
    omega)).trans ((v20_at x w g u _ _ _ _).trans (congrArg (fun i => proj x w g u i _) (at_split i)))

theorem v44_at (i : Fin 8192) (j : Fin 512) : val_main_v44 (F := Ideal) x w g u cos sin (ix2 i j)
    = turn (fun e => proj x w g u i ⟨192 * (j.val / 64) + 128 + e.val, by omega⟩) cos sin ⟨i.val % 2048, by omega⟩ ⟨j.val % 64, by omega⟩ :=
  (shapeCast_apply (s := S4x2048x8x64) (t := S8192x512) (val_main_v42 (F := Ideal) x w g u cos sin) shapeCasts_S4x2048x8x64_S8192x512 (ix2 i j)
    (ix4 ⟨i.val / 2048, by omega⟩ ⟨i.val % 2048, by omega⟩ ⟨j.val / 64, by omega⟩ ⟨j.val % 64, by omega⟩) (by
    rw [Shape.rowMajor_val_two, Shape.rowMajor_val_four]
    show ((i.val / 2048 * 2048 + i.val % 2048) * 8 + j.val / 64) * 64 + j.val % 64 = i.val * 512 + j.val
    omega)).trans ((v42_at x w g u cos sin _ _ _ _).trans (congrArg (fun i' => turn (fun e => proj x w g u i' ⟨192 * (j.val / 64) + 128 + e.val, by omega⟩)
      cos sin ⟨i.val % 2048, by omega⟩ ⟨j.val % 64, by omega⟩) (at_split i)))

/-- The two parts side by side. -/
theorem v45_left (i : Fin 8192) (j : Fin 1536) (hj : j.val < 1024) :
    val_main_v45 (F := Ideal) x w g u cos sin (ix2 i j) = val_main_v43 (F := Ideal) x w g u (ix2 i ⟨j.val, hj⟩) :=
  concatenate_pair_apply_left (t := S8192x1536) (s₁ := S8192x1024) (s₂ := S8192x512) 1
    (val_main_v43 (F := Ideal) x w g u) (val_main_v44 (F := Ideal) x w g u cos sin) concatenates_S8192x1024_S8192x512_S8192x1536_d1 (ix2 i j) rfl
    (ix2 i ⟨j.val, hj⟩) (fun a => match a with
    | 0 => rfl
    | 1 => rfl)

theorem v45_right (i : Fin 8192) (j : Fin 1536) (hj : ¬j.val < 1024) :
    val_main_v45 (F := Ideal) x w g u cos sin (ix2 i j) = val_main_v44 (F := Ideal) x w g u cos sin (ix2 i ⟨j.val - 1024, by omega⟩) :=
  concatenate_pair_apply_right (t := S8192x1536) (s₁ := S8192x1024) (s₂ := S8192x512) 1
    (val_main_v43 (F := Ideal) x w g u) (val_main_v44 (F := Ideal) x w g u cos sin) concatenates_S8192x1024_S8192x512_S8192x1536_d1 (ix2 i j) rfl rfl
    (ix2 i ⟨j.val - 1024, by omega⟩) (fun a ha => match a with
    | 0 => rfl
    | 1 => absurd rfl ha) (show j.val - 1024 + 1024 = j.val by omega)

/-- The reference's result array. -/
theorem result : val_main_v48 (F := Ideal) x w g u cos sin = arr x w g u cos sin := by
  funext y
  have e : y = ix2 (y 0) (y 1) := by idx_ext
  have h : ∀ (i : Fin 8192) (j : Fin 1536), val_main_v48 (F := Ideal) x w g u cos sin (ix2 i j) = elem x w g u cos sin i j := fun i j => by
    rw [val_main_v48_apply, val_main_v47_apply, val_main_v46_apply, val_main_cst_2_apply]
    unfold elem
    by_cases hj : j.val < 1024
    · rw [dif_pos hj, v45_left x w g u cos sin i j hj, v43_at]
      rfl
    · rw [dif_neg hj, v45_right x w g u cos sin i j hj, v44_at]
      rfl
  exact (congrArg (val_main_v48 (F := Ideal) x w g u cos sin) e).trans (h (y 0) (y 1))

end Cert.QPath.Reference

end
-- ==== Proof.QPath.Finite.lean ====
/-  What the queries' precondition says: the rows, the query columns of the input weights, the scales and the positional columns
    of the second weights are finite.  Then the kernel's form of the queries is the reference's. -/
module

public import proofs.«01_k».proof.Proof.QPath.Spec
public import proofs.«01_k».proof.Proof.Att.Finite
public import proofs.«01_k».proof.Pre_finite_query_inputs

@[expose] public section

noncomputable section

namespace Cert.QPath

open Idealize.ShloMosaic Cert.Layer
open scoped BigOperators

/-- The shape relations the predicate states. -/
theorem preFacts : Cert.Pre_finite_query_inputs.Facts where
  shapeCasts_S1x2048x5952_S2048x5952 := by decide
  slices_S2048x5952_S2048x512_0_1024 := by decide
  shapeCasts_S512x1536_S512x8x192 := by decide
  slices_S512x8x192_S512x8x64_0_0_128 := by decide
  slices_S9216x2048_S8192x2048_0_0 := by decide
  bitsLt_bf16_f32 := by decide
  bcast_S_S8192x2048 := by decide
  bcast_S_S2048x512 := by decide
  bcast_S_S512 := by decide
  bcast_S_S512x8x64 := by decide

variable [Cert.Pre_finite_query_inputs.Facts]
open Cert.Pre_finite_query_inputs Cert.Pre_finite_query_inputs.Facts

variable (x : X) (w : W) (g : G) (u : U) (cos sin : T)

theorem x_fin (h : (fn (F := Ideal) x w g u cos sin).1 = fun _ => 1#1) (i : Fin 8192) (l : Fin 2048) :
    Softmax.Fin' (x (ix2 ⟨i.val, by omega⟩ l)) := by
  have e : extractStridedSlice S8192x2048 ![0, 0] x slices_S9216x2048_S8192x2048_0_0 (ix2 i l) = x (ix2 ⟨i.val, by omega⟩ l) :=
    extractStridedSlice_apply ![0, 0] _ slices_S9216x2048_S8192x2048_0_0 (ix2 i l) (ix2 ⟨i.val, by omega⟩ l) (fun a => by fin_cases a <;> simp)
  rw [← e]
  exact Att.fin_of_cmp (congrFun h (ix2 i l))

theorem w_fin (h : (fn (F := Ideal) x w g u cos sin).2.1 = fun _ => 1#1) (l : Fin 2048) (k : Fin 512) :
    Softmax.Fin' (w (ix3 0 l ⟨1024 + k.val, by omega⟩)) := by
  have e : extractStridedSlice S2048x512 ![0, 1024] (shapeCast S2048x5952 w shapeCasts_S1x2048x5952_S2048x5952)
      slices_S2048x5952_S2048x512_0_1024 (ix2 l k) = w (ix3 0 l ⟨1024 + k.val, by omega⟩) := by
    rw [extractStridedSlice_apply ![0, 1024] _ slices_S2048x5952_S2048x512_0_1024 (ix2 l k)
      (ix2 l ⟨1024 + k.val, by omega⟩) (fun a => by fin_cases a <;> simp)]
    refine shapeCast_apply _ _ _ _ ?_
    rw [Shape.rowMajor_val_two, Shape.rowMajor_val_three]
    show (0 * 2048 + l.val) * 5952 + (1024 + k.val) = l.val * 5952 + (1024 + k.val)
    omega
  rw [← e]
  exact Att.fin_of_cmp (congrFun h (ix2 l k))

theorem g_fin (h : (fn (F := Ideal) x w g u cos sin).2.2.1 = fun _ => 1#1) (k : Fin 512) : Softmax.Fin' (g (ix1 k)) :=
  Att.fin_of_cmp (congrFun h (ix1 k))

theorem u_fin (h : (fn (F := Ideal) x w g u cos sin).2.2.2 = fun _ => 1#1) (k : Fin 512) (q : Fin 8) (e : Fin 64) :
    Softmax.Fin' (u (ix2 k ⟨192 * q.val + 128 + e.val, by omega⟩)) := by
  have e : extractStridedSlice S512x8x64 ![0, 0, 128] (shapeCast S512x8x192 u shapeCasts_S512x1536_S512x8x192)
      slices_S512x8x192_S512x8x64_0_0_128 (ix3 k q e) = u (ix2 k ⟨192 * q.val + 128 + e.val, by omega⟩) := by
    rw [extractStridedSlice_apply ![0, 0, 128] _ slices_S512x8x192_S512x8x64_0_0_128 (ix3 k q e)
      (ix3 k q ⟨128 + e.val, by omega⟩) (fun a => by fin_cases a <;> simp)]
    refine shapeCast_apply _ _ _ _ ?_
    rw [Shape.rowMajor_val_two, Shape.rowMajor_val_three]
    show k.val * 1536 + (192 * q.val + 128 + e.val) = (k.val * 8 + q.val) * 192 + (128 + e.val)
    omega
  rw [← e]
  exact Att.fin_of_cmp (congrFun h (ix3 k q _))

/-- A normalised row is finite. -/
theorem row_fin (h0 : (fn (F := Ideal) x w g u cos sin).1 = fun _ => 1#1) (h1 : (fn (F := Ideal) x w g u cos sin).2.1 = fun _ => 1#1)
    (h2 : (fn (F := Ideal) x w g u cos sin).2.2.1 = fun _ => 1#1) (i : Fin 8192) (k : Fin 512) : Softmax.Fin' (row x w g i k) := by
  unfold row
  refine (unit_fin _ len512_pos _ (fun q => ?_) k).mul (g_fin x w g u cos sin h2 k)
  exact Softmax.Fin'.sum _ fun l => (x_fin x w g u cos sin h0 i l).mul (w_fin x w g u cos sin h1 l q)

/-- Under the precondition the two forms of the queries agree. -/
theorem karr_eq (h0 : (fn (F := Ideal) x w g u cos sin).1 = fun _ => 1#1) (h1 : (fn (F := Ideal) x w g u cos sin).2.1 = fun _ => 1#1)
    (h2 : (fn (F := Ideal) x w g u cos sin).2.2.1 = fun _ => 1#1) (h3 : (fn (F := Ideal) x w g u cos sin).2.2.2 = fun _ => 1#1) :
    karr x w g u cos sin = arr x w g u cos sin :=
  funext fun y => kelem_eq x w g u cos sin (y 0) (y 1) (row_fin x w g u cos sin h0 h1 h2 (y 0)) (u_fin x w g u cos sin h3)

end Cert.QPath

end
-- ==== Proof.QPath.Claims.lean ====
/-  The claims about the queries: the frames, and that kernel and reference end with the same array. -/
module

public import proofs.«01_k».proof.Defs
public import proofs.«01_k».proof.Proof.QPath.Whole
public import proofs.«01_k».proof.Proof.QPath.Reference
public import proofs.«01_k».proof.Proof.QPath.Finite
public import proofs.«01_k».proof.Proof.Gen.Kernel9.Frame
public import proofs.«01_k».proof.Proof.Gen.Reference9Ideal.Run
public import Idealize.ShloMosaic.Lib.Quiescent

@[expose] public section

noncomputable section

namespace Cert.QPath

open Idealize.ShloMosaic Idealize.SL.Sem

theorem frame : Cert.quiescent_Kernel9 := fun m ρ _ => Cert.Kernel9.Gen.frame m ρ

theorem frame_ideal : Cert.quiescent_Kernel9Ideal := fun m ρ _ => Cert.Kernel9Ideal.Gen.frame m ρ

theorem frame_ideal_pre [hPre_finite_query_inputs : Cert.Pre_finite_query_inputs.Facts] : Cert.quiescent_Kernel9Ideal_pre_finite_query_inputs :=
  fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frame_reference_pre [hPre_finite_query_inputs : Cert.Pre_finite_query_inputs.Facts] :
    Cert.quiescent_Reference9Ideal_pre_finite_query_inputs := fun m ρ _ => frame_reference m ρ trivial

/-- Kernel and reference, run from the same arguments, finite where the latents are formed, end with equal results. -/
theorem algebraic [hPre_finite_query_inputs : Cert.Pre_finite_query_inputs.Facts] :
    Cert.algebraic_Kernel9Ideal_Reference9Ideal_pre_finite_query_inputs := fun m ρ m' ρ' hpre hag =>
  ⟨fun c => arr (Cert.Kernel9Ideal.QPath.ax m c) (Cert.Kernel9Ideal.QPath.aw m c) (Cert.Kernel9Ideal.QPath.ag m c)
      (Cert.Kernel9Ideal.QPath.au m c) (Cert.Kernel9Ideal.QPath.acos m c) (Cert.Kernel9Ideal.QPath.asin m c),
    (θ_run Cert.Kernel9Ideal.defs _ _).mono (fun _ h c => ⟨(h c).1.trans ((Cert.Kernel9Ideal.QPath.final m c).trans
      (karr_eq _ _ _ _ _ _ (hpre c).1 (hpre c).2.1 (hpre c).2.2.1 (hpre c).2.2.2)), (h c).2⟩) (Cert.Kernel9Ideal.Value.run_blocks m ρ),
    (θ_run Cert.Reference9Ideal.defs _ _).mono (fun _ h c => ⟨(h c).1.trans ((Cert.Reference9Ideal.Read.val_main_v48_eq _ _).trans
      ((Reference.result _ _ _ _ _ _).trans
        (by rw [(hag c).1, (hag c).2.1, (hag c).2.2.1, (hag c).2.2.2.1, (hag c).2.2.2.2.1, (hag c).2.2.2.2.2]))), (h c).2⟩)
      (Cert.Reference9Ideal.Value.run m' ρ')⟩

end Cert.QPath

end
-- ==== Proof.lean ====
module

public import proofs.«01_k».proof.Defs
public import proofs.«01_k».proof.Proof.Att.Claims
public import proofs.«01_k».proof.Proof.FfnIn.Claims
public import proofs.«01_k».proof.Proof.FfnOut.Claims
public import proofs.«01_k».proof.Proof.Gates.Claims
public import proofs.«01_k».proof.Proof.KvPath.Claims
public import proofs.«01_k».proof.Proof.Merge.Claims
public import proofs.«01_k».proof.Proof.Mod.Claims
public import proofs.«01_k».proof.Proof.NormU.Claims
public import proofs.«01_k».proof.Proof.OutProj.Claims
public import proofs.«01_k».proof.Proof.QPath.Claims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Att.preFacts, Cert.QPath.preFacts, Cert.KvPath.preFacts,
    Cert.Att.frame,
    Cert.Att.frame_ideal,
    Cert.Att.frame_ideal_pre (hPre_finite_queries_and_keys := Cert.Att.preFacts),
    Cert.Att.frame_reference,
    Cert.Att.frame_reference_pre (hPre_finite_queries_and_keys := Cert.Att.preFacts),
    Cert.FfnIn.frame, Cert.FfnIn.frame_ideal, Cert.FfnIn.frame_reference,
    Cert.FfnOut.frame3, Cert.FfnOut.frame_ideal3, Cert.FfnOut.frame_reference3,
    Cert.Gates.frame, Cert.Gates.frame_ideal, Cert.Gates.frame_reference,
    Cert.Merge.frame, Cert.Merge.frame_ideal, Cert.Merge.frame_reference,
    Cert.OutProj.frame, Cert.OutProj.frame_ideal, Cert.OutProj.frame_reference,
    Cert.NormU.frame, Cert.NormU.frame_ideal, Cert.NormU.frame_reference,
    Cert.FfnOut.frame8, Cert.FfnOut.frame_ideal8, Cert.FfnOut.frame_reference8,
    Cert.QPath.frame,
    Cert.QPath.frame_ideal,
    Cert.QPath.frame_ideal_pre (hPre_finite_query_inputs := Cert.QPath.preFacts),
    Cert.QPath.frame_reference,
    Cert.QPath.frame_reference_pre (hPre_finite_query_inputs := Cert.QPath.preFacts),
    Cert.KvPath.frame,
    Cert.KvPath.frame_ideal,
    Cert.KvPath.frame_ideal_pre (hPre_finite_key_inputs := Cert.KvPath.preFacts),
    Cert.KvPath.frame_reference,
    Cert.KvPath.frame_reference_pre (hPre_finite_key_inputs := Cert.KvPath.preFacts),
    Cert.Mod.frame, Cert.Mod.frame_ideal, Cert.Mod.frame_reference,
    trivial,
    Cert.Att.algebraic (hPre_finite_queries_and_keys := Cert.Att.preFacts),
    trivial, Cert.FfnIn.algebraic,
    trivial, Cert.FfnOut.algebraic3,
    trivial, Cert.Gates.algebraic,
    trivial, Cert.Merge.algebraic,
    trivial, Cert.OutProj.algebraic,
    trivial, Cert.NormU.algebraic,
    trivial, Cert.FfnOut.algebraic8,
    trivial,
    Cert.QPath.algebraic (hPre_finite_query_inputs := Cert.QPath.preFacts),
    trivial,
    Cert.KvPath.algebraic (hPre_finite_key_inputs := Cert.KvPath.preFacts),
    trivial, Cert.Mod.algebraic⟩

end Cert.Proof

end
